-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 256]⟩ ⟨2, ![4096, 4096]⟩ 1 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![256, 2048]⟩ ⟨2, ![4096, 2048]⟩ 0 16 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![256, 2048]⟩ ⟨2, ![4096, 2048]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x256 : Shape := ⟨2, ![4096, 256]⟩
abbrev S256x2048 : Shape := ⟨2, ![256, 2048]⟩
abbrev S4x2x128x2048 : Shape := ⟨4, ![4, 2, 128, 2048]⟩
abbrev S1024x2048 : Shape := ⟨2, ![1024, 2048]⟩
abbrev S4x128x2048 : Shape := ⟨3, ![4, 128, 2048]⟩
abbrev S4x64x2048 : Shape := ⟨3, ![4, 64, 2048]⟩
abbrev S16x128 : Shape := ⟨2, ![16, 128]⟩
abbrev S3 : Shape := ⟨1, ![3]⟩
abbrev S16 : Shape := ⟨1, ![16]⟩
abbrev S_ : Shape := ⟨0, ![]⟩
abbrev S128x256 : Shape := ⟨2, ![128, 256]⟩
abbrev S128x2048 : Shape := ⟨2, ![128, 2048]⟩
abbrev S1x1x128x2048 : Shape := ⟨4, ![1, 1, 128, 2048]⟩
abbrev S1 : Shape := ⟨1, ![1]⟩
abbrev S1x2x128x2048 : Shape := ⟨4, ![1, 2, 128, 2048]⟩
abbrev S2x128x2048 : Shape := ⟨3, ![2, 128, 2048]⟩
abbrev S1x128x2048 : Shape := ⟨3, ![1, 128, 2048]⟩
abbrev S64x2048 : Shape := ⟨2, ![64, 2048]⟩
abbrev S1x64x2048 : Shape := ⟨3, ![1, 64, 2048]⟩
abbrev S1x1x1 : Shape := ⟨3, ![1, 1, 1]⟩
abbrev S128 : Shape := ⟨1, ![128]⟩
abbrev S1x128 : Shape := ⟨2, ![1, 128]⟩
abbrev S1x16x128 : Shape := ⟨3, ![1, 16, 128]⟩

abbrev nBuf : Space → Nat
  | .hbm => 3
  | .vmem => 13
  | .smem => 0
  | _ => 0

abbrev bufTy : (tb : Table) → Fin (tcTables nBuf tb) → BufTy
  | .hbm, ⟨0, _⟩ => ⟨S4096x256, .bf16⟩
  | .hbm, ⟨1, _⟩ => ⟨S256x2048, .bf16⟩
  | .hbm, ⟨2, _⟩ => ⟨S256x2048, .f32⟩
  | .local _ .vmem, ⟨0, _⟩ => ⟨S4096x256, .bf16⟩
  | .local _ .vmem, ⟨1, _⟩ => ⟨S256x2048, .bf16⟩
  | .local _ .vmem, ⟨2, _⟩ => ⟨S256x2048, .f32⟩
  | .local _ .vmem, ⟨3, _⟩ => ⟨S4x2x128x2048, .bf16⟩
  | .local _ .vmem, ⟨4, _⟩ => ⟨S4x2x128x2048, .bf16⟩
  | .local _ .vmem, ⟨5, _⟩ => ⟨S4x2x128x2048, .bf16⟩
  | .local _ .vmem, ⟨6, _⟩ => ⟨S4x2x128x2048, .bf16⟩
  | .local _ .vmem, ⟨7, _⟩ => ⟨S1024x2048, .f32⟩
  | .local _ .vmem, ⟨8, _⟩ => ⟨S4x128x2048, .bf16⟩
  | .local _ .vmem, ⟨9, _⟩ => ⟨S4x64x2048, .bf16⟩
  | .local _ .vmem, ⟨10, _⟩ => ⟨S4x64x2048, .bf16⟩
  | .local _ .vmem, ⟨11, _⟩ => ⟨S256x2048, .bf16⟩
  | .local _ .vmem, ⟨12, _⟩ => ⟨S16x128, .f32⟩
  | _, _ => ⟨S4096x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 1 → Bool
  | ⟨0, _⟩ => false
  | _ => false

abbrev dmaSemScoped : Fin 77 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | _ => false

abbrev sig : RefSig :=
  (ofTc nBuf bufTy 1 77 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_scratch5 : Ref sig .tc := ⟨.vmem, 8, rfl⟩
abbrev cc0_scratch6 : Ref sig .tc := ⟨.vmem, 9, rfl⟩
abbrev cc0_scratch7 : Ref sig .tc := ⟨.vmem, 10, rfl⟩
abbrev cc0_scratch8 : Ref sig .tc := ⟨.vmem, 11, rfl⟩
abbrev cc0_scratch9 : Ref sig .tc := ⟨.vmem, 12, rfl⟩
abbrev cc0_sem0_0 : DmaSem sig := 0
abbrev cc0_sem1_0 : DmaSem sig := 1
abbrev cc0_sem2_0 : DmaSem sig := 2
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_18 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_11 : BitVec 32 := 4#32
  let v29 : BitVec 32 := Scalar.addi v2 c4_i32_11
  let c16_i32_12 : BitVec 32 := 16#32
  let v30 : BitVec 32 := Scalar.remsi v29 c16_i32_12
  let c1_i32_17 : BitVec 32 := 1#32
  let v35 : BitVec 32 := Scalar.muli v30 c1_i32_17
  let v36 : BitVec 32 := Scalar.addi c0_i32_18 v35
  v36.toNat
def k0_dev2 (d0 : Dev nD) : Nat :=
  let c0_i32_21 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_13 : BitVec 32 := 16#32
  let v31 : BitVec 32 := Scalar.addi v2 c16_i32_13
  let c4_i32_14 : BitVec 32 := 4#32
  let v32 : BitVec 32 := Scalar.subi v31 c4_i32_14
  let c16_i32_15 : BitVec 32 := 16#32
  let v33 : BitVec 32 := Scalar.remsi v32 c16_i32_15
  let c1_i32_20 : BitVec 32 := 1#32
  let v37 : BitVec 32 := Scalar.muli v33 c1_i32_20
  let v38 : BitVec 32 := Scalar.addi c0_i32_21 v37
  v38.toNat
def k0_dev3 (d0 : Dev nD) : Nat :=
  let c0_i32_24 : BitVec 32 := 0#32
  let c4_i32_6 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v21 : BitVec 32 := Scalar.muli c4_i32_6 v19
  let c4_i32_5 : BitVec 32 := 4#32
  let v20 : BitVec 32 := Scalar.remsi v2 c4_i32_5
  let c1_i32_7 : BitVec 32 := 1#32
  let v22 : BitVec 32 := Scalar.addi v20 c1_i32_7
  let c4_i32_8 : BitVec 32 := 4#32
  let v23 : BitVec 32 := Scalar.remsi v22 c4_i32_8
  let v24 : BitVec 32 := Scalar.addi v21 v23
  let c1_i32_23 : BitVec 32 := 1#32
  let v39 : BitVec 32 := Scalar.muli v24 c1_i32_23
  let v40 : BitVec 32 := Scalar.addi c0_i32_24 v39
  v40.toNat
def k0_dev4 (d0 : Dev nD) : Nat :=
  let c0_i32_27 : BitVec 32 := 0#32
  let c4_i32_9 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v25 : BitVec 32 := Scalar.muli c4_i32_9 v19
  let c4_i32_5 : BitVec 32 := 4#32
  let v20 : BitVec 32 := Scalar.remsi v2 c4_i32_5
  let c3_i32 : BitVec 32 := 3#32
  let v26 : BitVec 32 := Scalar.addi v20 c3_i32
  let c4_i32_10 : BitVec 32 := 4#32
  let v27 : BitVec 32 := Scalar.remsi v26 c4_i32_10
  let v28 : BitVec 32 := Scalar.addi v25 v27
  let c1_i32_26 : BitVec 32 := 1#32
  let v41 : BitVec 32 := Scalar.muli v28 c1_i32_26
  let v42 : BitVec 32 := Scalar.addi c0_i32_27 v41
  v42.toNat
def k0_off1 (d0 : Dev nD) (c0_i32_34 : BitVec 32) (c3_i32_32 : BitVec 32) (c0_i32_35 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let v48 : BitVec 32 := Scalar.addi v20 c3_i32_32
  let c4_i32_33 : BitVec 32 := 4#32
  let v49 : BitVec 32 := Scalar.remsi v48 c4_i32_33
  let v50 : BitVec 32 := Scalar.addi c0_i32_34 v49
  let c256_i32 : BitVec 32 := 256#32
  let v51 : BitVec 32 := Scalar.muli v50 c256_i32
  let v52 : BitVec 32 := Scalar.addi v51 c0_i32_35
  let v53 : Index := Scalar.indexCast v52
  let c0_36 : Index := 0#32
  ![v53.toNat, 0]
def k0_off1_at (r : Fin 8) : BitVec 32 × BitVec 32 × BitVec 32 :=
  if r.val < 4 then
    if r.val < 2 then
      if r.val < 1 then
        (0#32, 3#32, 0#32)
      else
        (4#32, 3#32, 0#32)
    else
      if r.val < 3 then
        (8#32, 1#32, 0#32)
      else
        (12#32, 1#32, 0#32)
  else
    if r.val < 6 then
      if r.val < 5 then
        (0#32, 3#32, 128#32)
      else
        (4#32, 3#32, 128#32)
    else
      if r.val < 7 then
        (8#32, 1#32, 128#32)
      else
        (12#32, 1#32, 128#32)
def k0_dev5 (d0 : Dev nD) : Nat :=
  let c0_i32_80 : BitVec 32 := 0#32
  let c4_i32_6 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v21 : BitVec 32 := Scalar.muli c4_i32_6 v19
  let c4_i32_5 : BitVec 32 := 4#32
  let v20 : BitVec 32 := Scalar.remsi v2 c4_i32_5
  let c1_i32_7 : BitVec 32 := 1#32
  let v22 : BitVec 32 := Scalar.addi v20 c1_i32_7
  let c4_i32_8 : BitVec 32 := 4#32
  let v23 : BitVec 32 := Scalar.remsi v22 c4_i32_8
  let v24 : BitVec 32 := Scalar.addi v21 v23
  let c1_i32_79 : BitVec 32 := 1#32
  let v100 : BitVec 32 := Scalar.muli v24 c1_i32_79
  let v101 : BitVec 32 := Scalar.addi c0_i32_80 v100
  v101.toNat
def k0_dev6 (d0 : Dev nD) : Nat :=
  let c0_i32_92 : BitVec 32 := 0#32
  let c4_i32_9 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v25 : BitVec 32 := Scalar.muli c4_i32_9 v19
  let c4_i32_5 : BitVec 32 := 4#32
  let v20 : BitVec 32 := Scalar.remsi v2 c4_i32_5
  let c3_i32 : BitVec 32 := 3#32
  let v26 : BitVec 32 := Scalar.addi v20 c3_i32
  let c4_i32_10 : BitVec 32 := 4#32
  let v27 : BitVec 32 := Scalar.remsi v26 c4_i32_10
  let v28 : BitVec 32 := Scalar.addi v25 v27
  let c1_i32_91 : BitVec 32 := 1#32
  let v110 : BitVec 32 := Scalar.muli v28 c1_i32_91
  let v111 : BitVec 32 := Scalar.addi c0_i32_92 v110
  v111.toNat
def k0_off2 (d0 : Dev nD) (c0_i32_103 : BitVec 32) (c0_i32_99 : BitVec 32) (c0_i32_105 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c6_i32 : BitVec 32 := 6#32
  let v120 : BitVec 32 := Scalar.addi v20 c6_i32
  let v121 : BitVec 32 := Scalar.subi v120 c0_i32_99
  let c4_i32_100 : BitVec 32 := 4#32
  let v122 : BitVec 32 := Scalar.remsi v121 c4_i32_100
  let v126 : BitVec 32 := Scalar.addi c0_i32_103 v122
  let c256_i32_104 : BitVec 32 := 256#32
  let v127 : BitVec 32 := Scalar.muli v126 c256_i32_104
  let v128 : BitVec 32 := Scalar.addi v127 c0_i32_105
  let v129 : Index := Scalar.indexCast v128
  let c0_106 : Index := 0#32
  ![v129.toNat, 0]
def k0_off3 (d0 : Dev nD) (c8_i32_117 : BitVec 32) (c0_i32_101 : BitVec 32) (c0_i32_119 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c2_i32 : BitVec 32 := 2#32
  let v123 : BitVec 32 := Scalar.addi v20 c2_i32
  let v124 : BitVec 32 := Scalar.addi v123 c0_i32_101
  let c4_i32_102 : BitVec 32 := 4#32
  let v125 : BitVec 32 := Scalar.remsi v124 c4_i32_102
  let v142 : BitVec 32 := Scalar.addi c8_i32_117 v125
  let c256_i32_118 : BitVec 32 := 256#32
  let v143 : BitVec 32 := Scalar.muli v142 c256_i32_118
  let v144 : BitVec 32 := Scalar.addi v143 c0_i32_119
  let v145 : Index := Scalar.indexCast v144
  let c0_120 : Index := 0#32
  ![v145.toNat, 0]
def k0_dev7 (d0 : Dev nD) : Nat :=
  let c0_i32_164 : BitVec 32 := 0#32
  let c4_i32_6 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v21 : BitVec 32 := Scalar.muli c4_i32_6 v19
  let c4_i32_5 : BitVec 32 := 4#32
  let v20 : BitVec 32 := Scalar.remsi v2 c4_i32_5
  let c1_i32_7 : BitVec 32 := 1#32
  let v22 : BitVec 32 := Scalar.addi v20 c1_i32_7
  let c4_i32_8 : BitVec 32 := 4#32
  let v23 : BitVec 32 := Scalar.remsi v22 c4_i32_8
  let v24 : BitVec 32 := Scalar.addi v21 v23
  let c1_i32_163 : BitVec 32 := 1#32
  let v182 : BitVec 32 := Scalar.muli v24 c1_i32_163
  let v183 : BitVec 32 := Scalar.addi c0_i32_164 v182
  v183.toNat
def k0_dev8 (d0 : Dev nD) : Nat :=
  let c0_i32_204 : BitVec 32 := 0#32
  let c4_i32_9 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v25 : BitVec 32 := Scalar.muli c4_i32_9 v19
  let c4_i32_5 : BitVec 32 := 4#32
  let v20 : BitVec 32 := Scalar.remsi v2 c4_i32_5
  let c3_i32 : BitVec 32 := 3#32
  let v26 : BitVec 32 := Scalar.addi v20 c3_i32
  let c4_i32_10 : BitVec 32 := 4#32
  let v27 : BitVec 32 := Scalar.remsi v26 c4_i32_10
  let v28 : BitVec 32 := Scalar.addi v25 v27
  let c1_i32_203 : BitVec 32 := 1#32
  let v216 : BitVec 32 := Scalar.muli v28 c1_i32_203
  let v217 : BitVec 32 := Scalar.addi c0_i32_204 v216
  v217.toNat
def k0_dev9 (d0 : Dev nD) : Nat :=
  let c0_i32_277 : BitVec 32 := 0#32
  let c4_i32_6 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v21 : BitVec 32 := Scalar.muli c4_i32_6 v19
  let c4_i32_5 : BitVec 32 := 4#32
  let v20 : BitVec 32 := Scalar.remsi v2 c4_i32_5
  let c1_i32_7 : BitVec 32 := 1#32
  let v22 : BitVec 32 := Scalar.addi v20 c1_i32_7
  let c4_i32_8 : BitVec 32 := 4#32
  let v23 : BitVec 32 := Scalar.remsi v22 c4_i32_8
  let v24 : BitVec 32 := Scalar.addi v21 v23
  let c1_i32_276 : BitVec 32 := 1#32
  let v288 : BitVec 32 := Scalar.muli v24 c1_i32_276
  let v289 : BitVec 32 := Scalar.addi c0_i32_277 v288
  v289.toNat
def k0_dev10 (d0 : Dev nD) : Nat :=
  let c0_i32_317 : BitVec 32 := 0#32
  let c4_i32_9 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v25 : BitVec 32 := Scalar.muli c4_i32_9 v19
  let c4_i32_5 : BitVec 32 := 4#32
  let v20 : BitVec 32 := Scalar.remsi v2 c4_i32_5
  let c3_i32 : BitVec 32 := 3#32
  let v26 : BitVec 32 := Scalar.addi v20 c3_i32
  let c4_i32_10 : BitVec 32 := 4#32
  let v27 : BitVec 32 := Scalar.remsi v26 c4_i32_10
  let v28 : BitVec 32 := Scalar.addi v25 v27
  let c1_i32_316 : BitVec 32 := 1#32
  let v322 : BitVec 32 := Scalar.muli v28 c1_i32_316
  let v323 : BitVec 32 := Scalar.addi c0_i32_317 v322
  v323.toNat
def k0_off4 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_402 : BitVec 32 := 3#32
  let v414 : BitVec 32 := Scalar.addi v19 c3_i32_402
  let c4_i32_403 : BitVec 32 := 4#32
  let v415 : BitVec 32 := Scalar.remsi v414 c4_i32_403
  let c256_i32_404 : BitVec 32 := 256#32
  let v416 : BitVec 32 := Scalar.muli v415 c256_i32_404
  let c0_i32_405 : BitVec 32 := 0#32
  let v417 : BitVec 32 := Scalar.addi v416 c0_i32_405
  let v418 : Index := Scalar.indexCast v417
  let c0_406 : Index := 0#32
  ![v418.toNat, 0]
def k0_dev11 (d0 : Dev nD) : Nat :=
  let c0_i32_415 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_11 : BitVec 32 := 4#32
  let v29 : BitVec 32 := Scalar.addi v2 c4_i32_11
  let c16_i32_12 : BitVec 32 := 16#32
  let v30 : BitVec 32 := Scalar.remsi v29 c16_i32_12
  let c1_i32_414 : BitVec 32 := 1#32
  let v424 : BitVec 32 := Scalar.muli v30 c1_i32_414
  let v425 : BitVec 32 := Scalar.addi c0_i32_415 v424
  v425.toNat
def k0_dev12 (d0 : Dev nD) : Nat :=
  let c0_i32_472 : BitVec 32 := 0#32
  let c4_i32_6 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v21 : BitVec 32 := Scalar.muli c4_i32_6 v19
  let c4_i32_5 : BitVec 32 := 4#32
  let v20 : BitVec 32 := Scalar.remsi v2 c4_i32_5
  let c1_i32_7 : BitVec 32 := 1#32
  let v22 : BitVec 32 := Scalar.addi v20 c1_i32_7
  let c4_i32_8 : BitVec 32 := 4#32
  let v23 : BitVec 32 := Scalar.remsi v22 c4_i32_8
  let v24 : BitVec 32 := Scalar.addi v21 v23
  let c1_i32_471 : BitVec 32 := 1#32
  let v486 : BitVec 32 := Scalar.muli v24 c1_i32_471
  let v487 : BitVec 32 := Scalar.addi c0_i32_472 v486
  v487.toNat
def k0_dev13 (d0 : Dev nD) : Nat :=
  let c0_i32_484 : BitVec 32 := 0#32
  let c4_i32_9 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v25 : BitVec 32 := Scalar.muli c4_i32_9 v19
  let c4_i32_5 : BitVec 32 := 4#32
  let v20 : BitVec 32 := Scalar.remsi v2 c4_i32_5
  let c3_i32 : BitVec 32 := 3#32
  let v26 : BitVec 32 := Scalar.addi v20 c3_i32
  let c4_i32_10 : BitVec 32 := 4#32
  let v27 : BitVec 32 := Scalar.remsi v26 c4_i32_10
  let v28 : BitVec 32 := Scalar.addi v25 v27
  let c1_i32_483 : BitVec 32 := 1#32
  let v496 : BitVec 32 := Scalar.muli v28 c1_i32_483
  let v497 : BitVec 32 := Scalar.addi c0_i32_484 v496
  v497.toNat
def k0_off5 (d0 : Dev nD) (c0_i32_536 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c6_i32_535 : BitVec 32 := 6#32
  let v552 : BitVec 32 := Scalar.addi v19 c6_i32_535
  let v553 : BitVec 32 := Scalar.subi v552 c0_i32_536
  let c4_i32_537 : BitVec 32 := 4#32
  let v554 : BitVec 32 := Scalar.remsi v553 c4_i32_537
  let c256_i32_538 : BitVec 32 := 256#32
  let v555 : BitVec 32 := Scalar.muli v554 c256_i32_538
  let c0_i32_539 : BitVec 32 := 0#32
  let v556 : BitVec 32 := Scalar.addi v555 c0_i32_539
  let v557 : Index := Scalar.indexCast v556
  let c0_540 : Index := 0#32
  ![v557.toNat, 0]
def k0_dev14 (d0 : Dev nD) : Nat :=
  let c0_i32_552 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_11 : BitVec 32 := 4#32
  let v29 : BitVec 32 := Scalar.addi v2 c4_i32_11
  let c16_i32_12 : BitVec 32 := 16#32
  let v30 : BitVec 32 := Scalar.remsi v29 c16_i32_12
  let c1_i32_551 : BitVec 32 := 1#32
  let v567 : BitVec 32 := Scalar.muli v30 c1_i32_551
  let v568 : BitVec 32 := Scalar.addi c0_i32_552 v567
  v568.toNat
def k0_dev15 (d0 : Dev nD) : Nat :=
  let c0_i32_590 : BitVec 32 := 0#32
  let c4_i32_6 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v21 : BitVec 32 := Scalar.muli c4_i32_6 v19
  let c4_i32_5 : BitVec 32 := 4#32
  let v20 : BitVec 32 := Scalar.remsi v2 c4_i32_5
  let c1_i32_7 : BitVec 32 := 1#32
  let v22 : BitVec 32 := Scalar.addi v20 c1_i32_7
  let c4_i32_8 : BitVec 32 := 4#32
  let v23 : BitVec 32 := Scalar.remsi v22 c4_i32_8
  let v24 : BitVec 32 := Scalar.addi v21 v23
  let c1_i32_589 : BitVec 32 := 1#32
  let v601 : BitVec 32 := Scalar.muli v24 c1_i32_589
  let v602 : BitVec 32 := Scalar.addi c0_i32_590 v601
  v602.toNat
def k0_dev16 (d0 : Dev nD) : Nat :=
  let c0_i32_630 : BitVec 32 := 0#32
  let c4_i32_9 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v25 : BitVec 32 := Scalar.muli c4_i32_9 v19
  let c4_i32_5 : BitVec 32 := 4#32
  let v20 : BitVec 32 := Scalar.remsi v2 c4_i32_5
  let c3_i32 : BitVec 32 := 3#32
  let v26 : BitVec 32 := Scalar.addi v20 c3_i32
  let c4_i32_10 : BitVec 32 := 4#32
  let v27 : BitVec 32 := Scalar.remsi v26 c4_i32_10
  let v28 : BitVec 32 := Scalar.addi v25 v27
  let c1_i32_629 : BitVec 32 := 1#32
  let v635 : BitVec 32 := Scalar.muli v28 c1_i32_629
  let v636 : BitVec 32 := Scalar.addi c0_i32_630 v635
  v636.toNat
def k0_dev17 (d0 : Dev nD) : Nat :=
  let c0_i32_698 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_11 : BitVec 32 := 4#32
  let v29 : BitVec 32 := Scalar.addi v2 c4_i32_11
  let c16_i32_12 : BitVec 32 := 16#32
  let v30 : BitVec 32 := Scalar.remsi v29 c16_i32_12
  let c1_i32_697 : BitVec 32 := 1#32
  let v706 : BitVec 32 := Scalar.muli v30 c1_i32_697
  let v707 : BitVec 32 := Scalar.addi c0_i32_698 v706
  v707.toNat
def k0_dev18 (d0 : Dev nD) : Nat :=
  let c0_i32_736 : BitVec 32 := 0#32
  let c4_i32_6 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v21 : BitVec 32 := Scalar.muli c4_i32_6 v19
  let c4_i32_5 : BitVec 32 := 4#32
  let v20 : BitVec 32 := Scalar.remsi v2 c4_i32_5
  let c1_i32_7 : BitVec 32 := 1#32
  let v22 : BitVec 32 := Scalar.addi v20 c1_i32_7
  let c4_i32_8 : BitVec 32 := 4#32
  let v23 : BitVec 32 := Scalar.remsi v22 c4_i32_8
  let v24 : BitVec 32 := Scalar.addi v21 v23
  let c1_i32_735 : BitVec 32 := 1#32
  let v740 : BitVec 32 := Scalar.muli v24 c1_i32_735
  let v741 : BitVec 32 := Scalar.addi c0_i32_736 v740
  v741.toNat
def k0_dev19 (d0 : Dev nD) : Nat :=
  let c0_i32_776 : BitVec 32 := 0#32
  let c4_i32_9 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v25 : BitVec 32 := Scalar.muli c4_i32_9 v19
  let c4_i32_5 : BitVec 32 := 4#32
  let v20 : BitVec 32 := Scalar.remsi v2 c4_i32_5
  let c3_i32 : BitVec 32 := 3#32
  let v26 : BitVec 32 := Scalar.addi v20 c3_i32
  let c4_i32_10 : BitVec 32 := 4#32
  let v27 : BitVec 32 := Scalar.remsi v26 c4_i32_10
  let v28 : BitVec 32 := Scalar.addi v25 v27
  let c1_i32_775 : BitVec 32 := 1#32
  let v774 : BitVec 32 := Scalar.muli v28 c1_i32_775
  let v775 : BitVec 32 := Scalar.addi c0_i32_776 v774
  v775.toNat
def k0_off6 (d0 : Dev nD) (c3_i32_882 : BitVec 32) (c128_i32_885 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v886 : BitVec 32 := Scalar.addi v19 c3_i32_882
  let c4_i32_883 : BitVec 32 := 4#32
  let v887 : BitVec 32 := Scalar.remsi v886 c4_i32_883
  let c256_i32_884 : BitVec 32 := 256#32
  let v888 : BitVec 32 := Scalar.muli v887 c256_i32_884
  let v889 : BitVec 32 := Scalar.addi v888 c128_i32_885
  let v890 : Index := Scalar.indexCast v889
  let c0_886 : Index := 0#32
  ![v890.toNat, 0]
def k0_off6_at (r : Fin 2) : BitVec 32 × BitVec 32 :=
  if r.val < 1 then
    (3#32, 128#32)
  else
    (1#32, 192#32)
def k0_dev20 (d0 : Dev nD) : Nat :=
  let c0_i32_902 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_11 : BitVec 32 := 4#32
  let v29 : BitVec 32 := Scalar.addi v2 c4_i32_11
  let c16_i32_12 : BitVec 32 := 16#32
  let v30 : BitVec 32 := Scalar.remsi v29 c16_i32_12
  let c1_i32_901 : BitVec 32 := 1#32
  let v906 : BitVec 32 := Scalar.muli v30 c1_i32_901
  let v907 : BitVec 32 := Scalar.addi c0_i32_902 v906
  v907.toNat
def k0_dev21 (d0 : Dev nD) : Nat :=
  let c0_i32_912 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_13 : BitVec 32 := 16#32
  let v31 : BitVec 32 := Scalar.addi v2 c16_i32_13
  let c4_i32_14 : BitVec 32 := 4#32
  let v32 : BitVec 32 := Scalar.subi v31 c4_i32_14
  let c16_i32_15 : BitVec 32 := 16#32
  let v33 : BitVec 32 := Scalar.remsi v32 c16_i32_15
  let c1_i32_911 : BitVec 32 := 1#32
  let v916 : BitVec 32 := Scalar.muli v33 c1_i32_911
  let v917 : BitVec 32 := Scalar.addi c0_i32_912 v916
  v917.toNat
def k0_off7 (d0 : Dev nD) (c0_i32_931 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c6_i32_930 : BitVec 32 := 6#32
  let v941 : BitVec 32 := Scalar.addi v19 c6_i32_930
  let v942 : BitVec 32 := Scalar.subi v941 c0_i32_931
  let c4_i32_932 : BitVec 32 := 4#32
  let v943 : BitVec 32 := Scalar.remsi v942 c4_i32_932
  let c256_i32_933 : BitVec 32 := 256#32
  let v944 : BitVec 32 := Scalar.muli v943 c256_i32_933
  let c128_i32_934 : BitVec 32 := 128#32
  let v945 : BitVec 32 := Scalar.addi v944 c128_i32_934
  let v946 : Index := Scalar.indexCast v945
  let c0_935 : Index := 0#32
  ![v946.toNat, 0]
def k0_dev22 (d0 : Dev nD) : Nat :=
  let c0_i32_947 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_11 : BitVec 32 := 4#32
  let v29 : BitVec 32 := Scalar.addi v2 c4_i32_11
  let c16_i32_12 : BitVec 32 := 16#32
  let v30 : BitVec 32 := Scalar.remsi v29 c16_i32_12
  let c1_i32_946 : BitVec 32 := 1#32
  let v956 : BitVec 32 := Scalar.muli v30 c1_i32_946
  let v957 : BitVec 32 := Scalar.addi c0_i32_947 v956
  v957.toNat
def k0_off8 (d0 : Dev nD) (c0_i32_963 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_962 : BitVec 32 := 2#32
  let v974 : BitVec 32 := Scalar.addi v19 c2_i32_962
  let v975 : BitVec 32 := Scalar.addi v974 c0_i32_963
  let c4_i32_964 : BitVec 32 := 4#32
  let v976 : BitVec 32 := Scalar.remsi v975 c4_i32_964
  let c256_i32_965 : BitVec 32 := 256#32
  let v977 : BitVec 32 := Scalar.muli v976 c256_i32_965
  let c192_i32_966 : BitVec 32 := 192#32
  let v978 : BitVec 32 := Scalar.addi v977 c192_i32_966
  let v979 : Index := Scalar.indexCast v978
  let c0_967 : Index := 0#32
  ![v979.toNat, 0]
def k0_dev23 (d0 : Dev nD) : Nat :=
  let c0_i32_979 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_13 : BitVec 32 := 16#32
  let v31 : BitVec 32 := Scalar.addi v2 c16_i32_13
  let c4_i32_14 : BitVec 32 := 4#32
  let v32 : BitVec 32 := Scalar.subi v31 c4_i32_14
  let c16_i32_15 : BitVec 32 := 16#32
  let v33 : BitVec 32 := Scalar.remsi v32 c16_i32_15
  let c1_i32_978 : BitVec 32 := 1#32
  let v989 : BitVec 32 := Scalar.muli v33 c1_i32_978
  let v990 : BitVec 32 := Scalar.addi c0_i32_979 v989
  v990.toNat
def k0_dev24 (d0 : Dev nD) : Nat :=
  let c0_i32_1011 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_11 : BitVec 32 := 4#32
  let v29 : BitVec 32 := Scalar.addi v2 c4_i32_11
  let c16_i32_12 : BitVec 32 := 16#32
  let v30 : BitVec 32 := Scalar.remsi v29 c16_i32_12
  let c1_i32_1010 : BitVec 32 := 1#32
  let v1022 : BitVec 32 := Scalar.muli v30 c1_i32_1010
  let v1023 : BitVec 32 := Scalar.addi c0_i32_1011 v1022
  v1023.toNat
def k0_dev25 (d0 : Dev nD) : Nat :=
  let c0_i32_1043 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_13 : BitVec 32 := 16#32
  let v31 : BitVec 32 := Scalar.addi v2 c16_i32_13
  let c4_i32_14 : BitVec 32 := 4#32
  let v32 : BitVec 32 := Scalar.subi v31 c4_i32_14
  let c16_i32_15 : BitVec 32 := 16#32
  let v33 : BitVec 32 := Scalar.remsi v32 c16_i32_15
  let c1_i32_1042 : BitVec 32 := 1#32
  let v1055 : BitVec 32 := Scalar.muli v33 c1_i32_1042
  let v1056 : BitVec 32 := Scalar.addi c0_i32_1043 v1055
  v1056.toNat
def k0_dev26 (d0 : Dev nD) : Nat :=
  let c0_i32_1098 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1094 : BitVec 32 := 1#32
  let v1117 : BitVec 32 := Scalar.addi v2 c1_i32_1094
  let c16_i32_1095 : BitVec 32 := 16#32
  let v1118 : BitVec 32 := Scalar.remsi v1117 c16_i32_1095
  let c1_i32_1097 : BitVec 32 := 1#32
  let v1119 : BitVec 32 := Scalar.muli v1118 c1_i32_1097
  let v1120 : BitVec 32 := Scalar.addi c0_i32_1098 v1119
  v1120.toNat
def k0_dev27 (d0 : Dev nD) : Nat :=
  let c0_i32_1107 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_1103 : BitVec 32 := 2#32
  let v1127 : BitVec 32 := Scalar.addi v2 c2_i32_1103
  let c16_i32_1104 : BitVec 32 := 16#32
  let v1128 : BitVec 32 := Scalar.remsi v1127 c16_i32_1104
  let c1_i32_1106 : BitVec 32 := 1#32
  let v1129 : BitVec 32 := Scalar.muli v1128 c1_i32_1106
  let v1130 : BitVec 32 := Scalar.addi c0_i32_1107 v1129
  v1130.toNat
def k0_dev28 (d0 : Dev nD) : Nat :=
  let c0_i32_1116 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_1112 : BitVec 32 := 3#32
  let v1137 : BitVec 32 := Scalar.addi v2 c3_i32_1112
  let c16_i32_1113 : BitVec 32 := 16#32
  let v1138 : BitVec 32 := Scalar.remsi v1137 c16_i32_1113
  let c1_i32_1115 : BitVec 32 := 1#32
  let v1139 : BitVec 32 := Scalar.muli v1138 c1_i32_1115
  let v1140 : BitVec 32 := Scalar.addi c0_i32_1116 v1139
  v1140.toNat
def k0_dev29 (d0 : Dev nD) : Nat :=
  let c0_i32_1126 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_1121 : BitVec 32 := 4#32
  let v1147 : BitVec 32 := Scalar.addi v2 c4_i32_1121
  let c16_i32_1122 : BitVec 32 := 16#32
  let v1148 : BitVec 32 := Scalar.remsi v1147 c16_i32_1122
  let c1_i32_1125 : BitVec 32 := 1#32
  let v1149 : BitVec 32 := Scalar.muli v1148 c1_i32_1125
  let v1150 : BitVec 32 := Scalar.addi c0_i32_1126 v1149
  v1150.toNat
def k0_dev30 (d0 : Dev nD) : Nat :=
  let c0_i32_1134 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v1157 : BitVec 32 := Scalar.addi v2 c5_i32
  let c16_i32_1131 : BitVec 32 := 16#32
  let v1158 : BitVec 32 := Scalar.remsi v1157 c16_i32_1131
  let c1_i32_1133 : BitVec 32 := 1#32
  let v1159 : BitVec 32 := Scalar.muli v1158 c1_i32_1133
  let v1160 : BitVec 32 := Scalar.addi c0_i32_1134 v1159
  v1160.toNat
def k0_dev31 (d0 : Dev nD) : Nat :=
  let c0_i32_1143 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_1139 : BitVec 32 := 6#32
  let v1167 : BitVec 32 := Scalar.addi v2 c6_i32_1139
  let c16_i32_1140 : BitVec 32 := 16#32
  let v1168 : BitVec 32 := Scalar.remsi v1167 c16_i32_1140
  let c1_i32_1142 : BitVec 32 := 1#32
  let v1169 : BitVec 32 := Scalar.muli v1168 c1_i32_1142
  let v1170 : BitVec 32 := Scalar.addi c0_i32_1143 v1169
  v1170.toNat
def k0_dev32 (d0 : Dev nD) : Nat :=
  let c0_i32_1151 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v1177 : BitVec 32 := Scalar.addi v2 c7_i32
  let c16_i32_1148 : BitVec 32 := 16#32
  let v1178 : BitVec 32 := Scalar.remsi v1177 c16_i32_1148
  let c1_i32_1150 : BitVec 32 := 1#32
  let v1179 : BitVec 32 := Scalar.muli v1178 c1_i32_1150
  let v1180 : BitVec 32 := Scalar.addi c0_i32_1151 v1179
  v1180.toNat
def k0_dev33 (d0 : Dev nD) : Nat :=
  let c0_i32_1161 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_1156 : BitVec 32 := 8#32
  let v1187 : BitVec 32 := Scalar.addi v2 c8_i32_1156
  let c16_i32_1157 : BitVec 32 := 16#32
  let v1188 : BitVec 32 := Scalar.remsi v1187 c16_i32_1157
  let c1_i32_1160 : BitVec 32 := 1#32
  let v1189 : BitVec 32 := Scalar.muli v1188 c1_i32_1160
  let v1190 : BitVec 32 := Scalar.addi c0_i32_1161 v1189
  v1190.toNat
def k0_dev34 (d0 : Dev nD) : Nat :=
  let c0_i32_1171 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_1166 : BitVec 32 := 9#32
  let v1197 : BitVec 32 := Scalar.addi v2 c9_i32_1166
  let c16_i32_1167 : BitVec 32 := 16#32
  let v1198 : BitVec 32 := Scalar.remsi v1197 c16_i32_1167
  let c1_i32_1170 : BitVec 32 := 1#32
  let v1199 : BitVec 32 := Scalar.muli v1198 c1_i32_1170
  let v1200 : BitVec 32 := Scalar.addi c0_i32_1171 v1199
  v1200.toNat
def k0_dev35 (d0 : Dev nD) : Nat :=
  let c0_i32_1181 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_1176 : BitVec 32 := 10#32
  let v1207 : BitVec 32 := Scalar.addi v2 c10_i32_1176
  let c16_i32_1177 : BitVec 32 := 16#32
  let v1208 : BitVec 32 := Scalar.remsi v1207 c16_i32_1177
  let c1_i32_1180 : BitVec 32 := 1#32
  let v1209 : BitVec 32 := Scalar.muli v1208 c1_i32_1180
  let v1210 : BitVec 32 := Scalar.addi c0_i32_1181 v1209
  v1210.toNat
def k0_dev36 (d0 : Dev nD) : Nat :=
  let c0_i32_1191 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_1186 : BitVec 32 := 11#32
  let v1217 : BitVec 32 := Scalar.addi v2 c11_i32_1186
  let c16_i32_1187 : BitVec 32 := 16#32
  let v1218 : BitVec 32 := Scalar.remsi v1217 c16_i32_1187
  let c1_i32_1190 : BitVec 32 := 1#32
  let v1219 : BitVec 32 := Scalar.muli v1218 c1_i32_1190
  let v1220 : BitVec 32 := Scalar.addi c0_i32_1191 v1219
  v1220.toNat
def k0_dev37 (d0 : Dev nD) : Nat :=
  let c0_i32_1201 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_1196 : BitVec 32 := 12#32
  let v1227 : BitVec 32 := Scalar.addi v2 c12_i32_1196
  let c16_i32_1197 : BitVec 32 := 16#32
  let v1228 : BitVec 32 := Scalar.remsi v1227 c16_i32_1197
  let c1_i32_1200 : BitVec 32 := 1#32
  let v1229 : BitVec 32 := Scalar.muli v1228 c1_i32_1200
  let v1230 : BitVec 32 := Scalar.addi c0_i32_1201 v1229
  v1230.toNat
def k0_dev38 (d0 : Dev nD) : Nat :=
  let c0_i32_1211 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_1206 : BitVec 32 := 13#32
  let v1237 : BitVec 32 := Scalar.addi v2 c13_i32_1206
  let c16_i32_1207 : BitVec 32 := 16#32
  let v1238 : BitVec 32 := Scalar.remsi v1237 c16_i32_1207
  let c1_i32_1210 : BitVec 32 := 1#32
  let v1239 : BitVec 32 := Scalar.muli v1238 c1_i32_1210
  let v1240 : BitVec 32 := Scalar.addi c0_i32_1211 v1239
  v1240.toNat
def k0_dev39 (d0 : Dev nD) : Nat :=
  let c0_i32_1221 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_1216 : BitVec 32 := 14#32
  let v1247 : BitVec 32 := Scalar.addi v2 c14_i32_1216
  let c16_i32_1217 : BitVec 32 := 16#32
  let v1248 : BitVec 32 := Scalar.remsi v1247 c16_i32_1217
  let c1_i32_1220 : BitVec 32 := 1#32
  let v1249 : BitVec 32 := Scalar.muli v1248 c1_i32_1220
  let v1250 : BitVec 32 := Scalar.addi c0_i32_1221 v1249
  v1250.toNat
def k0_dev40 (d0 : Dev nD) : Nat :=
  let c0_i32_1231 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_1226 : BitVec 32 := 15#32
  let v1257 : BitVec 32 := Scalar.addi v2 c15_i32_1226
  let c16_i32_1227 : BitVec 32 := 16#32
  let v1258 : BitVec 32 := Scalar.remsi v1257 c16_i32_1227
  let c1_i32_1230 : BitVec 32 := 1#32
  let v1259 : BitVec 32 := Scalar.muli v1258 c1_i32_1230
  let v1260 : BitVec 32 := Scalar.addi c0_i32_1231 v1259
  v1260.toNat
abbrev stage0_0 : Fin 1 → Memref sig .tc .vmem S4096x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S1x4096x2048 : Shape := ⟨3, ![1, 4096, 2048]⟩
abbrev S1 : Shape := ⟨1, ![1]⟩
abbrev S1x1x1 : Shape := ⟨3, ![1, 1, 1]⟩

abbrev nBuf : Space → Nat
  | .hbm => 3
  | .vmem => 3
  | .smem => 0
  | _ => 0

abbrev bufTy : (tb : Table) → Fin (tcTables nBuf tb) → BufTy
  | .hbm, ⟨0, _⟩ => ⟨S4096x4096, .bf16⟩
  | .hbm, ⟨1, _⟩ => ⟨S4096x2048, .bf16⟩
  | .hbm, ⟨2, _⟩ => ⟨S4096x2048, .f32⟩
  | .local _ .vmem, ⟨0, _⟩ => ⟨S4096x4096, .bf16⟩
  | .local _ .vmem, ⟨1, _⟩ => ⟨S4096x2048, .bf16⟩
  | .local _ .vmem, ⟨2, _⟩ => ⟨S4096x2048, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S4096x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Proof.Vals.lean ====
/-
  The values the kernel computes, at every device, in closed form over any float values: the ring positions, the partial
  products, the running sums of each ring, the local maxima and the result. No logic here: only functions.
-/
module

public import proofs.«01_k».proof.Proof.Gen.KernelIdeal.Skeleton
public import Idealize.ShloMosaic.Lib.ValueIdxCore

@[expose] public section

noncomputable section

namespace Cert.K01

open Cert.KernelIdeal Cert.KernelIdeal.Gen
open Idealize.ShloMosaic Idealize.ShloMosaic.ValueIdx

/-! ## The mesh: device `4 p + q` -/

/-- The right neighbour inside a plane (`q + 1`). -/
def rt (c : Dev nD) : Dev nD := ⟨4 * (c.val / 4) + (c.val % 4 + 1) % 4, by have := c.isLt; revert this; generalize c.val = v; decide +revert⟩
/-- The left neighbour inside a plane (`q - 1`). -/
def lf (c : Dev nD) : Dev nD := ⟨4 * (c.val / 4) + (c.val % 4 + 3) % 4, by have := c.isLt; revert this; generalize c.val = v; decide +revert⟩
/-- The device `k` places further on the ring of all sixteen. -/
def fwd (k : ℕ) (c : Dev nD) : Dev nD := ⟨(c.val + k) % 16, Nat.mod_lt _ (by decide)⟩
/-- The same place one plane up (`p + 1`). -/
abbrev up (c : Dev nD) : Dev nD := fwd 4 c
/-- The same place one plane down (`p - 1`). -/
abbrev dn (c : Dev nD) : Dev nD := fwd 12 c

theorem lf_rt (c : Dev nD) : lf (rt c) = c := by revert c; decide
theorem rt_lf (c : Dev nD) : rt (lf c) = c := by revert c; decide
theorem dn_up (c : Dev nD) : dn (up c) = c := by revert c; decide
theorem up_dn (c : Dev nD) : up (dn c) = c := by revert c; decide

variable {F : FTy → Type} [FloatOps F]

/-! ## Reading rows and slots -/

/-- Rows `r …` of a matrix (row numbers taken modulo its height). -/
def rows {α : Type} {m n : ℕ} [NeZero m] (k : ℕ) (X : (⟨2, ![m, n]⟩ : Shape).Idx → α) (r : ℕ) : (⟨2, ![k, n]⟩ : Shape).Idx → α :=
  fun i => X (ix2 ⟨(r + (i 0).val) % m, Nat.mod_lt _ (Nat.pos_of_ne_zero (NeZero.ne m))⟩ (i 1))

/-- A four-axis buffer all of whose leading entries hold the one slab `v`. -/
def X4 {α : Type} (v : S1x1x128x2048.Idx → α) : S4x2x128x2048.Idx → α := fun i => v (ix4 0 0 (i 2) (i 3))

/-- A three-axis buffer all of whose leading entries hold the one slab `v`. -/
def X3 {α : Type} {n : ℕ} (v : (⟨3, ![1, n, 2048]⟩ : Shape).Idx → α) : (⟨3, ![4, n, 2048]⟩ : Shape).Idx → α :=
  fun i => v (ix3 0 (i 1) (i 2))

section Values

variable (x : Dev nD → Vec F S4096x256 .bf16) (w : Dev nD → Vec F S256x2048 .bf16)

/-- The weights as the kernel keeps them. -/
def wb (c : Dev nD) : Vec F S256x2048 .bf16 := k0_pay1 (w c)
/-- Rows `r …` of the activations. -/
def xr (c : Dev nD) (r : ℕ) : Vec F S128x256 .bf16 := rows 128 (x c) r
/-- The partial product of 128 rows at device `c`. -/
def prt (c : Dev nD) (r : ℕ) : FVec F S128x2048 .f32 := k0_pay7 (xr x c r) (wb w c)
/-- The first row of half `h` of chunk `k` of block `b`. -/
def rw4 (b k h : ℕ) : ℕ := 256 * (4 * b + k % 4) + 128 * h

/-- What device `c` sends to the right at step `s` for block `b` of half `h`. -/
def cwU (h : ℕ) : ℕ → Dev nD → ℕ → Vec F S1x1x128x2048 .bf16
  | 0, c, b => k0_pay4 (xr x c (rw4 b (c.val % 4 + 3) h)) (wb w c)
  | s + 1, c, b => k0_pay12 (prt x w c (rw4 b (c.val % 4 + (6 - s)) h)) (cwU h s (lf c) b)
/-- What device `c` sends to the left at step `s` for block `b + 2` of half `h`. -/
def ccwU (h : ℕ) : ℕ → Dev nD → ℕ → Vec F S1x1x128x2048 .bf16
  | 0, c, b => k0_pay4 (xr x c (rw4 (b + 2) (c.val % 4 + 1) h)) (wb w c)
  | s + 1, c, b => k0_pay12 (prt x w c (rw4 (b + 2) (c.val % 4 + (2 + s)) h)) (ccwU h s (rt c) b)
/-- The finished in-plane sum of block `b` arriving from the left. -/
def cwA (h : ℕ) (c : Dev nD) (b : ℕ) : FVec F S128x2048 .f32 :=
  k0_pay30 (prt x w c (rw4 b (c.val % 4 + 4) h)) (cwU x w h 2 (lf c) b)
/-- The finished in-plane sum of block `b + 2` arriving from the right. -/
def ccwA (h : ℕ) (c : Dev nD) (b : ℕ) : FVec F S128x2048 .f32 :=
  k0_pay30 (prt x w c (rw4 (b + 2) (c.val % 4 + 4) h)) (ccwU x w h 2 (rt c) b)
/-- The in-plane sum of half `h` of block `b`. -/
def psA (c : Dev nD) (b h : ℕ) : FVec F S128x2048 .f32 := if b < 2 then cwA x w h c b else ccwA x w h c (b - 2)
/-- The in-plane sums of device `c`, all 1024 rows. -/
def PS (c : Dev nD) : S1024x2048.Idx → Elt F .f32 :=
  fun i => psA x w c ((i 0).val / 256) ((i 0).val % 256 / 128) (ix2 ⟨(i 0).val % 128, Nat.mod_lt _ (by decide)⟩ (i 1))

/-- What device `c` sends up at step `s` of the first half's ring. -/
def ztU : ℕ → Dev nD → Vec F S1x128x2048 .bf16
  | 0, c => k0_pay34 (rows 128 (PS x w c) (256 * ((c.val / 4 + 3) % 4)))
  | s + 1, c => k0_pay44 (rows 128 (PS x w c) (256 * ((c.val / 4 + (6 - s)) % 4))) (ztU s (dn c))
/-- What device `c` sends up at step `s` of the third quarter's ring. -/
def zuU : ℕ → Dev nD → Vec F S1x64x2048 .bf16
  | 0, c => k0_pay71 (rows 64 (PS x w c) (256 * ((c.val / 4 + 3) % 4) + 128))
  | s + 1, c => k0_pay74 (rows 64 (PS x w c) (256 * ((c.val / 4 + (6 - s)) % 4) + 128)) (zuU s (dn c))
/-- What device `c` sends down at step `s` of the last quarter's ring. -/
def zdU : ℕ → Dev nD → Vec F S1x64x2048 .bf16
  | 0, c => k0_pay71 (rows 64 (PS x w c) (256 * ((c.val / 4 + 1) % 4) + 192))
  | s + 1, c => k0_pay74 (rows 64 (PS x w c) (256 * ((c.val / 4 + (2 + s)) % 4) + 192)) (zdU s (up c))

/-- The finished sums: the first half, -/
def ztA (c : Dev nD) : FVec F S128x2048 .f32 :=
  k0_pay64 (rows 128 (PS x w c) (256 * ((c.val / 4 + 4) % 4))) (ztU x w 2 (dn c))
/-- the third quarter, -/
def zuA (c : Dev nD) : FVec F S64x2048 .f32 :=
  k0_pay78 (rows 64 (PS x w c) (256 * ((c.val / 4 + 4) % 4) + 128)) (zuU x w 2 (dn c))
/-- the last quarter. -/
def zdA (c : Dev nD) : FVec F S64x2048 .f32 :=
  k0_pay78 (rows 64 (PS x w c) (256 * ((c.val / 4 + 4) % 4) + 192)) (zdU x w 2 (up c))

/-- The finished product rows of device `c`, before they are quantised. -/
def Y (c : Dev nD) : S256x2048.Idx → Elt F .f32 := fun i =>
  if (i 0).val < 128 then ztA x w c (ix2 ⟨(i 0).val % 128, Nat.mod_lt _ (by decide)⟩ (i 1))
  else if (i 0).val < 192 then zuA x w c (ix2 ⟨(i 0).val % 64, Nat.mod_lt _ (by decide)⟩ (i 1))
  else zdA x w c (ix2 ⟨(i 0).val % 64, Nat.mod_lt _ (by decide)⟩ (i 1))

/-- The row of the local maximum of device `c`. -/
def AV (c : Dev nD) : Vec F S1x128 .f32 := k0_pay80 (k0_pay73 (rows 128 (Y x w c) 0)) (rows 128 (Y x w c) 128)
/-- The table of all the maxima as device `c` holds it: row `r` is that of the device `r` places on. -/
def AM (c : Dev nD) : S16x128.Idx → Elt F .f32 := fun i => AV x w (fwd (i 0).val c) (ix2 0 (i 1))
/-- The result of device `c`. -/
def OUT (c : Dev nD) : S256x2048.Idx → Elt F .f32 :=
  k0_pay82 (k0_pay81 (AM x w c)) (Scalar.ofBits .f32 0x43E00000#32) (Y x w c)

end Values

end Cert.K01

end
-- ==== Proof.Base.lean ====
/-
  Buffers held in part: the resource `hold` (a set of a memref's indices owned at a share, a subset of them with known
  contents) and its rules for a load, a store, a split, a union and a copy. Everything later is stated over it.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Vals
public import Idealize.ShloMosaic.Lib.Pipeline.Launch
public import Idealize.ShloMosaic.Lib.Pipeline.Kit
public import Idealize.ShloMosaic.Lib.Tactic

@[expose] public section

noncomputable section

namespace Cert.K01

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The proof's own algebra: the launch rule's copy of the rounds library and a second copy with four duties a round. -/
abbrev UU : Type := UR sig nD τ × URounds (GSem nD τ sig) (Fin 4)

local notation "𝕄" => MT nD τ sig Unit (Elt F) ℕ UU ℕ

abbrev EP : Emb (UR sig nD τ) (MT nD τ sig Unit (Elt F) ℕ UU ℕ) := embL
abbrev ER : Emb (URounds (GSem nD τ sig) (Fin 4)) (MT nD τ sig Unit (Elt F) ℕ UU ℕ) := embR

section Hold

variable {s : Shape} {e : EltTy} (c : Dev nD) (M : Memref sig .tc .vmem s e)

/-- Device `c` holds the indices `S` of the memref `M` at share `q`; on `D` the contents are `X`. -/
def hold (q : PosShare TreeShare) (S D : Finset s.Idx) (X : s.Idx → Elt F e) : sProp 𝕄 :=
  iprop(∃ f : Buf (Elt F) (M.view.loc (c : Thread nD τ)), ⌜∀ i ∈ D, M.view.read (Elt F) f i = X i⌝ ∗ (M.view.loc (c : Thread nD τ) ↦[M.view.setOn S]{q} f))

/-- Device `c` holds the indices `S` of `M` whole, with any contents. -/
def free (S : Finset s.Idx) : sProp 𝕄 :=
  iprop(∃ f : Buf (Elt F) (M.view.loc (c : Thread nD τ)), (M.view.loc (c : Thread nD τ) ↦[M.view.setOn S]{fullShare} f))

instance hold_storable (q) (S D : Finset s.Idx) (X : s.Idx → Elt F e) : BI.Storable (upEmb : UEmb _ 𝕄) (hold c M q S D X) := by
  unfold hold; infer_instance
instance free_storable (S : Finset s.Idx) : BI.Storable (upEmb : UEmb _ 𝕄) (free (F := F) c M S) := by
  unfold free; infer_instance

theorem setOn_disjoint {S T : Finset s.Idx} (h : Disjoint S T) : Disjoint (M.view.setOn S) (M.view.setOn T) :=
  (Finset.disjoint_map _).2 h

theorem setOn_union (S T : Finset s.Idx) : M.view.setOn (S ∪ T) = M.view.setOn S ∪ M.view.setOn T := by
  unfold View.setOn; rw [Finset.map_union]

theorem hold_free (S D : Finset s.Idx) (X : s.Idx → Elt F e) : hold c M fullShare S D X ⊢ free (F := F) c M S := by
  unfold hold free; iintro ⟨%f, -, H⟩; iexists f; iexact H

theorem free_hold (S : Finset s.Idx) (X : s.Idx → Elt F e) : free (F := F) c M S ⊢ hold c M fullShare S ∅ X := by
  unfold hold free; iintro ⟨%f, H⟩; iexists f
  isplitr; · ipureintro; intro i hi; exact absurd hi (Finset.notMem_empty i)
  iexact H

theorem hold_mono {q} {S D D' : Finset s.Idx} {X X' : s.Idx → Elt F e} (h : ∀ i ∈ D', i ∈ D ∧ X i = X' i) :
    hold c M q S D X ⊢ hold c M q S D' X' := by
  unfold hold; iintro ⟨%f, %hf, H⟩; iexists f
  isplitr; · ipureintro; intro i hi; rw [hf i (h i hi).1, (h i hi).2]
  iexact H

theorem hold_split {q} {S T D : Finset s.Idx} {X : s.Idx → Elt F e} (h : Disjoint S T) :
    hold c M q (S ∪ T) D X ⊢ iprop(hold c M q S D X ∗ hold c M q T D X) := by
  unfold hold; iintro ⟨%f, %hf, H⟩
  rw [setOn_union]
  ihave H2 := (pointsTo_union (setOn_disjoint M h)).1 $$ H
  icases H2 with ⟨H1, H2⟩
  isplitl [H1]
  · iexists f; isplitr; · ipureintro; exact hf
    iexact H1
  · iexists f; isplitr; · ipureintro; exact hf
    iexact H2

theorem free_split {S T : Finset s.Idx} (h : Disjoint S T) :
    free (F := F) c M (S ∪ T) ⊢ iprop(free (F := F) c M S ∗ free (F := F) c M T) := by
  unfold free; iintro ⟨%f, H⟩
  rw [setOn_union]
  ihave H2 := (pointsTo_union (setOn_disjoint M h)).1 $$ H
  icases H2 with ⟨H1, H2⟩
  isplitl [H1] <;> iexists f <;> iassumption

theorem hold_union {q} {S T DS DT : Finset s.Idx} {X : s.Idx → Elt F e} (h : Disjoint S T) (hS : DS ⊆ S) (hT : DT ⊆ T) :
    iprop(hold c M q S DS X ∗ hold c M q T DT X) ⊢ hold c M q (S ∪ T) (DS ∪ DT) X := by
  unfold hold; iintro ⟨⟨%f, %hf, H1⟩, ⟨%g, %hg, H2⟩⟩
  iexists ((M.view.setOn S).piecewise f g)
  isplitr
  · ipureintro
    intro i hi
    rcases Finset.mem_union.1 hi with hi | hi
    · rw [← hf i hi]
      exact View.read_congr_at i (Finset.piecewise_eq_of_mem _ f g ((View.mem_setOn _).2 (hS hi)))
    · rw [← hg i hi]
      refine View.read_congr_at i (Finset.piecewise_eq_of_notMem _ f g fun hm => ?_)
      exact Finset.disjoint_left.1 (setOn_disjoint M h) hm ((View.mem_setOn _).2 (hT hi))
  · rw [setOn_union]
    iapply (pointsTo_union (setOn_disjoint M h)).2
    isplitl [H1]
    · iapply (Entails.of_eq (pointsTo_congr (fun i hi => (Finset.piecewise_eq_of_mem _ _ _ hi).symm))) $$ H1
    · iapply (Entails.of_eq (pointsTo_congr (fun i hi => (Finset.piecewise_eq_of_notMem _ _ _ (fun hm => Finset.disjoint_left.1 (setOn_disjoint M h) hm hi)).symm))) $$ H2

theorem free_union {S T : Finset s.Idx} (h : Disjoint S T) [Nonempty (Elt F e)] :
    iprop(free (F := F) c M S ∗ free (F := F) c M T) ⊢ free (F := F) c M (S ∪ T) := by
  have X : s.Idx → Elt F e := fun _ => Classical.ofNonempty
  refine (Laws.sep_mono (free_hold c M S X) (free_hold c M T X)).trans ?_
  exact (hold_union c M h (Finset.empty_subset _) (Finset.empty_subset _)).trans (hold_free c M _ _ _)

/-- The variants of the run: none. -/
abbrev 𝒱₀ : Variants := Variants.none

section Access

/-- A load of known contents. -/
theorem hold_load {α : Type} {Q : α → sProp 𝕄} {r : LoadRect s} {hl : M.view.LoadsAt r} {k : (r.shape.Idx → Elt F e) → Prog (TpuEff nD τ sig (Elt F) Λ₀ .tc) α}
    {q} {S D : Finset s.Idx} {X : s.Idx → Elt F e} (hS : r.set ⊆ S) (hD : r.set ⊆ D) :
    hold c M q S D X ⊢ iprop((hold c M q S D X -∗ wp frame (wpE (defs₀ (F := F)) 𝒱₀ (c : Thread nD τ) none) Set.univ (k (fun y => X (r.idx y))) Q)
      -∗ wp frame (wpE (defs₀ (F := F)) 𝒱₀ (c : Thread nD τ) none) Set.univ (.op (.load M r hl) k) Q) := by
  unfold hold
  iintro ⟨%f, %hf, H⟩ Hk
  iapply (wp_load 𝒱₀ (c : Thread nD τ) none Set.univ (m := M) (S := M.view.setOn S) (Finset.map_subset_map.2 hS)) $$ H
  iintro H
  rw [show M.view.readAt (Elt F) r f = fun y => X (r.idx y) from funext fun y => hf _ (hD (r.idx_mem y))]
  iapply Hk
  iexists f; isplitr; · ipureintro; exact hf
  iexact H

/-- A load whose value is not used. -/
theorem hold_load_any {α : Type} {Q : α → sProp 𝕄} {r : LoadRect s} {hl : M.view.LoadsAt r} {k : (r.shape.Idx → Elt F e) → Prog (TpuEff nD τ sig (Elt F) Λ₀ .tc) α}
    {q} {S D : Finset s.Idx} {X : s.Idx → Elt F e} (hS : r.set ⊆ S) :
    hold c M q S D X ⊢ iprop((∀ v, hold c M q S D X -∗ wp frame (wpE (defs₀ (F := F)) 𝒱₀ (c : Thread nD τ) none) Set.univ (k v) Q)
      -∗ wp frame (wpE (defs₀ (F := F)) 𝒱₀ (c : Thread nD τ) none) Set.univ (.op (.load M r hl) k) Q) := by
  unfold hold
  iintro ⟨%f, %hf, H⟩ Hk
  iapply (wp_load 𝒱₀ (c : Thread nD τ) none Set.univ (m := M) (S := M.view.setOn S) (Finset.map_subset_map.2 hS)) $$ H
  iintro H
  iapply Hk
  iexists f; isplitr; · ipureintro; exact hf
  iexact H

theorem free_load_any {α : Type} {Q : α → sProp 𝕄} {r : LoadRect s} {hl : M.view.LoadsAt r} {k : (r.shape.Idx → Elt F e) → Prog (TpuEff nD τ sig (Elt F) Λ₀ .tc) α}
    {S : Finset s.Idx} (hS : r.set ⊆ S) :
    free (F := F) c M S ⊢ iprop((∀ v, free (F := F) c M S -∗ wp frame (wpE (defs₀ (F := F)) 𝒱₀ (c : Thread nD τ) none) Set.univ (k v) Q)
      -∗ wp frame (wpE (defs₀ (F := F)) 𝒱₀ (c : Thread nD τ) none) Set.univ (.op (.load M r hl) k) Q) := by
  unfold free
  iintro ⟨%f, H⟩ Hk
  iapply (wp_load 𝒱₀ (c : Thread nD τ) none Set.univ (m := M) (S := M.view.setOn S) (Finset.map_subset_map.2 hS)) $$ H
  iintro H
  iapply Hk
  iexists f; iexact H

/-- A store: the known set and contents afterwards are any that the written values and the old known set give. -/
theorem hold_store {α : Type} {Q : α → sProp 𝕄} {r : Rect s} {v : r.shape.Idx → Elt F e} {hx : (M.access r : View sig .tc _ _ _).Stores Finset.univ} {hm : Finset.univ = Finset.univ ∨ ∀ a, r.stride a = 1}
    {k : PUnit → Prog (TpuEff nD τ sig (Elt F) Λ₀ .tc) α} {S D D' : Finset s.Idx} {X X' : s.Idx → Elt F e}
    (hS : r.set ⊆ S) (hw : ∀ y, X' (r.emb y) = v y) (hD : ∀ i ∈ D', i ∉ r.set → i ∈ D ∧ X i = X' i) :
    hold c M fullShare S D X ⊢ iprop((hold c M fullShare S D' X' -∗ wp frame (wpE (defs₀ (F := F)) 𝒱₀ (c : Thread nD τ) none) Set.univ (k ⟨⟩) Q)
      -∗ wp frame (wpE (defs₀ (F := F)) 𝒱₀ (c : Thread nD τ) none) Set.univ (.op (.store M r v Finset.univ hx hm) k) Q) := by
  unfold hold
  iintro ⟨%f, %hf, H⟩ Hk
  iapply (wp_store 𝒱₀ (c : Thread nD τ) none Set.univ (m := M) (r := r) (S := M.view.setOn S) (f := f)
    (by rw [View.setOn_univ]; exact (View.set_slice M.view r).symm ▸ Finset.map_subset_map.2 hS)) $$ H
  iintro H
  iapply Hk
  iexists ((M.access r : View sig .tc _ _ _).write (Elt F) f v Finset.univ)
  isplitr
  · ipureintro
    intro i hi
    by_cases hir : i ∈ r.set
    · obtain ⟨y, rfl⟩ := r.exists_idx_of_mem hir
      rw [show r.idx y = r.emb y from rfl, hw]
      exact View.read_slice_write_emb (v := M.view) r f v (Finset.mem_univ y)
    · rw [← (hD i hi hir).2, ← hf i (hD i hi hir).1]
      exact View.read_slice_write_of_not_mem (v := M.view) r f v Finset.univ (by rw [Rect.map_emb_univ]; exact hir)
  iexact H

theorem free_store {α : Type} {Q : α → sProp 𝕄} {r : Rect s} {v : r.shape.Idx → Elt F e} {hx : (M.access r : View sig .tc _ _ _).Stores Finset.univ} {hm : Finset.univ = Finset.univ ∨ ∀ a, r.stride a = 1}
    {k : PUnit → Prog (TpuEff nD τ sig (Elt F) Λ₀ .tc) α} {S : Finset s.Idx} (X' : s.Idx → Elt F e)
    (hS : r.set = S) (hw : ∀ y, X' (r.emb y) = v y) :
    free (F := F) c M S ⊢ iprop((hold c M fullShare S S X' -∗ wp frame (wpE (defs₀ (F := F)) 𝒱₀ (c : Thread nD τ) none) Set.univ (k ⟨⟩) Q)
      -∗ wp frame (wpE (defs₀ (F := F)) 𝒱₀ (c : Thread nD τ) none) Set.univ (.op (.store M r v Finset.univ hx hm) k) Q) :=
  (free_hold c M S X').trans (hold_store c M hS.le hw (fun i hi hn => absurd (hS ▸ hi) hn))

end Access

end Hold

/-! ## A copy between two squeezed slices of like shape -/

theorem read_copy {s s' : Shape} {e : EltTy} {sp sp' : Space} (v : View sig .tc sp s e) (v' : View sig .tc sp' s e) (off off' : Fin s.rank → ℕ) (size : Fin s.rank → ℕ)
    (inb : ∀ a, off a + size a ≤ s.size a) (inb' : ∀ a, off' a + size a ≤ s.size a)
    (h : s'.numel = (Rect.unit (s := s) off size inb).shape.numel) (h' : s'.numel = (Rect.unit (s := s) off' size inb').shape.numel)
    (fd : v'.ty.Contents (Elt F)) (fs : v.ty.Contents (Elt F)) (y : (Rect.unit (s := s) off size inb).shape.Idx) :
    v'.read (Elt F) (((v'.slice (Rect.unit (s := s) off' size inb')).reshape s' h').write (Elt F) fd
        (((v.slice (Rect.unit (s := s) off size inb)).reshape s' h).read (Elt F) fs) Finset.univ) ((Rect.unit (s := s) off' size inb').emb y)
      = v.read (Elt F) fs ((Rect.unit (s := s) off size inb).emb y) := by
  obtain ⟨x, rfl⟩ := (Shape.reshapeEquiv h).surjective y
  rw [View.read_apply, show v'.emb ((Rect.unit (s := s) off' size inb').emb (Shape.reshapeEquiv h x)) = ((v'.slice (Rect.unit (s := s) off' size inb')).reshape s' h').emb x from rfl,
    View.write_emb_of_mem _ _ (Finset.mem_univ x), cast_cast, cast_eq]
  rfl

end Cert.K01

end
-- ==== Proof.Bufs.lean ====
/-
  The shapes of the kernel's buffers: slots of the ring buffers, halves of a slot, bands of rows, and the load and store
  rules at each of them.
-/
module

public import proofs.«01_k».proof.Proof.Base

@[expose] public section

noncomputable section

namespace Cert.K01

open Cert.KernelIdeal Cert.KernelIdeal.Gen

open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Index sets -/

/-- Half `b` of slot `s` of a four-axis ring buffer. -/
def half (s b : ℕ) : Finset S4x2x128x2048.Idx := Finset.univ.filter fun i => (i 0).val = s ∧ (i 1).val = b
/-- Slot `s` of a four-axis ring buffer. -/
def slot4 (s : ℕ) : Finset S4x2x128x2048.Idx := Finset.univ.filter fun i => (i 0).val = s
/-- Slot `s` of a three-axis ring buffer. -/
def slot3 {n : ℕ} (s : ℕ) : Finset (⟨3, ![4, n, 2048]⟩ : Shape).Idx := Finset.univ.filter fun i => (i 0).val = s
/-- Rows `r` to `r + k - 1` of a matrix. -/
def band {m n : ℕ} (r k : ℕ) : Finset (⟨2, ![m, n]⟩ : Shape).Idx := Finset.univ.filter fun i => r ≤ (i 0).val ∧ (i 0).val < r + k

theorem rect_half (s b : ℕ) (inb) : (Rect.unit (s := S4x2x128x2048) ![s, b, 0, 0] S1x1x128x2048.size inb).set = half s b := by
  ext i
  rw [Rect.mem_set_unit]
  unfold half
  rw [Finset.mem_filter]
  have h2 : (i 2).val < 128 := (i 2).isLt
  have h3 : (i 3).val < 2048 := (i 3).isLt
  constructor
  · intro h
    have h0 := h 0; have h1 := h 1
    simp at h0 h1
    exact ⟨Finset.mem_univ _, by omega, by omega⟩
  · rintro ⟨-, h0, h1⟩ a
    match a with
    | ⟨0, _⟩ => simp; omega
    | ⟨1, _⟩ => simp; omega
    | ⟨2, _⟩ => simp; omega
    | ⟨3, _⟩ => simp; omega

theorem rect_slot4 (s : ℕ) (inb) : (Rect.unit (s := S4x2x128x2048) ![s, 0, 0, 0] S1x2x128x2048.size inb).set = slot4 s := by
  ext i
  rw [Rect.mem_set_unit]
  unfold slot4
  rw [Finset.mem_filter]
  have h1 : (i 1).val < 2 := (i 1).isLt
  have h2 : (i 2).val < 128 := (i 2).isLt
  have h3 : (i 3).val < 2048 := (i 3).isLt
  constructor
  · intro h
    have h0 := h 0
    simp at h0
    exact ⟨Finset.mem_univ _, by omega⟩
  · rintro ⟨-, h0⟩ a
    match a with
    | ⟨0, _⟩ => simp; omega
    | ⟨1, _⟩ => simp; omega
    | ⟨2, _⟩ => simp; omega
    | ⟨3, _⟩ => simp; omega

theorem rect_slot3 {n : ℕ} (s : ℕ) (inb) : (Rect.unit (s := ⟨3, ![4, n, 2048]⟩) ![s, 0, 0] (⟨3, ![1, n, 2048]⟩ : Shape).size inb).set = slot3 s := by
  ext i
  rw [Rect.mem_set_unit]
  unfold slot3
  rw [Finset.mem_filter]
  have h1 : (i 1).val < n := (i 1).isLt
  have h2 : (i 2).val < 2048 := (i 2).isLt
  constructor
  · intro h
    have h0 := h 0
    simp at h0
    exact ⟨Finset.mem_univ _, by omega⟩
  · rintro ⟨-, h0⟩ a
    match a with
    | ⟨0, _⟩ => simp; omega
    | ⟨1, _⟩ => simp; omega
    | ⟨2, _⟩ => simp; omega

theorem rect_band {m n k : ℕ} (r : ℕ) (inb) : (Rect.unit (s := ⟨2, ![m, n]⟩) ![r, 0] (⟨2, ![k, n]⟩ : Shape).size inb).set = band r k := by
  ext i
  rw [Rect.mem_set_unit]
  unfold band
  rw [Finset.mem_filter]
  have h1 : (i 1).val < n := (i 1).isLt
  constructor
  · intro h
    have h0 := h 0
    simp at h0
    exact ⟨Finset.mem_univ _, by omega⟩
  · rintro ⟨-, h0⟩ a
    match a with
    | ⟨0, _⟩ => simp; omega
    | ⟨1, _⟩ => simp; omega

theorem half_disj {s s' b b' : ℕ} (h : s ≠ s' ∨ b ≠ b') : Disjoint (half s b) (half s' b') := by
  refine Finset.disjoint_left.2 fun i h1 h2 => ?_
  unfold half at h1 h2
  have h1 := (Finset.mem_filter.1 h1).2; have h2 := (Finset.mem_filter.1 h2).2
  omega

theorem slot4_eq (s : ℕ) : slot4 s = half s 0 ∪ half s 1 := by
  ext i
  have h1 : (i 1).val < 2 := (i 1).isLt
  simp only [slot4, half, Finset.mem_union, Finset.mem_filter, Finset.mem_univ, true_and]
  omega

theorem slot4_disj {s s' : ℕ} (h : s ≠ s') : Disjoint (slot4 s) (slot4 s') := by
  refine Finset.disjoint_left.2 fun i h1 h2 => ?_
  unfold slot4 at h1 h2
  have h1 := (Finset.mem_filter.1 h1).2; have h2 := (Finset.mem_filter.1 h2).2
  omega

theorem slot3_disj {n s s' : ℕ} (h : s ≠ s') : Disjoint (slot3 (n := n) s) (slot3 s') := by
  refine Finset.disjoint_left.2 fun i h1 h2 => ?_
  unfold slot3 at h1 h2
  have h1 := (Finset.mem_filter.1 h1).2; have h2 := (Finset.mem_filter.1 h2).2
  omega

theorem mem_band {m n r k : ℕ} {i : (⟨2, ![m, n]⟩ : Shape).Idx} : i ∈ band r k ↔ r ≤ (i 0).val ∧ (i 0).val < r + k := by
  unfold band; simp

theorem X4_idx {α : Type} (v : S1x1x128x2048.Idx → α) (s b : ℕ) (inb) (y : S1x1x128x2048.Idx) :
    X4 v ((Rect.unit (s := S4x2x128x2048) ![s, b, 0, 0] S1x1x128x2048.size inb).idx y) = v y := by
  unfold X4
  congr 1
  funext a
  match a with
  | ⟨0, _⟩ => exact Subsingleton.elim (α := Fin 1) _ _
  | ⟨1, _⟩ => exact Subsingleton.elim (α := Fin 1) _ _
  | ⟨2, _⟩ => exact Fin.ext (by show 0 + 1 * (y 2).val = (y 2).val; omega)
  | ⟨3, _⟩ => exact Fin.ext (by show 0 + 1 * (y 3).val = (y 3).val; omega)

theorem X3_idx {α : Type} {n : ℕ} (v : (⟨3, ![1, n, 2048]⟩ : Shape).Idx → α) (s : ℕ) (inb) (y : (⟨3, ![1, n, 2048]⟩ : Shape).Idx) :
    X3 v ((Rect.unit (s := ⟨3, ![4, n, 2048]⟩) ![s, 0, 0] (⟨3, ![1, n, 2048]⟩ : Shape).size inb).idx y) = v y := by
  unfold X3
  congr 1
  funext a
  match a with
  | ⟨0, _⟩ => exact Subsingleton.elim (α := Fin 1) _ _
  | ⟨1, _⟩ => exact Fin.ext (by show 0 + 1 * (y 1).val = (y 1).val; omega)
  | ⟨2, _⟩ => exact Fin.ext (by show 0 + 1 * (y 2).val = (y 2).val; omega)

theorem rows_idx {α : Type} {m n k : ℕ} [NeZero m] (X : (⟨2, ![m, n]⟩ : Shape).Idx → α) (r : ℕ) (inb) (y : (⟨2, ![k, n]⟩ : Shape).Idx) :
    X ((Rect.unit (s := ⟨2, ![m, n]⟩) ![r, 0] (⟨2, ![k, n]⟩ : Shape).size inb).idx y) = rows k X r y := by
  unfold rows
  congr 1
  have hr : r + k ≤ m := inb 0
  have hy : (y 0).val < k := (y 0).isLt
  funext a
  match a with
  | ⟨0, _⟩ => exact Fin.ext (by show r + 1 * (y 0).val = (r + (y 0).val) % m; rw [Nat.mod_eq_of_lt (by omega)]; omega)
  | ⟨1, _⟩ => exact Fin.ext (by show 0 + 1 * (y 1).val = (y 1).val; omega)

/-! ## The four-axis ring buffers, by halves of a slot -/

section Four

variable (c : Dev nD) (M : Memref sig .tc .vmem S4x2x128x2048 .bf16)

/-- Half `b` of slot `s` holds the slab `v`. -/
def H4 (s b : ℕ) (v : Vec F S1x1x128x2048 .bf16) : sProp 𝕄 := hold c M fullShare (half s b) (half s b) (X4 v)
/-- Half `b` of slot `s`, with any contents. -/
abbrev F4 (s b : ℕ) : sProp 𝕄 := free (F := F) c M (half s b)

theorem H4_F4 (s b : ℕ) (v : Vec F S1x1x128x2048 .bf16) : H4 c M s b v ⊢ F4 (F := F) c M s b := hold_free c M _ _ _

theorem H4_load {α : Type} {Q : α → sProp 𝕄} {s b : ℕ} {inb} {v : Vec F S1x1x128x2048 .bf16} {hl}
    {k : Vec F S1x1x128x2048 .bf16 → Prog (TpuEff nD τ sig (Elt F) Λ₀ .tc) α} :
    H4 c M s b v ⊢ iprop((H4 c M s b v -∗ wp frame (wpE (defs₀ (F := F)) 𝒱₀ (c : Thread nD τ) none) Set.univ (k v) Q)
      -∗ wp frame (wpE (defs₀ (F := F)) 𝒱₀ (c : Thread nD τ) none) Set.univ
          (.op (.load M (Rect.unit (s := S4x2x128x2048) ![s, b, 0, 0] S1x1x128x2048.size inb).toLoadRect hl) k) Q) := by
  have h : (fun y => X4 v ((Rect.unit (s := S4x2x128x2048) ![s, b, 0, 0] S1x1x128x2048.size inb).idx y)) = v := funext (X4_idx v s b inb)
  refine (hold_load c M (r := (Rect.unit (s := S4x2x128x2048) ![s, b, 0, 0] S1x1x128x2048.size inb).toLoadRect) (hl := hl) (k := k) (Q := Q) (rect_half s b inb).le (rect_half s b inb).le).trans ?_
  rw [h]; exact BI.Entails.refl _

theorem F4_load {α : Type} {Q : α → sProp 𝕄} {s b : ℕ} {inb} {hl}
    {k : Vec F S1x1x128x2048 .bf16 → Prog (TpuEff nD τ sig (Elt F) Λ₀ .tc) α} :
    F4 (F := F) c M s b ⊢ iprop((∀ v, F4 (F := F) c M s b -∗ wp frame (wpE (defs₀ (F := F)) 𝒱₀ (c : Thread nD τ) none) Set.univ (k v) Q)
      -∗ wp frame (wpE (defs₀ (F := F)) 𝒱₀ (c : Thread nD τ) none) Set.univ
          (.op (.load M (Rect.unit (s := S4x2x128x2048) ![s, b, 0, 0] S1x1x128x2048.size inb).toLoadRect hl) k) Q) :=
  free_load_any c M (r := (Rect.unit (s := S4x2x128x2048) ![s, b, 0, 0] S1x1x128x2048.size inb).toLoadRect) (rect_half s b inb).le

theorem F4_store {α : Type} {Q : α → sProp 𝕄} {s b : ℕ} {inb} {v : Vec F S1x1x128x2048 .bf16} {hx hm}
    {k : PUnit → Prog (TpuEff nD τ sig (Elt F) Λ₀ .tc) α} :
    F4 (F := F) c M s b ⊢ iprop((H4 c M s b v -∗ wp frame (wpE (defs₀ (F := F)) 𝒱₀ (c : Thread nD τ) none) Set.univ (k ⟨⟩) Q)
      -∗ wp frame (wpE (defs₀ (F := F)) 𝒱₀ (c : Thread nD τ) none) Set.univ
          (.op (.store M (Rect.unit (s := S4x2x128x2048) ![s, b, 0, 0] S1x1x128x2048.size inb) v Finset.univ hx hm) k) Q) :=
  free_store c M (r := Rect.unit (s := S4x2x128x2048) ![s, b, 0, 0] S1x1x128x2048.size inb) (X4 v) (rect_half s b inb) (X4_idx v s b inb)

end Four

/-! ## The three-axis ring buffers, by slots -/

section Three

variable {n : ℕ} (c : Dev nD) (M : Memref sig .tc .vmem ⟨3, ![4, n, 2048]⟩ .bf16)

/-- Slot `s` holds the slab `v`. -/
def H3 (s : ℕ) (v : Vec F ⟨3, ![1, n, 2048]⟩ .bf16) : sProp 𝕄 := hold c M fullShare (slot3 s) (slot3 s) (X3 v)
/-- Slot `s`, with any contents. -/
abbrev F3 (s : ℕ) : sProp 𝕄 := free (F := F) c M (slot3 s)

theorem H3_F3 (s : ℕ) (v : Vec F ⟨3, ![1, n, 2048]⟩ .bf16) : H3 c M s v ⊢ F3 (F := F) c M s := hold_free c M _ _ _

theorem H3_load {α : Type} {Q : α → sProp 𝕄} {s : ℕ} {inb} {v : Vec F ⟨3, ![1, n, 2048]⟩ .bf16} {hl}
    {k : Vec F ⟨3, ![1, n, 2048]⟩ .bf16 → Prog (TpuEff nD τ sig (Elt F) Λ₀ .tc) α} :
    H3 c M s v ⊢ iprop((H3 c M s v -∗ wp frame (wpE (defs₀ (F := F)) 𝒱₀ (c : Thread nD τ) none) Set.univ (k v) Q)
      -∗ wp frame (wpE (defs₀ (F := F)) 𝒱₀ (c : Thread nD τ) none) Set.univ
          (.op (.load M (Rect.unit (s := ⟨3, ![4, n, 2048]⟩) ![s, 0, 0] (⟨3, ![1, n, 2048]⟩ : Shape).size inb).toLoadRect hl) k) Q) := by
  have h : (fun y => X3 v ((Rect.unit (s := ⟨3, ![4, n, 2048]⟩) ![s, 0, 0] (⟨3, ![1, n, 2048]⟩ : Shape).size inb).idx y)) = v := funext (X3_idx v s inb)
  refine (hold_load c M (r := (Rect.unit (s := ⟨3, ![4, n, 2048]⟩) ![s, 0, 0] (⟨3, ![1, n, 2048]⟩ : Shape).size inb).toLoadRect) (hl := hl) (k := k) (Q := Q) (rect_slot3 s inb).le (rect_slot3 s inb).le).trans ?_
  rw [h]; exact BI.Entails.refl _

theorem F3_load {α : Type} {Q : α → sProp 𝕄} {s : ℕ} {inb} {hl}
    {k : Vec F ⟨3, ![1, n, 2048]⟩ .bf16 → Prog (TpuEff nD τ sig (Elt F) Λ₀ .tc) α} :
    F3 (F := F) c M s ⊢ iprop((∀ v, F3 (F := F) c M s -∗ wp frame (wpE (defs₀ (F := F)) 𝒱₀ (c : Thread nD τ) none) Set.univ (k v) Q)
      -∗ wp frame (wpE (defs₀ (F := F)) 𝒱₀ (c : Thread nD τ) none) Set.univ
          (.op (.load M (Rect.unit (s := ⟨3, ![4, n, 2048]⟩) ![s, 0, 0] (⟨3, ![1, n, 2048]⟩ : Shape).size inb).toLoadRect hl) k) Q) :=
  free_load_any c M (r := (Rect.unit (s := ⟨3, ![4, n, 2048]⟩) ![s, 0, 0] (⟨3, ![1, n, 2048]⟩ : Shape).size inb).toLoadRect) (rect_slot3 s inb).le

theorem F3_store {α : Type} {Q : α → sProp 𝕄} {s : ℕ} {inb} {v : Vec F ⟨3, ![1, n, 2048]⟩ .bf16} {hx hm}
    {k : PUnit → Prog (TpuEff nD τ sig (Elt F) Λ₀ .tc) α} :
    F3 (F := F) c M s ⊢ iprop((H3 c M s v -∗ wp frame (wpE (defs₀ (F := F)) 𝒱₀ (c : Thread nD τ) none) Set.univ (k ⟨⟩) Q)
      -∗ wp frame (wpE (defs₀ (F := F)) 𝒱₀ (c : Thread nD τ) none) Set.univ
          (.op (.store M (Rect.unit (s := ⟨3, ![4, n, 2048]⟩) ![s, 0, 0] (⟨3, ![1, n, 2048]⟩ : Shape).size inb) v Finset.univ hx hm) k) Q) :=
  free_store c M (r := Rect.unit (s := ⟨3, ![4, n, 2048]⟩) ![s, 0, 0] (⟨3, ![1, n, 2048]⟩ : Shape).size inb) (X3 v) (rect_slot3 s inb) (X3_idx v s inb)

end Three

/-! ## Matrices, by bands of rows -/

section Two

variable {m n : ℕ} [NeZero m] {e : EltTy} (c : Dev nD) (M : Memref sig .tc .vmem ⟨2, ![m, n]⟩ e)

theorem rows_load {α : Type} {Q : α → sProp 𝕄} {l : ℕ} {off : Fin 2 → ℕ} {inb} {hl}
    {k : Vec F ⟨2, ![l, n]⟩ e → Prog (TpuEff nD τ sig (Elt F) Λ₀ .tc) α} {q} {S D : Finset (⟨2, ![m, n]⟩ : Shape).Idx} {X : (⟨2, ![m, n]⟩ : Shape).Idx → Elt F e}
    (r : ℕ) (hoff : off = ![r, 0]) (hS : band r l ⊆ S) (hD : band r l ⊆ D) :
    hold c M q S D X ⊢ iprop((hold c M q S D X -∗ wp frame (wpE (defs₀ (F := F)) 𝒱₀ (c : Thread nD τ) none) Set.univ (k (rows l X r)) Q)
      -∗ wp frame (wpE (defs₀ (F := F)) 𝒱₀ (c : Thread nD τ) none) Set.univ
          (.op (.load M (Rect.unit (s := ⟨2, ![m, n]⟩) off (⟨2, ![l, n]⟩ : Shape).size inb).toLoadRect hl) k) Q) := by
  subst hoff
  have h : (fun y => X ((Rect.unit (s := ⟨2, ![m, n]⟩) ![r, 0] (⟨2, ![l, n]⟩ : Shape).size inb).idx y)) = rows l X r := funext (rows_idx X r inb)
  refine (hold_load c M (r := (Rect.unit (s := ⟨2, ![m, n]⟩) ![r, 0] (⟨2, ![l, n]⟩ : Shape).size inb).toLoadRect) (hl := hl) (k := k) (Q := Q)
    ((rect_band r inb).le.trans hS) ((rect_band r inb).le.trans hD)).trans ?_
  rw [h]

theorem rows_store {α : Type} {Q : α → sProp 𝕄} {l : ℕ} {off : Fin 2 → ℕ} {inb} {hx hm} {v : Vec F ⟨2, ![l, n]⟩ e}
    {k : PUnit → Prog (TpuEff nD τ sig (Elt F) Λ₀ .tc) α} {S D D' : Finset (⟨2, ![m, n]⟩ : Shape).Idx} {X X' : (⟨2, ![m, n]⟩ : Shape).Idx → Elt F e}
    (r : ℕ) (hoff : off = ![r, 0]) (hS : band r l ⊆ S) (hw : rows l X' r = v) (hD : ∀ i ∈ D', i ∉ band r l → i ∈ D ∧ X i = X' i) :
    hold c M fullShare S D X ⊢ iprop((hold c M fullShare S D' X' -∗ wp frame (wpE (defs₀ (F := F)) 𝒱₀ (c : Thread nD τ) none) Set.univ (k ⟨⟩) Q)
      -∗ wp frame (wpE (defs₀ (F := F)) 𝒱₀ (c : Thread nD τ) none) Set.univ
          (.op (.store M (Rect.unit (s := ⟨2, ![m, n]⟩) off (⟨2, ![l, n]⟩ : Shape).size inb) v Finset.univ hx hm) k) Q) := by
  subst hoff
  subst hw
  exact hold_store c M (r := Rect.unit (s := ⟨2, ![m, n]⟩) ![r, 0] (⟨2, ![l, n]⟩ : Shape).size inb) ((rect_band r inb).le.trans hS)
    (rows_idx X' r inb) (fun i hi hn => hD i hi (by rwa [rect_band] at hn))

theorem rows_load_any {α : Type} {Q : α → sProp 𝕄} {l : ℕ} {off : Fin 2 → ℕ} {inb} {hl}
    {k : Vec F ⟨2, ![l, n]⟩ e → Prog (TpuEff nD τ sig (Elt F) Λ₀ .tc) α} {q} {D : Finset (⟨2, ![m, n]⟩ : Shape).Idx} {X : (⟨2, ![m, n]⟩ : Shape).Idx → Elt F e} :
    hold c M q Finset.univ D X ⊢ iprop((∀ v, hold c M q Finset.univ D X -∗ wp frame (wpE (defs₀ (F := F)) 𝒱₀ (c : Thread nD τ) none) Set.univ (k v) Q)
      -∗ wp frame (wpE (defs₀ (F := F)) 𝒱₀ (c : Thread nD τ) none) Set.univ
          (.op (.load M (Rect.unit (s := ⟨2, ![m, n]⟩) off (⟨2, ![l, n]⟩ : Shape).size inb).toLoadRect hl) k) Q) :=
  hold_load_any c M (r := (Rect.unit (s := ⟨2, ![m, n]⟩) off (⟨2, ![l, n]⟩ : Shape).size inb).toLoadRect) (Finset.subset_univ _)

end Two

end Cert.K01

end
-- ==== Proof.Proto.lean ====
/-
  The protocol: the 36 remote copies of a device as `Hop`s, their semaphores, the order they are sent and received in,
  the rounds schedule (what each semaphore hands over), the levels, and what a device owes.
-/
module

public import proofs.«01_k».proof.Proof.Bufs

@[expose] public section

noncomputable section

namespace Cert.K01

open Cert.KernelIdeal Cert.KernelIdeal.Gen

open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The buffers of the kernel -/

abbrev a0 : Memref sig .tc .vmem S4096x256 .bf16 := Memref.whole cc0_stg0_0
abbrev a1 : Memref sig .tc .vmem S256x2048 .bf16 := Memref.whole cc0_stg1_0
abbrev a2 : Memref sig .tc .vmem S256x2048 .f32 := Memref.whole cc0_stg2_0
abbrev a3 : Memref sig .tc .vmem S4x2x128x2048 .bf16 := Memref.whole cc0_scratch0
abbrev a4 : Memref sig .tc .vmem S4x2x128x2048 .bf16 := Memref.whole cc0_scratch1
abbrev a5 : Memref sig .tc .vmem S4x2x128x2048 .bf16 := Memref.whole cc0_scratch2
abbrev a6 : Memref sig .tc .vmem S4x2x128x2048 .bf16 := Memref.whole cc0_scratch3
abbrev a7 : Memref sig .tc .vmem S1024x2048 .f32 := Memref.whole cc0_scratch4
abbrev a8 : Memref sig .tc .vmem S4x128x2048 .bf16 := Memref.whole cc0_scratch5
abbrev a9 : Memref sig .tc .vmem S4x64x2048 .bf16 := Memref.whole cc0_scratch6
abbrev a10 : Memref sig .tc .vmem S4x64x2048 .bf16 := Memref.whole cc0_scratch7
abbrev a11 : Memref sig .tc .vmem S256x2048 .bf16 := Memref.whole cc0_scratch8
abbrev a12 : Memref sig .tc .vmem S16x128 .f32 := Memref.whole cc0_scratch9

/-! ## The copies -/

/-- A remote copy of a device: step `s` of ring line `l` (in-plane right and left of the first half, of the second half;
    up for the first half; up and down for the last two quarters), or the maximum sent `o + 1` places on. -/
abbrev Hop : Type := (Fin 7 × Fin 3) ⊕ Fin 15

/-- The place of a copy in the order a device starts its copies. -/
def pos : Hop → ℕ
  | .inl (l, s) => ![2 * s.val, 2 * s.val + 1, 7 + 3 * s.val, 8 + 3 * s.val, 6 + 3 * s.val, 15 + 2 * s.val, 16 + 2 * s.val] l
  | .inr o => 21 + o.val
/-- Its place in the order a device waits for what it receives. -/
def rpos : Hop → ℕ
  | .inl (l, s) => ![2 * s.val, 2 * s.val + 1, 7 + 3 * s.val, 8 + 3 * s.val, 6 + 3 * s.val, 15 + 2 * s.val, 16 + 2 * s.val] l
  | .inr o => 21 + (14 - o.val)

theorem pos_inj : ∀ g h : Hop, pos g = pos h → g = h := by decide +kernel
theorem rpos_inj : ∀ g h : Hop, rpos g = rpos h → g = h := by decide +kernel
theorem pos_lt : ∀ h : Hop, pos h < 36 := by decide
theorem rpos_lt : ∀ h : Hop, rpos h < 36 := by decide

/-- The device a copy of device `c` goes to. -/
def tgt : Hop → Dev nD → Dev nD
  | .inl (l, _), c => ![rt c, lf c, rt c, lf c, up c, up c, dn c] l
  | .inr o, c => fwd (o.val + 1) c
/-- The device whose copy arrives at `d`. -/
def org : Hop → Dev nD → Dev nD
  | .inl (l, _), c => ![lf c, rt c, lf c, rt c, dn c, dn c, up c] l
  | .inr o, c => fwd (15 - o.val) c

theorem org_tgt : ∀ (h : Hop) (c : Dev nD), org h (tgt h c) = c := by decide +kernel
theorem tgt_org : ∀ (h : Hop) (c : Dev nD), tgt h (org h c) = c := by decide +kernel

/-- The number of the send semaphore of a copy. -/
def sndN : Hop → Fin 77
  | .inl (l, s) => ⟨3 + 6 * l.val + s.val, by omega⟩
  | .inr o => ⟨46 + o.val, by omega⟩
/-- The number of its receive semaphore. -/
def rcvN : Hop → Fin 77
  | .inl (l, s) => ⟨6 + 6 * l.val + s.val, by omega⟩
  | .inr o => ⟨76 - o.val, by omega⟩

abbrev snd (h : Hop) : SemLoc sig := .dma (sndN h)
abbrev rcv (h : Hop) : SemLoc sig := .dma (rcvN h)
/-- The barrier semaphore. -/
abbrev bar : SemLoc sig := .reg (sig.barrier 0 rfl)

/-- The cells that take part: the barrier, and the send and receive semaphore of every copy. -/
abbrev CI : Type := Option (Bool × Hop)
def cellS : CI → SemLoc sig
  | none => bar
  | some (false, h) => snd h
  | some (true, h) => rcv h

/-- Which copy a semaphore number belongs to. -/
def decN (i : ℕ) : Option (Bool × Hop) :=
  if i < 3 then none
  else if i < 45 then
    (if (i - 3) % 6 < 3 then some (false, .inl (Fin.ofNat 7 ((i - 3) / 6), Fin.ofNat 3 ((i - 3) % 6)))
      else some (true, .inl (Fin.ofNat 7 ((i - 3) / 6), Fin.ofNat 3 ((i - 3) % 6 - 3))))
  else if i < 61 then (if i = 45 then none else some (false, .inr (Fin.ofNat 15 (i - 46))))
  else (if i = 61 then none else some (true, .inr (Fin.ofNat 15 (76 - i))))
def dec : SemLoc sig → Option CI
  | .reg s => if s = sig.barrier 0 rfl then some none else none
  | .dma i => (decN i.val).map some

theorem decN_snd : ∀ h : Hop, decN (sndN h).val = some (false, h) := by decide
theorem decN_rcv : ∀ h : Hop, decN (rcvN h).val = some (true, h) := by decide
theorem dec_cellS (i : CI) : dec (cellS i) = some i := by
  match i with
  | none => show (if sig.barrier 0 rfl = sig.barrier 0 rfl then some (none : CI) else none) = some none; exact if_pos rfl
  | some (false, h) => show (decN (sndN h).val).map some = _; rw [decN_snd]; rfl
  | some (true, h) => show (decN (rcvN h).val).map some = _; rw [decN_rcv]; rfl
theorem dec_bar : dec bar = some none := dec_cellS none
theorem dec_snd (h : Hop) : dec (snd h) = some (some (false, h)) := dec_cellS (some (false, h))
theorem dec_rcv (h : Hop) : dec (rcv h) = some (some (true, h)) := dec_cellS (some (true, h))
theorem cellS_inj (i j : CI) (h : cellS i = cellS j) : i = j := by
  have := congrArg dec h; rw [dec_cellS, dec_cellS] at this; exact Option.some.inj this

abbrev sndC (c : Dev nD) (h : Hop) : GSem nD τ sig := ((c : Thread nD τ), snd h)
abbrev rcvC (c : Dev nD) (h : Hop) : GSem nD τ sig := ((c : Thread nD τ), rcv h)
abbrev barC (c : Dev nD) : GSem nD τ sig := ((c : Thread nD τ), bar)
abbrev cellC (ci : Dev nD × CI) : GSem nD τ sig := ((ci.1 : Thread nD τ), cellS ci.2)

/-- What a copy of a slot adds to its semaphores. -/
abbrev amt4 (M : Memref sig .tc .vmem S4x2x128x2048 .bf16) : ℕ :=
  ((M.slice (Rect.unit (s := S4x2x128x2048) ![1, 0, 0, 0] S1x2x128x2048.size inb_S4x2x128x2048_S1x2x128x2048_1_0_0_0) (fun _ => rfl)).squeeze S2x128x2048 squeezes_S1x2x128x2048_S2x128x2048).view.dmaCredit
abbrev amt8 : ℕ :=
  ((a8.slice (Rect.unit (s := S4x128x2048) ![1, 0, 0] S1x128x2048.size inb_S4x128x2048_S1x128x2048_1_0_0) (fun _ => rfl)).squeeze S128x2048 squeezes_S1x128x2048_S128x2048).view.dmaCredit
abbrev amt9 (M : Memref sig .tc .vmem S4x64x2048 .bf16) : ℕ :=
  ((M.slice (Rect.unit (s := S4x64x2048) ![1, 0, 0] S1x64x2048.size inb_S4x64x2048_S1x64x2048_1_0_0) (fun _ => rfl)).squeeze S64x2048 squeezes_S1x64x2048_S64x2048).view.dmaCredit
abbrev amtA : ℕ := (a12.slice (Rect.unit (s := S16x128) ![1, 0] S1x128.size inb_S16x128_S1x128_1_0) (fun _ => rfl)).view.dmaCredit
def amt : Hop → ℕ
  | .inl (l, _) => ![amt4 a3, amt4 a4, amt4 a5, amt4 a6, amt8, amt9 a9, amt9 a10] l
  | .inr _ => amtA

theorem amt_pos (h : Hop) : 0 < amt h := by
  match h with
  | .inl (⟨0, _⟩, _) => exact View.dmaCredit_pos _ (by decide)
  | .inl (⟨1, _⟩, _) => exact View.dmaCredit_pos _ (by decide)
  | .inl (⟨2, _⟩, _) => exact View.dmaCredit_pos _ (by decide)
  | .inl (⟨3, _⟩, _) => exact View.dmaCredit_pos _ (by decide)
  | .inl (⟨4, _⟩, _) => exact View.dmaCredit_pos _ (by decide)
  | .inl (⟨5, _⟩, _) => exact View.dmaCredit_pos _ (by decide)
  | .inl (⟨6, _⟩, _) => exact View.dmaCredit_pos _ (by decide)
  | .inr _ => exact View.dmaCredit_pos _ (by decide)

/-! ## Permission to write into another device's table of maxima

`(d, w)` stands for the row of device `d`'s table that device `w` writes. -/

/-- The row of `d`'s table that `w` writes, with any contents. -/
def R (p : Dev nD × Dev nD) : sProp 𝕄 := free (F := F) p.1 a12 (band ((p.2.val + 16 - p.1.val) % 16) 1)
/-- A set of such rows. -/
def RR (S : Finset (Dev nD × Dev nD)) : sProp 𝕄 := bigSep S (R (F := F))

/-- All rows of `c`'s own table but its own. -/
def Own (c : Dev nD) : Finset (Dev nD × Dev nD) := Finset.univ.filter fun p => p.1 = c ∧ p.2 ≠ c
/-- What `c` hands to the right at step `s`: the rows of the device `s` places to the left for devices further on. -/
def Pn (s : ℕ) (c : Dev nD) : Finset (Dev nD × Dev nD) := Finset.univ.filter fun p =>
  p.1.val / 4 = c.val / 4 ∧ p.1.val % 4 = (c.val % 4 + 4 - s) % 4 ∧ s < (p.2.val % 4 + 4 - p.1.val % 4) % 4
/-- What `c` has kept after step `s`: rows of its plane's devices for devices of its own column. -/
def Kn (s : ℕ) (c : Dev nD) : Finset (Dev nD × Dev nD) := Finset.univ.filter fun p =>
  p.1.val / 4 = c.val / 4 ∧ p.2.val % 4 = c.val % 4 ∧ (c.val % 4 + 4 - p.1.val % 4) % 4 ≤ s ∧ p.1 ≠ p.2
/-- What `c` hands up at step `s`. -/
def Zn (s : ℕ) (c : Dev nD) : Finset (Dev nD × Dev nD) := Finset.univ.filter fun p =>
  p.1.val / 4 = (c.val / 4 + 4 - s) % 4 ∧ p.2.val % 4 = c.val % 4 ∧ s < (p.2.val / 4 + 4 - p.1.val / 4) % 4
/-- The rows `c` itself may write after step `s` of the way up. -/
def Vn (s : ℕ) (c : Dev nD) : Finset (Dev nD × Dev nD) := Finset.univ.filter fun p =>
  p.2 = c ∧ (c.val / 4 + 4 - p.1.val / 4) % 4 ≤ s ∧ p.1 ≠ p.2

theorem RR_step {A B A' B' : Finset (Dev nD × Dev nD)} (h : ∀ p, ((p ∈ A ∨ p ∈ B) ↔ (p ∈ A' ∨ p ∈ B')) ∧ ¬ (p ∈ A ∧ p ∈ B) ∧ ¬ (p ∈ A' ∧ p ∈ B')) :
    iprop(RR (F := F) A ∗ RR (F := F) B) ⊢ iprop(RR (F := F) A' ∗ RR (F := F) B') := by
  unfold RR
  have e : A ∪ B = A' ∪ B' := Finset.ext fun p => by rw [Finset.mem_union, Finset.mem_union]; exact (h p).1
  refine (Entails.of_eq (bigSep_union (Finset.disjoint_left.2 fun p h1 h2 => (h p).2.1 ⟨h1, h2⟩)).symm).trans ?_
  rw [e]
  exact Entails.of_eq (bigSep_union (Finset.disjoint_left.2 fun p h1 h2 => (h p).2.2 ⟨h1, h2⟩))

theorem RR_split {A A' B' : Finset (Dev nD × Dev nD)} (h : ∀ p, (p ∈ A ↔ (p ∈ A' ∨ p ∈ B')) ∧ ¬ (p ∈ A' ∧ p ∈ B')) :
    RR (F := F) A ⊢ iprop(RR (F := F) A' ∗ RR (F := F) B') := by
  unfold RR
  rw [show A = A' ∪ B' from Finset.ext fun p => by rw [Finset.mem_union]; exact (h p).1]
  exact Entails.of_eq (bigSep_union (Finset.disjoint_left.2 fun p h1 h2 => (h p).2 ⟨h1, h2⟩))

theorem RR_own (c : Dev nD) : RR (F := F) (Own c) ⊢ iprop(RR (F := F) (Kn 0 c) ∗ RR (F := F) (Pn 0 c)) := by
  refine RR_split fun p => ?_
  simp only [Own, Kn, Pn, Finset.mem_filter, Finset.mem_univ, true_and]
  obtain ⟨d, w⟩ := p
  revert d w c; decide +kernel

theorem RR_plane (s : Fin 3) (c : Dev nD) : iprop(RR (F := F) (Kn s.val c) ∗ RR (F := F) (Pn s.val (lf c))) ⊢ iprop(RR (F := F) (Kn (s.val + 1) c) ∗ RR (F := F) (Pn (s.val + 1) c)) := by
  refine RR_step fun p => ?_
  simp only [Kn, Pn, Finset.mem_filter, Finset.mem_univ, true_and]
  obtain ⟨d, w⟩ := p
  revert s d w c; decide +kernel

theorem RR_turn (c : Dev nD) : RR (F := F) (Kn 3 c) ⊢ iprop(RR (F := F) (Vn 0 c) ∗ RR (F := F) (Zn 0 c)) := by
  refine RR_split fun p => ?_
  simp only [Kn, Vn, Zn, Finset.mem_filter, Finset.mem_univ, true_and]
  obtain ⟨d, w⟩ := p
  revert d w c; decide +kernel

theorem RR_up (s : Fin 3) (c : Dev nD) : iprop(RR (F := F) (Vn s.val c) ∗ RR (F := F) (Zn s.val (dn c))) ⊢ iprop(RR (F := F) (Vn (s.val + 1) c) ∗ RR (F := F) (Zn (s.val + 1) c)) := by
  refine RR_step fun p => ?_
  simp only [Vn, Zn, Finset.mem_filter, Finset.mem_univ, true_and]
  obtain ⟨d, w⟩ := p
  revert s d w c; decide +kernel

/-! ## The payloads -/

section Payloads

variable (x : Dev nD → Vec F S4096x256 .bf16) (w : Dev nD → Vec F S256x2048 .bf16)

/-- The share of its own row a device lends to the copy `o`. -/
abbrev shr (o : ℕ) : PosShare TreeShare := Transfers.shareTokN fullShare.left o
/-- A device's own row of the table, at a share. -/
def row0 (c : Dev nD) (q : PosShare TreeShare) : sProp 𝕄 := hold c a12 q (band 0 1) (band 0 1) (AM x w c)

/-- What a send semaphore gives back. -/
def sendPay : Hop → Dev nD → sProp 𝕄
  | .inl (l, s), c => (![free (F := F) c a3 (slot4 s.val), free (F := F) c a4 (slot4 s.val), free (F := F) c a5 (slot4 s.val), free (F := F) c a6 (slot4 s.val),
      F3 (F := F) c a8 s.val, F3 (F := F) c a9 s.val, F3 (F := F) c a10 s.val] : Fin 7 → sProp 𝕄) l
  | .inr o, c => row0 x w c (shr o.val)

/-- What a receive semaphore hands over: the landed slot, and the permissions that travel with it. -/
def recvPay : Hop → Dev nD → sProp 𝕄
  | .inl (l, s), d => (![
      iprop((H4 d a3 (s.val + 1) 0 (cwU x w 0 s.val (lf d) 0) ∗ H4 d a3 (s.val + 1) 1 (cwU x w 0 s.val (lf d) 1)) ∗ RR (F := F) (Pn s.val (lf d))),
      iprop((H4 d a4 (s.val + 1) 0 (ccwU x w 0 s.val (rt d) 0) ∗ H4 d a4 (s.val + 1) 1 (ccwU x w 0 s.val (rt d) 1)) ∗ emp),
      iprop((H4 d a5 (s.val + 1) 0 (cwU x w 1 s.val (lf d) 0) ∗ H4 d a5 (s.val + 1) 1 (cwU x w 1 s.val (lf d) 1)) ∗ emp),
      iprop((H4 d a6 (s.val + 1) 0 (ccwU x w 1 s.val (rt d) 0) ∗ H4 d a6 (s.val + 1) 1 (ccwU x w 1 s.val (rt d) 1)) ∗ emp),
      iprop(H3 d a8 (s.val + 1) (ztU x w s.val (dn d)) ∗ RR (F := F) (Zn s.val (dn d))),
      iprop(H3 d a9 (s.val + 1) (zuU x w s.val (dn d)) ∗ emp),
      iprop(H3 d a10 (s.val + 1) (zdU x w s.val (up d)) ∗ emp)] : Fin 7 → sProp 𝕄) l
  | .inr o, d => hold d a12 fullShare (band (15 - o.val) 1) (band (15 - o.val) 1) (AM x w d)

/-- The landing slots of a four-axis buffer. -/
def land4 (c : Dev nD) (M : Memref sig .tc .vmem S4x2x128x2048 .bf16) : sProp 𝕄 :=
  iprop(free (F := F) c M (slot4 1) ∗ free (F := F) c M (slot4 2) ∗ free (F := F) c M (slot4 3))
/-- The landing slots of a three-axis buffer. -/
def land3 {n : ℕ} (c : Dev nD) (M : Memref sig .tc .vmem ⟨3, ![4, n, 2048]⟩ .bf16) : sProp 𝕄 :=
  iprop(F3 (F := F) c M 1 ∗ F3 (F := F) c M 2 ∗ F3 (F := F) c M 3)

/-- What a neighbour's barrier signal hands to `d`: that neighbour's landing slots for what `d` sends it. -/
def barPay (i : Fin 4) (d : Dev nD) : sProp 𝕄 :=
  (![land3 (F := F) (dn d) a10, iprop(land3 (F := F) (up d) a8 ∗ land3 (F := F) (up d) a9),
    iprop(land4 (F := F) (lf d) a4 ∗ land4 (F := F) (lf d) a6), iprop(land4 (F := F) (rt d) a3 ∗ land4 (F := F) (rt d) a5)] : Fin 4 → sProp 𝕄) i

instance R_storable (p : Dev nD × Dev nD) : BI.Storable (upEmb : UEmb _ 𝕄) (R (F := F) p) := by unfold R; infer_instance
instance RR_storable (S : Finset (Dev nD × Dev nD)) : BI.Storable (upEmb : UEmb _ 𝕄) (RR (F := F) S) := by unfold RR; infer_instance
instance H4_storable (c : Dev nD) (M) (s b : ℕ) (v) : BI.Storable (upEmb : UEmb _ 𝕄) (H4 (F := F) c M s b v) := by unfold H4; infer_instance
instance H3_storable {n : ℕ} (c : Dev nD) (M : Memref sig .tc .vmem ⟨3, ![4, n, 2048]⟩ .bf16) (s : ℕ) (v) : BI.Storable (upEmb : UEmb _ 𝕄) (H3 (F := F) c M s v) := by unfold H3; infer_instance
instance land4_storable (c : Dev nD) (M) : BI.Storable (upEmb : UEmb _ 𝕄) (land4 (F := F) c M) := by unfold land4; infer_instance
instance land3_storable {n : ℕ} (c : Dev nD) (M : Memref sig .tc .vmem ⟨3, ![4, n, 2048]⟩ .bf16) : BI.Storable (upEmb : UEmb _ 𝕄) (land3 (F := F) c M) := by unfold land3; infer_instance

instance sendPay_storable (h : Hop) (c : Dev nD) : BI.Storable (upEmb : UEmb _ 𝕄) (sendPay x w h c) := by
  match h with
  | .inl (⟨0, _⟩, s) => exact (inferInstance : BI.Storable upEmb (free (F := F) c a3 (slot4 s.val)))
  | .inl (⟨1, _⟩, s) => exact (inferInstance : BI.Storable upEmb (free (F := F) c a4 (slot4 s.val)))
  | .inl (⟨2, _⟩, s) => exact (inferInstance : BI.Storable upEmb (free (F := F) c a5 (slot4 s.val)))
  | .inl (⟨3, _⟩, s) => exact (inferInstance : BI.Storable upEmb (free (F := F) c a6 (slot4 s.val)))
  | .inl (⟨4, _⟩, s) => exact (inferInstance : BI.Storable upEmb (F3 (F := F) c a8 s.val))
  | .inl (⟨5, _⟩, s) => exact (inferInstance : BI.Storable upEmb (F3 (F := F) c a9 s.val))
  | .inl (⟨6, _⟩, s) => exact (inferInstance : BI.Storable upEmb (F3 (F := F) c a10 s.val))
  | .inr o => unfold sendPay row0; infer_instance

instance recvPay_storable (h : Hop) (d : Dev nD) : BI.Storable (upEmb : UEmb _ 𝕄) (recvPay x w h d) := by
  match h with
  | .inl (⟨0, _⟩, s) => exact (inferInstance : BI.Storable upEmb (iprop((H4 d a3 (s.val + 1) 0 (cwU x w 0 s.val (lf d) 0) ∗ H4 d a3 (s.val + 1) 1 (cwU x w 0 s.val (lf d) 1)) ∗ RR (F := F) (Pn s.val (lf d)))))
  | .inl (⟨1, _⟩, s) => exact (inferInstance : BI.Storable upEmb (iprop((H4 d a4 (s.val + 1) 0 (ccwU x w 0 s.val (rt d) 0) ∗ H4 d a4 (s.val + 1) 1 (ccwU x w 0 s.val (rt d) 1)) ∗ emp)))
  | .inl (⟨2, _⟩, s) => exact (inferInstance : BI.Storable upEmb (iprop((H4 d a5 (s.val + 1) 0 (cwU x w 1 s.val (lf d) 0) ∗ H4 d a5 (s.val + 1) 1 (cwU x w 1 s.val (lf d) 1)) ∗ emp)))
  | .inl (⟨3, _⟩, s) => exact (inferInstance : BI.Storable upEmb (iprop((H4 d a6 (s.val + 1) 0 (ccwU x w 1 s.val (rt d) 0) ∗ H4 d a6 (s.val + 1) 1 (ccwU x w 1 s.val (rt d) 1)) ∗ emp)))
  | .inl (⟨4, _⟩, s) => exact (inferInstance : BI.Storable upEmb (iprop(H3 d a8 (s.val + 1) (ztU x w s.val (dn d)) ∗ RR (F := F) (Zn s.val (dn d)))))
  | .inl (⟨5, _⟩, s) => exact (inferInstance : BI.Storable upEmb (iprop(H3 d a9 (s.val + 1) (zuU x w s.val (dn d)) ∗ emp)))
  | .inl (⟨6, _⟩, s) => exact (inferInstance : BI.Storable upEmb (iprop(H3 d a10 (s.val + 1) (zdU x w s.val (up d)) ∗ emp)))
  | .inr o => unfold recvPay; infer_instance

instance barPay_storable (i : Fin 4) (d : Dev nD) : BI.Storable (upEmb : UEmb _ 𝕄) (barPay (F := F) i d) := by
  match i with
  | ⟨0, _⟩ => exact (inferInstance : BI.Storable upEmb (land3 (F := F) (dn d) a10))
  | ⟨1, _⟩ => exact (inferInstance : BI.Storable upEmb (iprop(land3 (F := F) (up d) a8 ∗ land3 (F := F) (up d) a9)))
  | ⟨2, _⟩ => exact (inferInstance : BI.Storable upEmb (iprop(land4 (F := F) (lf d) a4 ∗ land4 (F := F) (lf d) a6)))
  | ⟨3, _⟩ => exact (inferInstance : BI.Storable upEmb (iprop(land4 (F := F) (rt d) a3 ∗ land4 (F := F) (rt d) a5)))

/-! ## The schedule -/

/-- The schedule: every cell has one round, of four duties at the barrier and of one at every other. -/
def Rd : Rounds.Schedule (GSem nD τ sig) (Fin 4) 𝕄 where
  duties g r := if r = 0 ∧ g.1.2 = .tc then (match dec g.2 with | none => ∅ | some none => Finset.univ | some (some _) => {0}) else ∅
  unitless _ := False
  amount g _ _ := match dec g.2 with | some (some (_, h)) => amt h | _ => 1
  payload g _ i := match dec g.2 with
    | none => iprop(emp)
    | some none => barPay (F := F) i g.1.1
    | some (some (false, h)) => sendPay x w h g.1.1
    | some (some (true, h)) => recvPay x w h g.1.1
  amount_pos g _ _ _ := by
    split
    · exact amt_pos _
    · exact Nat.one_pos

instance Rd_payload_storable (g : GSem nD τ sig) (r : ℕ) (i : Fin 4) : BI.Storable (upEmb : UEmb _ 𝕄) ((Rd x w).payload g r i) := by
  dsimp only [Rd]
  split <;> infer_instance

theorem duties_bar (c : Dev nD) : (Rd x w).duties (barC c) 0 = Finset.univ := by dsimp only [Rd]; rw [dec_bar]; exact if_pos ⟨rfl, rfl⟩
theorem duties_snd (c : Dev nD) (h : Hop) : (Rd x w).duties (sndC c h) 0 = {0} := by dsimp only [Rd]; rw [dec_snd]; exact if_pos ⟨rfl, rfl⟩
theorem duties_rcv (c : Dev nD) (h : Hop) : (Rd x w).duties (rcvC c h) 0 = {0} := by dsimp only [Rd]; rw [dec_rcv]; exact if_pos ⟨rfl, rfl⟩
theorem duties_later (g : GSem nD τ sig) : ∀ r, 1 ≤ r → (Rd x w).duties g r = ∅ :=
  fun r hr => by dsimp only [Rd]; exact if_neg fun h => by omega
theorem amount_bar (c : Dev nD) (i : Fin 4) : (Rd x w).amount (barC c) 0 i = 1 := by dsimp only [Rd]; rw [dec_bar]
theorem amount_snd (c : Dev nD) (h : Hop) (i : Fin 4) : (Rd x w).amount (sndC c h) 0 i = amt h := by dsimp only [Rd]; rw [dec_snd]
theorem amount_rcv (c : Dev nD) (h : Hop) (i : Fin 4) : (Rd x w).amount (rcvC c h) 0 i = amt h := by dsimp only [Rd]; rw [dec_rcv]
theorem expect_bar (c : Dev nD) : (Rd x w).expect (barC c) 0 = 4 := by
  unfold Schedule.expect Schedule.amountOf; rw [duties_bar]; simp only [amount_bar]; rfl
theorem expect_snd (c : Dev nD) (h : Hop) : (Rd x w).expect (sndC c h) 0 = amt h := by
  unfold Schedule.expect Schedule.amountOf; rw [duties_snd, Finset.sum_singleton, amount_snd]
theorem expect_rcv (c : Dev nD) (h : Hop) : (Rd x w).expect (rcvC c h) 0 = amt h := by
  unfold Schedule.expect Schedule.amountOf; rw [duties_rcv, Finset.sum_singleton, amount_rcv]
theorem payload_bar (c : Dev nD) (i : Fin 4) : (Rd x w).payload (barC c) 0 i = barPay (F := F) i c := by dsimp only [Rd]; rw [dec_bar]
theorem payload_snd (c : Dev nD) (h : Hop) (i : Fin 4) : (Rd x w).payload (sndC c h) 0 i = sendPay x w h c := by dsimp only [Rd]; rw [dec_snd]
theorem payload_rcv (c : Dev nD) (h : Hop) (i : Fin 4) : (Rd x w).payload (rcvC c h) 0 i = recvPay x w h c := by dsimp only [Rd]; rw [dec_rcv]
theorem rest_snd (c : Dev nD) (h : Hop) : bigSep ((Rd x w).duties (sndC c h) 0 \ ∅) (fun i => (Rd x w).payload (sndC c h) 0 i) = sendPay x w h c := by
  rw [Finset.sdiff_empty, duties_snd, bigSep_singleton, payload_snd]
theorem rest_rcv (c : Dev nD) (h : Hop) : bigSep ((Rd x w).duties (rcvC c h) 0 \ ∅) (fun i => (Rd x w).payload (rcvC c h) 0 i) = recvPay x w h c := by
  rw [Finset.sdiff_empty, duties_rcv, bigSep_singleton, payload_rcv]
theorem rest_bar (c : Dev nD) : bigSep ((Rd x w).duties (barC c) 0 \ ∅) (fun i => (Rd x w).payload (barC c) 0 i)
    = bigSep Finset.univ (fun i => barPay (F := F) i c) := by
  rw [Finset.sdiff_empty, duties_bar]; simp only [payload_bar]

end Payloads

/-! ## Debts and levels -/

/-- The copies still to be started at place `n`. -/
def later (n : ℕ) : Finset Hop := Finset.univ.filter fun h => n ≤ pos h

theorem later_insert {h : Hop} {n n' : ℕ} (hn : pos h = n) (hn' : n' = n + 1) : later n = insert h (later n') ∧ h ∉ later n' := by
  subst hn hn'
  refine ⟨Finset.ext fun g => ?_, ?_⟩
  · simp only [later, Finset.mem_insert, Finset.mem_filter, Finset.mem_univ, true_and]
    constructor
    · intro hg
      by_cases he : g = h
      · exact Or.inl he
      · exact Or.inr (by have := mt (pos_inj g h) he; omega)
    · rintro (rfl | hg) <;> omega
  · simp only [later, Finset.mem_filter, Finset.mem_univ, true_and]; omega

theorem later_end : later 36 = ∅ := by
  ext h; have := pos_lt h; simp only [later, Finset.mem_filter, Finset.mem_univ, true_and, Finset.notMem_empty, iff_false]; omega

/-- What device `c` owes the receive semaphores of its targets at place `n`. -/
def O (c : Dev nD) (n : ℕ) : CellTallies nD τ sig Unit := ∑ h ∈ later n, tallyAt (rcvC (tgt h c) h) () (amt h)

theorem O_step (c : Dev nD) {h : Hop} {n n' : ℕ} (hn : pos h = n) (hn' : n' = n + 1) :
    O c n = O c n' + tallyAt (rcvC (tgt h c) h) () (amt h) := by
  unfold O; rw [(later_insert hn hn').1, Finset.sum_insert (later_insert hn hn').2, add_comm]
theorem O_end (c : Dev nD) : O c 36 = 0 := by unfold O; rw [later_end, Finset.sum_empty]

theorem O_pos {c : Dev nD} {n : ℕ} {g : GSem nD τ sig} {u : Unit} (h : 0 < O c n g u) : ∃ k : Hop, n ≤ pos k ∧ g = rcvC (tgt k c) k := by
  unfold O at h
  by_contra hn
  have hz : (∑ k ∈ later n, tallyAt (rcvC (tgt k c) k) () (amt k) : CellTallies nD τ sig Unit) g u = 0 := by
    rw [Finset.sum_apply, Finsupp.finset_sum_apply]
    refine Finset.sum_eq_zero fun k hk => ?_
    rw [tallyAt_apply, if_neg]
    rintro ⟨rfl, -⟩
    exact hn ⟨k, (Finset.mem_filter.1 hk).2, rfl⟩
  omega

def L (g : GSem nD τ sig) : Finset Unit := if g.1.2 = .tc then {()} else ∅
/-- The barrier is waited for before every receive, and the receives in the order of the sends. -/
def lv (g : GSem nD τ sig) (_ : Unit) : ℕ := match dec g.2 with | some none => 1 | some (some (true, h)) => pos h + 2 | _ => 0
theorem L_tc (c : Dev nD) (sm : SemLoc sig) : L ((c : Thread nD τ), sm) = {()} := if_pos rfl
theorem L_of_ne (g : GSem nD τ sig) (h : g.1.2 ≠ .tc) : L g = ∅ := if_neg h
theorem lv_bar (c : Dev nD) (u : Unit) : lv (barC c) u = 1 := by unfold lv; rw [dec_bar]
theorem lv_snd (c : Dev nD) (h : Hop) (u : Unit) : lv (sndC c h) u = 0 := by unfold lv; rw [dec_snd]
theorem lv_rcv (c : Dev nD) (h : Hop) (u : Unit) : lv (rcvC c h) u = pos h + 2 := by unfold lv; rw [dec_rcv]

/-- Every receive may be waited for once the copies up to its own place are started. -/
theorem mayWait_rcv (c : Dev nD) (h : Hop) {n : ℕ} (hn : pos h < n) : (levAts L lv : sProp 𝕄) ⊢ MayWait (c : Thread nD τ) (rcv h) () (O c n) :=
  MayOwe.of_cut (L := L) (lev := lv) (pos h + 2) (fun p hp => by rw [Finset.mem_singleton.mp hp, L_tc]; exact Finset.mem_singleton_self _)
    (fun g u hg => by obtain ⟨k, -, rfl⟩ := O_pos hg; rw [L_tc]; exact Finset.mem_singleton_self _)
    (fun p hp => by rw [Finset.mem_singleton.mp hp]; exact (lv_rcv c h ()).le)
    (fun g u hg => by obtain ⟨k, hk, rfl⟩ := O_pos hg; rw [lv_rcv]; omega)
theorem mayWait_bar (c : Dev nD) : (levAts L lv : sProp 𝕄) ⊢ MayWait (c : Thread nD τ) bar () (O c 0) :=
  MayOwe.of_cut (L := L) (lev := lv) 1 (fun p hp => by rw [Finset.mem_singleton.mp hp, L_tc]; exact Finset.mem_singleton_self _)
    (fun g u hg => by obtain ⟨k, -, rfl⟩ := O_pos hg; rw [L_tc]; exact Finset.mem_singleton_self _)
    (fun p hp => by rw [Finset.mem_singleton.mp hp]; exact (lv_bar c ()).le)
    (fun g u hg => by obtain ⟨k, hk, rfl⟩ := O_pos hg; rw [lv_rcv]; omega)

/-- What a device owes at the launch: its four barrier signals and all its copies. -/
def OB (c : Dev nD) : CellTallies nD τ sig Unit :=
  (((O c 0 + tallyAt (barC (lf c)) () 1) + tallyAt (barC (rt c)) () 1) + tallyAt (barC (dn c)) () 1) + tallyAt (barC (up c)) () 1

theorem OB_pos {c : Dev nD} {g : GSem nD τ sig} {u : Unit} (h : 0 < OB c g u) : (∃ k : Hop, g = rcvC (tgt k c) k) ∨ ∃ d, g = barC d := by
  unfold OB at h
  simp only [Pi.add_apply, Finsupp.add_apply] at h
  by_contra hn
  rw [not_or] at hn
  have h0 : O c 0 g u = 0 := by
    by_contra h0
    obtain ⟨k, -, hk⟩ := O_pos (Nat.pos_of_ne_zero h0)
    exact hn.1 ⟨k, hk⟩
  have hb : ∀ d, (tallyAt (barC d) () 1 : CellTallies nD τ sig Unit) g u = 0 := fun d => by
    rw [tallyAt_apply, if_neg]; rintro ⟨rfl, -⟩; exact hn.2 ⟨d, rfl⟩
  rw [h0, hb, hb, hb, hb] at h
  omega

/-- The launch's own staging copies may be waited for at any time. -/
theorem mayWait_stage (c : Dev nD) (q : DmaSem sig) (hq : q.val < 3) (T : CellTallies nD τ sig Unit) (hT : T = OB c ∨ T = 0) :
    (levAts L lv : sProp 𝕄) ⊢ MayWait (c : Thread nD τ) (.dma q) () T := by
  rcases hT with rfl | rfl
  · refine MayOwe.of_cut (L := L) (lev := lv) 0 (fun p hp => by rw [Finset.mem_singleton.mp hp, L_tc]; exact Finset.mem_singleton_self _)
      (fun g u hg => by rcases OB_pos hg with ⟨k, rfl⟩ | ⟨d, rfl⟩ <;> exact Finset.mem_singleton_self _)
      (fun p hp => by
        rw [Finset.mem_singleton.mp hp]; unfold lv
        rw [show dec (SemLoc.dma q) = none from by show (decN q.val).map some = none; unfold decN; rw [if_pos hq]; rfl])
      (fun g u hg => by
        rcases OB_pos hg with ⟨k, rfl⟩ | ⟨d, rfl⟩
        · rw [lv_rcv]; omega
        · rw [lv_bar]; omega)
  · rw [MayWait_zero]; iintro -; iempintro

end Cert.K01

end
-- ==== Proof.State.lean ====
/-
  The state of a device between two operations of the protocol, and the rules of the protocol's operations: start a copy,
  wait for a received one, wait for a sent one.
-/
module

public import proofs.«01_k».proof.Proof.Proto

@[expose] public section

noncomputable section

namespace Cert.K01

open Cert.KernelIdeal Cert.KernelIdeal.Gen

open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (x : Dev nD → Vec F S4096x256 .bf16) (w : Dev nD → Vec F S256x2048 .bf16) (κ : Dev nD × CI → ℕ)

/-! ## The records -/

/-- What every device knows throughout: the invariants of all cells, that their first rounds are open, and the levels. -/
def Recs : sProp 𝕄 :=
  iprop((bigSep Finset.univ fun ci : Dev nD × CI => cellInv ER (Rd x w) (κ ci) (cellC ci))
    ∗ (bigSep Finset.univ fun ci : Dev nD × CI => reached ER (cellC ci) 0) ∗ levAts L lv)

instance Recs_persistent : BI.Persistent (Recs x w κ) := by unfold Recs; infer_instance

theorem inv_at (ci : Dev nD × CI) :
    (bigSep Finset.univ fun ci : Dev nD × CI => (cellInv ER (Rd x w) (κ ci) (cellC ci) : sProp 𝕄)) ⊢ cellInv ER (Rd x w) (κ ci) (cellC ci) :=
  bigSep_elim (Finset.mem_univ ci)
theorem reached_at (ci : Dev nD × CI) :
    (bigSep Finset.univ fun ci : Dev nD × CI => (reached ER (cellC ci) 0 : sProp 𝕄)) ⊢ reached ER (cellC ci) 0 :=
  bigSep_elim (Finset.mem_univ ci)

theorem Recs_inv (ci : Dev nD × CI) : Recs x w κ ⊢ cellInv ER (Rd x w) (κ ci) (cellC ci) := by
  unfold Recs; iintro ⟨H, -, -⟩
  iapply (inv_at x w κ ci) $$ H
theorem Recs_reached (ci : Dev nD × CI) : Recs x w κ ⊢ reached ER (cellC ci) 0 := by
  unfold Recs; iintro ⟨-, H, -⟩
  iapply (reached_at (F := F) ci) $$ H
theorem Recs_lev : Recs x w κ ⊢ levAts L lv := by unfold Recs; iintro ⟨-, -, H⟩; iexact H

set_option maxRecDepth 10000 in
theorem Recs_wait (c : Dev nD) (h : Hop) {n : ℕ} (hn : pos h < n) : Recs x w κ ⊢ MayWait (c : Thread nD τ) (rcv h) () (O c n) :=
  (Recs_lev x w κ).trans (mayWait_rcv c h hn)
set_option maxRecDepth 10000 in
theorem Recs_wait_bar (c : Dev nD) : Recs x w κ ⊢ MayWait (c : Thread nD τ) bar () (O c 0) :=
  (Recs_lev x w κ).trans (mayWait_bar c)

/-! ## The state -/

/-- The send side of a copy, `n` copies started and `v` of them waited for. -/
def sSt (c : Dev nD) (n v : ℕ) (h : Hop) : sProp 𝕄 :=
  if n ≤ pos h then iprop(dutyTok ER (rcvC (tgt h c) h) 0 0 ∗ dutyTok ER (sndC c h) 0 0 ∗ atPos ER (sndC c h) 0 ∅ 0)
  else if v ≤ pos h then iprop(cred (tallyAt (sndC c h) () (amt h)) ∗ atPos ER (sndC c h) 0 ∅ 0)
  else semVal (sndC c h) 0
/-- The receive side of a copy, `r` of them waited for. -/
def rSt (c : Dev nD) (r : ℕ) (h : Hop) : sProp 𝕄 :=
  if r ≤ rpos h then iprop(cred (tallyAt (rcvC c h) () (amt h)) ∗ atPos ER (rcvC c h) 0 ∅ 0) else semVal (rcvC c h) 0

/-- The protocol state of device `c`: `n` copies started, `r` receives and `v` sends waited for. -/
def St (c : Dev nD) (n r v : ℕ) : sProp 𝕄 :=
  iprop((∃ W, owes (c : Thread nD τ) (O c n) W) ∗ bigSep Finset.univ (sSt (F := F) c n v) ∗ bigSep Finset.univ (rSt (F := F) c r))

theorem sSt_tok {c : Dev nD} {n v : ℕ} {h : Hop} (hn : n ≤ pos h) :
    sSt (F := F) c n v h = iprop(dutyTok ER (rcvC (tgt h c) h) 0 0 ∗ dutyTok ER (sndC c h) 0 0 ∗ atPos ER (sndC c h) 0 ∅ 0) := if_pos hn
theorem sSt_crd {c : Dev nD} {n v : ℕ} {h : Hop} (hn : pos h < n) (hv : v ≤ pos h) :
    sSt (F := F) c n v h = iprop(cred (tallyAt (sndC c h) () (amt h)) ∗ atPos ER (sndC c h) 0 ∅ 0) := by
  unfold sSt; rw [if_neg (by omega), if_pos hv]
theorem sSt_end {c : Dev nD} {n v : ℕ} {h : Hop} (hn : pos h < n) (hv : pos h < v) : sSt (F := F) c n v h = semVal (sndC c h) 0 := by
  unfold sSt; rw [if_neg (by omega), if_neg (by omega)]
theorem rSt_crd {c : Dev nD} {r : ℕ} {h : Hop} (hr : r ≤ rpos h) :
    rSt (F := F) c r h = iprop(cred (tallyAt (rcvC c h) () (amt h)) ∗ atPos ER (rcvC c h) 0 ∅ 0) := if_pos hr
theorem rSt_end {c : Dev nD} {r : ℕ} {h : Hop} (hr : rpos h < r) : rSt (F := F) c r h = semVal (rcvC c h) 0 := if_neg (by omega)

/-- One member of a family is taken out; the rest is the rest of any family that agrees with it elsewhere. -/
theorem take_one {Φ Ψ : Hop → sProp 𝕄} {A B : sProp 𝕄} (h : Hop) (he : ∀ g, g ≠ h → Φ g = Ψ g) (hA : Φ h = A) (hB : Ψ h = B) :
    bigSep Finset.univ Φ ⊢ iprop(A ∗ (B -∗ bigSep Finset.univ Ψ)) := by
  subst hA hB
  have e1 : bigSep Finset.univ Φ = iprop(Φ h ∗ bigSep (Finset.univ.erase h) Φ) := bigSep_univ_split h
  have e2 : bigSep Finset.univ Ψ = iprop(Ψ h ∗ bigSep (Finset.univ.erase h) Ψ) := bigSep_univ_split h
  rw [e1, e2, bigSep_congr (s := Finset.univ.erase h) fun g hg => he g (Finset.ne_of_mem_erase hg)]
  iintro ⟨H1, H2⟩
  isplitl [H1]; · iexact H1
  iintro H; isplitl [H] <;> iassumption

theorem sSt_next {c : Dev nD} {n v : ℕ} {h : Hop} (hn : pos h = n) : ∀ g, g ≠ h → sSt (F := F) c n v g = sSt c (n + 1) v g := fun g hg => by
  have := mt (pos_inj g h) hg
  unfold sSt
  by_cases h1 : n ≤ pos g
  · rw [if_pos h1, if_pos (by omega)]
  · rw [if_neg h1, if_neg (c := n + 1 ≤ pos g) (by omega)]
theorem sSt_close {c : Dev nD} {n v : ℕ} {h : Hop} (hv : pos h = v) : ∀ g, g ≠ h → sSt (F := F) c n v g = sSt c n (v + 1) g := fun g hg => by
  have := mt (pos_inj g h) hg
  unfold sSt
  by_cases h1 : v ≤ pos g
  · rw [if_pos h1, if_pos (c := v + 1 ≤ pos g) (by omega)]
  · rw [if_neg h1, if_neg (c := v + 1 ≤ pos g) (by omega)]
theorem rSt_next {c : Dev nD} {r : ℕ} {h : Hop} (hr : rpos h = r) : ∀ g, g ≠ h → rSt (F := F) c r g = rSt c (r + 1) g := fun g hg => by
  have := mt (rpos_inj g h) hg
  unfold rSt
  by_cases h1 : r ≤ rpos g
  · rw [if_pos h1, if_pos (c := r + 1 ≤ rpos g) (by omega)]
  · rw [if_neg h1, if_neg (c := r + 1 ≤ rpos g) (by omega)]

/-! ## The operations -/

section Ops

variable {x w κ}

/-- Start copy `h`. -/
theorem wp_hop_send {α : Type} {Q : α → sProp 𝕄} {k : PUnit → Prog (TpuEff nD τ sig (Elt F) Λ₀ .tc) α} {c c' : Dev nD} (h : Hop) (hc' : c' = tgt h c) {n n' r : ℕ} (hn : pos h = n) (hn' : n' = n + 1)
    {s : Shape} {e : EltTy} {src dst : Memref sig .tc .vmem s e} {iS iR : DmaSem sig} (hS : iS = sndN h) (hR : iR = rcvN h) {hsc : dst.view.ref.isScScratch = false}
    {hsrc : src.view.WordExact} {hdst : dst.view.WordExact} {hsem : DmaTarget.Typed .vmem (.dma iR) (.remote (Dev.tc c' : Thread nD τ) dst (.dma iS) hsc)}
    (hN : dst.view.dmaCredit = amt h) {q : PosShare TreeShare} {fs : Buf (Elt F) (src.view.loc (c : Thread nD τ))} {fd : Buf (Elt F) (dst.view.loc (tgt h c : Thread nD τ))} {G : sProp 𝕄}
    (hp₁ : (src.view.loc (c : Thread nD τ) ↦[src.view.set]{q} fs) ⊢ sendPay x w h c)
    (hp₂ : iprop((dst.view.loc (tgt h c : Thread nD τ) ↦[dst.view.set]{fullShare} (dst.view.write (Elt F) fd (src.view.read (Elt F) fs) Finset.univ)) ∗ G) ⊢ recvPay x w h (tgt h c)) :
    iprop(Recs x w κ ∗ St (F := F) c n r 0 ∗ (src.view.loc (c : Thread nD τ) ↦[src.view.set]{q} fs) ∗ (dst.view.loc (tgt h c : Thread nD τ) ↦[dst.view.set]{fullShare} fd) ∗ G)
      ⊢ iprop((St (F := F) c n' r 0 -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc c' : Thread nD τ) dst (.dma iS) hsc) (.dma iR) hsrc hdst hsem) k) Q) := by
  subst hc' hS hR hn'
  unfold St
  iintro ⟨#HR, ⟨⟨%W, HO⟩, Hs, Hr⟩, Hsrc, Hdst, HG⟩ Hk
  ihave Ht := (take_one h (sSt_next hn) (sSt_tok hn.ge) (sSt_crd (by omega) (Nat.zero_le _))) $$ Hs
  icases Ht with ⟨Ht, Hback⟩
  icases Ht with ⟨Htr, Hts, Hat⟩
  iapply (Rounds.wp_send_pointsTo_with 𝒱₀ ER (Rd x w) (c : Thread nD τ) none (κ₁ := κ (c, some (false, h))) (κ₂ := κ (tgt h c, some (true, h)))
    (sS := snd h) (sem := rcv h) (r₁ := 0) (r₂ := 0) (d₁ := 0) (d₂ := 0) (fd := fd) (F := G) (W := W)
    (by rw [duties_snd]; exact Finset.mem_singleton_self _) (by rw [duties_rcv]; exact Finset.mem_singleton_self _)
    () () (amt h) hN (amount_snd x w c h 0) (amount_rcv x w (tgt h c) h 0) (O c (n + 1)) (O_step c hn rfl)
    (by rw [payload_snd]; exact hp₁) (by rw [payload_rcv]; exact hp₂)) $$ [HO Htr Hts Hsrc Hdst HG]
  · isplitr; · iapply (Recs_inv x w κ (c, some (false, h))); iexact HR
    isplitr; · iapply (Recs_inv x w κ (tgt h c, some (true, h))); iexact HR
    isplitl [Hsrc]; · iexact Hsrc
    isplitl [Hdst HG]; · isplitl [Hdst] <;> iassumption
    isplitl [HO]; · iexact HO
    isplitl [Hts]; · iexact Hts
    isplitr; · iapply (Recs_reached x w κ (c, some (false, h))); iexact HR
    isplitl [Htr]; · iexact Htr
    iapply (Recs_reached x w κ (tgt h c, some (true, h))); iexact HR
  iintro ⟨Hcr, HO⟩
  iapply Hk
  isplitl [HO]; · iexists W; iexact HO
  isplitl [Hback Hcr Hat]
  · iapply Hback; isplitl [Hcr] <;> iassumption
  iexact Hr

/-- Wait for the copy `h` that arrives here. -/
theorem wp_hop_recv {α : Type} {Q : α → sProp 𝕄} {k : PUnit → Prog (TpuEff nD τ sig (Elt F) Λ₀ .tc) α} {c : Dev nD} (h : Hop) {n r r' : ℕ} (hr : rpos h = r) (hr' : r' = r + 1) (hn : pos h < n)
    {s s' : Shape} {e e' : EltTy} {src : Memref sig .tc .vmem s e} {dst : Memref sig .tc .vmem s' e'} {iR : DmaSem sig} (hR : iR = rcvN h)
    {hsrc : src.view.WordExact} {hdst : dst.view.WordExact}
    (hN : dst.view.dmaCredit = amt h) :
    iprop(Recs x w κ ∗ St (F := F) c n r 0)
      ⊢ iprop((iprop(St (F := F) c n r' 0 ∗ recvPay x w h c) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 iR src dst hsrc hdst) k) Q) := by
  subst hR hr'
  unfold St
  iintro ⟨#HR, ⟨⟨%W, HO⟩, Hs, Hr⟩⟩ Hk
  ihave Ht := (take_one h (rSt_next hr) (rSt_crd hr.ge) (rSt_end (by omega))) $$ Hr
  icases Ht with ⟨Ht, Hback⟩
  icases Ht with ⟨Hc, Hat⟩
  iapply (Rounds.wp_wait_rest_token 𝒱₀ ER (Rd x w) (c : Thread nD τ) none (κ := κ (c, some (true, h)))
      (wpE_waitDma2_eq 𝒱₀ (c : Thread nD τ) none Set.univ) (Set.mem_univ _) () (O := O c n) (W := W) (R := 0) (m := 0) (T := ∅)
      ((Nat.zero_add _).trans (hN.trans (expect_rcv x w c h).symm))) $$ [Hc HO Hat]
  · isplitr; · iapply (Recs_inv x w κ (c, some (true, h))); iexact HR
    isplitl [Hc]; · rw [hN]; iexact Hc
    isplitl [HO]; · iexact HO
    isplitr; · iapply (Recs_wait x w κ c h hn); iexact HR
    iexact Hat
  iintro ⟨HO, Hat, -, Hpay⟩
  ihave Hp := (Entails.of_eq (rest_rcv x w c h)) $$ Hpay
  imod (Rounds.cell_close ER (Rd x w) (Set.mem_univ (κ (c, some (true, h)))) (fun h => h) (R := 0 + 1) (duties_later x w (rcvC c h))) $$ [Hat] with Hz
  · isplitr; · iapply (Recs_inv x w κ (c, some (true, h))); iexact HR
    iexact Hat
  iapply Hk
  isplitl [HO Hs Hback Hz]
  · isplitl [HO]; · iexists _; iexact HO
    isplitl [Hs]; · iexact Hs
    iapply Hback; iexact Hz
  iexact Hp

/-- Wait until the copy `h` started here has left. -/
theorem wp_hop_left {α : Type} {Q : α → sProp 𝕄} {k : PUnit → Prog (TpuEff nD τ sig (Elt F) Λ₀ .tc) α} {c : Dev nD} (h : Hop) {r v v' : ℕ} (hv : pos h = v) (hv' : v' = v + 1)
    {s s' : Shape} {e e' : EltTy} {src : Memref sig .tc .vmem s e} {dst : Memref sig .tc .vmem s' e'} {iS : DmaSem sig} (hS : iS = sndN h)
    {hsrc : src.view.WordExact} {hdst : dst.view.WordExact}
    (hN : dst.view.dmaCredit = amt h) :
    iprop(Recs x w κ ∗ St (F := F) c 36 r v)
      ⊢ iprop((iprop(St (F := F) c 36 r v' ∗ sendPay x w h c) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 iS src dst hsrc hdst) k) Q) := by
  subst hS hv'
  unfold St
  iintro ⟨#HR, ⟨⟨%W, HO⟩, Hs, Hr⟩⟩ Hk
  ihave Ht := (take_one h (sSt_close hv) (sSt_crd (pos_lt h) hv.ge) (sSt_end (pos_lt h) (by omega))) $$ Hs
  icases Ht with ⟨Ht, Hback⟩
  icases Ht with ⟨Hc, Hat⟩
  iapply (Rounds.wp_wait_rest_token 𝒱₀ ER (Rd x w) (c : Thread nD τ) none (κ := κ (c, some (false, h)))
      (wpE_waitDma2_eq 𝒱₀ (c : Thread nD τ) none Set.univ) (Set.mem_univ _) () (O := O c 36) (W := W) (R := 0) (m := 0) (T := ∅)
      ((Nat.zero_add _).trans (hN.trans (expect_snd x w c h).symm))) $$ [Hc HO Hat]
  · isplitr; · iapply (Recs_inv x w κ (c, some (false, h))); iexact HR
    isplitl [Hc]; · rw [hN]; iexact Hc
    isplitl [HO]; · iexact HO
    isplitr; · rw [O_end, MayWait_zero]; iempintro
    iexact Hat
  iintro ⟨HO, Hat, -, Hpay⟩
  ihave Hp := (Entails.of_eq (rest_snd x w c h)) $$ Hpay
  imod (Rounds.cell_close ER (Rd x w) (Set.mem_univ (κ (c, some (false, h)))) (fun h => h) (R := 0 + 1) (duties_later x w (sndC c h))) $$ [Hat] with Hz
  · isplitr; · iapply (Recs_inv x w κ (c, some (false, h))); iexact HR
    iexact Hat
  iapply Hk
  isplitl [HO Hr Hback Hz]
  · isplitl [HO]; · iexists _; iexact HO
    isplitl [Hback Hz]; · iapply Hback; iexact Hz
    iexact Hr
  iexact Hp

end Ops

theorem free_of_pts {s : Shape} {e : EltTy} (c : Dev nD) (M : Memref sig .tc .vmem s e) {S : Finset s.Idx} (f : Buf (Elt F) (M.view.loc (c : Thread nD τ))) :
    (M.view.loc (c : Thread nD τ) ↦[M.view.setOn S]{fullShare} f : sProp 𝕄) ⊢ free (F := F) c M S := by
  unfold free; iintro H; iexists f; iexact H
theorem hold_of_pts {s : Shape} {e : EltTy} (c : Dev nD) (M : Memref sig .tc .vmem s e) {q} {S D : Finset s.Idx} {X : s.Idx → Elt F e} (f : Buf (Elt F) (M.view.loc (c : Thread nD τ)))
    (h : ∀ i ∈ D, M.view.read (Elt F) f i = X i) :
    (M.view.loc (c : Thread nD τ) ↦[M.view.setOn S]{q} f : sProp 𝕄) ⊢ hold c M q S D X := by
  unfold hold; iintro H; iexists f; isplitr; · ipureintro; exact h
  iexact H

/-! ## Copies of a slot -/

section Slots

variable {x w κ}

/-- Start a copy of slot `s` of a four-axis buffer into slot `s + 1` of the same buffer of the target. -/
theorem wp_send4 {α : Type} {Q : α → sProp 𝕄} {k : PUnit → Prog (TpuEff nD τ sig (Elt F) Λ₀ .tc) α} {c c' : Dev nD} (M : Memref sig .tc .vmem S4x2x128x2048 .bf16) (h : Hop) (s t : ℕ) (hc' : c' = tgt h c) {n n' r : ℕ} (hn : pos h = n) (hn' : n' = n + 1)
    {inb inb'} {iS iR : DmaSem sig} (hS : iS = sndN h) (hR : iR = rcvN h) {hsc} {hsrc hdst} {hsem}
    (hN : ((M.slice (Rect.unit (s := S4x2x128x2048) ![t, 0, 0, 0] S1x2x128x2048.size inb') (fun _ => rfl)).squeeze S2x128x2048 squeezes_S1x2x128x2048_S2x128x2048).view.dmaCredit = amt h)
    {v0 v1 : Vec F S1x1x128x2048 .bf16} {G : sProp 𝕄}
    (hp₁ : free (F := F) c M (slot4 s) ⊢ sendPay x w h c)
    (hp₂ : iprop((H4 (tgt h c) M t 0 v0 ∗ H4 (tgt h c) M t 1 v1) ∗ G) ⊢ recvPay x w h (tgt h c)) :
    iprop(Recs x w κ ∗ St (F := F) c n r 0 ∗ (H4 c M s 0 v0 ∗ H4 c M s 1 v1) ∗ free (F := F) (tgt h c) M (slot4 t) ∗ G)
      ⊢ iprop((St (F := F) c n' r 0 -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma ((M.slice (Rect.unit (s := S4x2x128x2048) ![s, 0, 0, 0] S1x2x128x2048.size inb) (fun _ => rfl)).squeeze S2x128x2048 squeezes_S1x2x128x2048_S2x128x2048)
                (.remote (Dev.tc c' : Thread nD τ) ((M.slice (Rect.unit (s := S4x2x128x2048) ![t, 0, 0, 0] S1x2x128x2048.size inb') (fun _ => rfl)).squeeze S2x128x2048 squeezes_S1x2x128x2048_S2x128x2048) (.dma iS) hsc) (.dma iR) hsrc hdst hsem) k) Q) := by
  let X : S4x2x128x2048.Idx → Elt F .bf16 := fun i => if (i 1).val = 0 then X4 v0 i else X4 v1 i
  have e0 (d : Dev nD) (a : ℕ) : H4 d M a 0 v0 ⊢ hold d M fullShare (half a 0) (half a 0) X := hold_mono d M fun i hi =>
    ⟨hi, (if_pos (Finset.mem_filter.1 hi).2.2).symm⟩
  have e1 (d : Dev nD) (a : ℕ) : H4 d M a 1 v1 ⊢ hold d M fullShare (half a 1) (half a 1) X := hold_mono d M fun i hi =>
    ⟨hi, (if_neg (by have := (Finset.mem_filter.1 hi).2.2; omega)).symm⟩
  have es : iprop(H4 c M s 0 v0 ∗ H4 c M s 1 v1) ⊢ hold c M fullShare (slot4 s) (slot4 s) X := by
    rw [slot4_eq]
    exact (Laws.sep_mono (e0 c s) (e1 c s)).trans (hold_union c M (half_disj (Or.inr (by decide))) (Finset.Subset.refl _) (Finset.Subset.refl _))
  have et : hold (tgt h c) M fullShare (slot4 t) (slot4 t) X ⊢ iprop(H4 (tgt h c) M t 0 v0 ∗ H4 (tgt h c) M t 1 v1) := by
    rw [slot4_eq]
    refine (hold_split (tgt h c) M (half_disj (Or.inr (by decide)))).trans (Laws.sep_mono (hold_mono _ M fun i hi => ⟨Finset.mem_union_left _ hi, if_pos (Finset.mem_filter.1 hi).2.2⟩)
      (hold_mono _ M fun i hi => ⟨Finset.mem_union_right _ hi, if_neg (by have := (Finset.mem_filter.1 hi).2.2; omega)⟩))
  have hset (a : ℕ) (ia) : ((M.slice (Rect.unit (s := S4x2x128x2048) ![a, 0, 0, 0] S1x2x128x2048.size ia) (fun _ => rfl)).squeeze S2x128x2048 squeezes_S1x2x128x2048_S2x128x2048).view.set = M.view.setOn (slot4 a) := by
    exact (View.set_reshape _ _).trans ((View.set_slice M.view _).trans (congrArg (Finset.map M.view.emb) (rect_slot4 a ia)))
  iintro ⟨#HR, HSt, Hsrc, Hdst, HG⟩
  ihave Hs := es $$ Hsrc
  unfold hold free
  icases Hs with ⟨%fs, %hfs, Hs⟩
  icases Hdst with ⟨%fd, Hd⟩
  rw [← hset s inb, ← hset t inb']
  iapply (wp_hop_send (x := x) (w := w) (κ := κ) h hc' hn hn' (src := (M.slice (Rect.unit (s := S4x2x128x2048) ![s, 0, 0, 0] S1x2x128x2048.size inb) (fun _ => rfl)).squeeze S2x128x2048 squeezes_S1x2x128x2048_S2x128x2048)
    (dst := (M.slice (Rect.unit (s := S4x2x128x2048) ![t, 0, 0, 0] S1x2x128x2048.size inb') (fun _ => rfl)).squeeze S2x128x2048 squeezes_S1x2x128x2048_S2x128x2048)
    hS hR hN (q := fullShare) (fs := fs) (fd := fd) (G := G) ?_ ?_)
  · exact ((Entails.of_eq (by rw [hset s inb])).trans (free_of_pts c M (S := slot4 s) fs)).trans hp₁
  · refine (sep_mono_left (((Entails.of_eq (by rw [hset t inb'])).trans (hold_of_pts (tgt h c) M (D := slot4 t) (X := X) _ ?_)).trans et)).trans hp₂
    · intro i hi
      rw [← rect_slot4 t inb'] at hi
      obtain ⟨y, rfl⟩ := (Rect.unit (s := S4x2x128x2048) ![t, 0, 0, 0] S1x2x128x2048.size inb').exists_idx_of_mem hi
      refine (read_copy M.view M.view ![s, 0, 0, 0] ![t, 0, 0, 0] S1x2x128x2048.size inb inb' _ _ fd fs y).trans ?_
      rw [hfs _ (by rw [← rect_slot4 s inb]; exact (Rect.unit (s := S4x2x128x2048) ![s, 0, 0, 0] S1x2x128x2048.size inb).idx_mem y)]
      rfl
  isplitr; · iexact HR
  isplitl [HSt]; · iexact HSt
  isplitl [Hs]; · iexact Hs
  isplitl [Hd] <;> iassumption

/-- Start a copy of slot `s` of a three-axis buffer into slot `t` of the same buffer of the target. -/
theorem wp_send3 {α : Type} {Q : α → sProp 𝕄} {k : PUnit → Prog (TpuEff nD τ sig (Elt F) Λ₀ .tc) α} {m : ℕ} {s' : Shape} {hq : (⟨3, ![1, m, 2048]⟩ : Shape).Squeezes s'} {c c' : Dev nD} (M : Memref sig .tc .vmem ⟨3, ![4, m, 2048]⟩ .bf16) (h : Hop) (s t : ℕ) (hc' : c' = tgt h c) {n n' r : ℕ} (hn : pos h = n) (hn' : n' = n + 1)
    {inb inb'} {iS iR : DmaSem sig} (hS : iS = sndN h) (hR : iR = rcvN h) {hsc} {hsrc hdst} {hsem}
    (hN : ((M.slice (Rect.unit (s := ⟨3, ![4, m, 2048]⟩) ![t, 0, 0] (⟨3, ![1, m, 2048]⟩ : Shape).size inb') (fun _ => rfl)).squeeze s' hq).view.dmaCredit = amt h)
    {v : Vec F ⟨3, ![1, m, 2048]⟩ .bf16} {G : sProp 𝕄}
    (hp₁ : F3 (F := F) c M s ⊢ sendPay x w h c)
    (hp₂ : iprop(H3 (tgt h c) M t v ∗ G) ⊢ recvPay x w h (tgt h c)) :
    iprop(Recs x w κ ∗ St (F := F) c n r 0 ∗ H3 c M s v ∗ F3 (F := F) (tgt h c) M t ∗ G)
      ⊢ iprop((St (F := F) c n' r 0 -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma ((M.slice (Rect.unit (s := ⟨3, ![4, m, 2048]⟩) ![s, 0, 0] (⟨3, ![1, m, 2048]⟩ : Shape).size inb) (fun _ => rfl)).squeeze s' hq)
                (.remote (Dev.tc c' : Thread nD τ) ((M.slice (Rect.unit (s := ⟨3, ![4, m, 2048]⟩) ![t, 0, 0] (⟨3, ![1, m, 2048]⟩ : Shape).size inb') (fun _ => rfl)).squeeze s' hq) (.dma iS) hsc) (.dma iR) hsrc hdst hsem) k) Q) := by
  have hset (a : ℕ) (ia) : ((M.slice (Rect.unit (s := ⟨3, ![4, m, 2048]⟩) ![a, 0, 0] (⟨3, ![1, m, 2048]⟩ : Shape).size ia) (fun _ => rfl)).squeeze s' hq).view.set = M.view.setOn (slot3 a) := by
    exact (View.set_reshape _ _).trans ((View.set_slice M.view _).trans (congrArg (Finset.map M.view.emb) (rect_slot3 a ia)))
  iintro ⟨#HR, HSt, Hs, Hdst, HG⟩
  unfold H3 hold F3 free
  icases Hs with ⟨%fs, %hfs, Hs⟩
  icases Hdst with ⟨%fd, Hd⟩
  rw [← hset s inb, ← hset t inb']
  iapply (wp_hop_send (x := x) (w := w) (κ := κ) h hc' hn hn' (src := (M.slice (Rect.unit (s := ⟨3, ![4, m, 2048]⟩) ![s, 0, 0] (⟨3, ![1, m, 2048]⟩ : Shape).size inb) (fun _ => rfl)).squeeze s' hq)
    (dst := (M.slice (Rect.unit (s := ⟨3, ![4, m, 2048]⟩) ![t, 0, 0] (⟨3, ![1, m, 2048]⟩ : Shape).size inb') (fun _ => rfl)).squeeze s' hq)
    hS hR hN (q := fullShare) (fs := fs) (fd := fd) (G := G) ?_ ?_)
  · exact ((Entails.of_eq (by rw [hset s inb])).trans (free_of_pts c M (S := slot3 s) fs)).trans hp₁
  · refine (sep_mono_left (((Entails.of_eq (by rw [hset t inb'])).trans (hold_of_pts (tgt h c) M (D := slot3 t) (X := X3 v) _ ?_)))).trans hp₂
    · intro i hi
      rw [← rect_slot3 t inb'] at hi
      obtain ⟨y, rfl⟩ := (Rect.unit (s := ⟨3, ![4, m, 2048]⟩) ![t, 0, 0] (⟨3, ![1, m, 2048]⟩ : Shape).size inb').exists_idx_of_mem hi
      refine (read_copy M.view M.view ![s, 0, 0] ![t, 0, 0] (⟨3, ![1, m, 2048]⟩ : Shape).size inb inb' _ _ fd fs y).trans ?_
      rw [hfs _ (by rw [← rect_slot3 s inb]; exact (Rect.unit (s := ⟨3, ![4, m, 2048]⟩) ![s, 0, 0] (⟨3, ![1, m, 2048]⟩ : Shape).size inb).idx_mem y)]
      rfl
  isplitr; · iexact HR
  isplitl [HSt]; · iexact HSt
  isplitl [Hs]; · iexact Hs
  isplitl [Hd] <;> iassumption

end Slots

end Cert.K01

end
-- ==== Proof.Steps.lean ====
/-
  The steps of the kernel: its loads, stores and copies over the resources of the proof, at the addresses and devices it
  computes.
-/
module

public import proofs.«01_k».proof.Proof.State

@[expose] public section

noncomputable section

namespace Cert.K01

open Cert.KernelIdeal Cert.KernelIdeal.Gen

open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Devices and addresses -/

theorem dev1_eq (c : Dev nD) : (⟨k0_dev1 c, k0_dev1_lt c⟩ : Dev nD) = up c := by revert c; decide +kernel
theorem dev2_eq (c : Dev nD) : (⟨k0_dev2 c, k0_dev2_lt c⟩ : Dev nD) = dn c := by revert c; decide +kernel
theorem dev3_eq (c : Dev nD) : (⟨k0_dev3 c, k0_dev3_lt c⟩ : Dev nD) = rt c := by revert c; decide +kernel
theorem dev4_eq (c : Dev nD) : (⟨k0_dev4 c, k0_dev4_lt c⟩ : Dev nD) = lf c := by revert c; decide +kernel
theorem dev5_eq (c : Dev nD) : (⟨k0_dev5 c, k0_dev5_lt c⟩ : Dev nD) = rt c := by revert c; decide +kernel
theorem dev6_eq (c : Dev nD) : (⟨k0_dev6 c, k0_dev6_lt c⟩ : Dev nD) = lf c := by revert c; decide +kernel
theorem dev7_eq (c : Dev nD) : (⟨k0_dev7 c, k0_dev7_lt c⟩ : Dev nD) = rt c := by revert c; decide +kernel
theorem dev8_eq (c : Dev nD) : (⟨k0_dev8 c, k0_dev8_lt c⟩ : Dev nD) = lf c := by revert c; decide +kernel
theorem dev9_eq (c : Dev nD) : (⟨k0_dev9 c, k0_dev9_lt c⟩ : Dev nD) = rt c := by revert c; decide +kernel
theorem dev10_eq (c : Dev nD) : (⟨k0_dev10 c, k0_dev10_lt c⟩ : Dev nD) = lf c := by revert c; decide +kernel
theorem dev11_eq (c : Dev nD) : (⟨k0_dev11 c, k0_dev11_lt c⟩ : Dev nD) = up c := by revert c; decide +kernel
theorem dev12_eq (c : Dev nD) : (⟨k0_dev12 c, k0_dev12_lt c⟩ : Dev nD) = rt c := by revert c; decide +kernel
theorem dev13_eq (c : Dev nD) : (⟨k0_dev13 c, k0_dev13_lt c⟩ : Dev nD) = lf c := by revert c; decide +kernel
theorem dev14_eq (c : Dev nD) : (⟨k0_dev14 c, k0_dev14_lt c⟩ : Dev nD) = up c := by revert c; decide +kernel
theorem dev15_eq (c : Dev nD) : (⟨k0_dev15 c, k0_dev15_lt c⟩ : Dev nD) = rt c := by revert c; decide +kernel
theorem dev16_eq (c : Dev nD) : (⟨k0_dev16 c, k0_dev16_lt c⟩ : Dev nD) = lf c := by revert c; decide +kernel
theorem dev17_eq (c : Dev nD) : (⟨k0_dev17 c, k0_dev17_lt c⟩ : Dev nD) = up c := by revert c; decide +kernel
theorem dev18_eq (c : Dev nD) : (⟨k0_dev18 c, k0_dev18_lt c⟩ : Dev nD) = rt c := by revert c; decide +kernel
theorem dev19_eq (c : Dev nD) : (⟨k0_dev19 c, k0_dev19_lt c⟩ : Dev nD) = lf c := by revert c; decide +kernel
theorem dev20_eq (c : Dev nD) : (⟨k0_dev20 c, k0_dev20_lt c⟩ : Dev nD) = up c := by revert c; decide +kernel
theorem dev21_eq (c : Dev nD) : (⟨k0_dev21 c, k0_dev21_lt c⟩ : Dev nD) = dn c := by revert c; decide +kernel
theorem dev22_eq (c : Dev nD) : (⟨k0_dev22 c, k0_dev22_lt c⟩ : Dev nD) = up c := by revert c; decide +kernel
theorem dev23_eq (c : Dev nD) : (⟨k0_dev23 c, k0_dev23_lt c⟩ : Dev nD) = dn c := by revert c; decide +kernel
theorem dev24_eq (c : Dev nD) : (⟨k0_dev24 c, k0_dev24_lt c⟩ : Dev nD) = up c := by revert c; decide +kernel
theorem dev25_eq (c : Dev nD) : (⟨k0_dev25 c, k0_dev25_lt c⟩ : Dev nD) = dn c := by revert c; decide +kernel
theorem dev26_eq (c : Dev nD) : (⟨k0_dev26 c, k0_dev26_lt c⟩ : Dev nD) = fwd 1 c := by revert c; decide +kernel
theorem dev27_eq (c : Dev nD) : (⟨k0_dev27 c, k0_dev27_lt c⟩ : Dev nD) = fwd 2 c := by revert c; decide +kernel
theorem dev28_eq (c : Dev nD) : (⟨k0_dev28 c, k0_dev28_lt c⟩ : Dev nD) = fwd 3 c := by revert c; decide +kernel
theorem dev29_eq (c : Dev nD) : (⟨k0_dev29 c, k0_dev29_lt c⟩ : Dev nD) = fwd 4 c := by revert c; decide +kernel
theorem dev30_eq (c : Dev nD) : (⟨k0_dev30 c, k0_dev30_lt c⟩ : Dev nD) = fwd 5 c := by revert c; decide +kernel
theorem dev31_eq (c : Dev nD) : (⟨k0_dev31 c, k0_dev31_lt c⟩ : Dev nD) = fwd 6 c := by revert c; decide +kernel
theorem dev32_eq (c : Dev nD) : (⟨k0_dev32 c, k0_dev32_lt c⟩ : Dev nD) = fwd 7 c := by revert c; decide +kernel
theorem dev33_eq (c : Dev nD) : (⟨k0_dev33 c, k0_dev33_lt c⟩ : Dev nD) = fwd 8 c := by revert c; decide +kernel
theorem dev34_eq (c : Dev nD) : (⟨k0_dev34 c, k0_dev34_lt c⟩ : Dev nD) = fwd 9 c := by revert c; decide +kernel
theorem dev35_eq (c : Dev nD) : (⟨k0_dev35 c, k0_dev35_lt c⟩ : Dev nD) = fwd 10 c := by revert c; decide +kernel
theorem dev36_eq (c : Dev nD) : (⟨k0_dev36 c, k0_dev36_lt c⟩ : Dev nD) = fwd 11 c := by revert c; decide +kernel
theorem dev37_eq (c : Dev nD) : (⟨k0_dev37 c, k0_dev37_lt c⟩ : Dev nD) = fwd 12 c := by revert c; decide +kernel
theorem dev38_eq (c : Dev nD) : (⟨k0_dev38 c, k0_dev38_lt c⟩ : Dev nD) = fwd 13 c := by revert c; decide +kernel
theorem dev39_eq (c : Dev nD) : (⟨k0_dev39 c, k0_dev39_lt c⟩ : Dev nD) = fwd 14 c := by revert c; decide +kernel
theorem dev40_eq (c : Dev nD) : (⟨k0_dev40 c, k0_dev40_lt c⟩ : Dev nD) = fwd 15 c := by revert c; decide +kernel

/-- The rows of the first partial products of a phase. -/
theorem off1_at (c : Dev nD) (b : Fin 4) (j : Fin 4) (h : Fin 2) :
    k0_off1 c (BitVec.ofNat 32 (4 * b.val)) (BitVec.ofNat 32 j.val) (BitVec.ofNat 32 (128 * h.val)) = ![rw4 b.val (c.val % 4 + j.val) h.val, 0] := by
  revert c b j h; decide +kernel
/-- The rows of the partial products added to what comes from the left. -/
theorem off2_at (c : Dev nD) (b : Fin 2) (s : Fin 3) (h : Fin 2) :
    k0_off2 c (BitVec.ofNat 32 (4 * b.val)) (BitVec.ofNat 32 s.val) (BitVec.ofNat 32 (128 * h.val)) = ![rw4 b.val (c.val % 4 + (6 - s.val)) h.val, 0] := by
  revert c b s h; decide +kernel
/-- The rows of the partial products added to what comes from the right. -/
theorem off3_at (c : Dev nD) (b : Fin 2) (s : Fin 3) (h : Fin 2) :
    k0_off3 c (BitVec.ofNat 32 (8 + 4 * b.val)) (BitVec.ofNat 32 s.val) (BitVec.ofNat 32 (128 * h.val)) = ![rw4 (b.val + 2) (c.val % 4 + (2 + s.val)) h.val, 0] := by
  revert c b s h; decide +kernel

theorem zrow_lt (k : ℕ) : 256 * (k % 4) + 256 ≤ 1024 := by omega

/-! ## Loads and stores -/

section Local

variable (x : Dev nD → Vec F S4096x256 .bf16) (w : Dev nD → Vec F S256x2048 .bf16)

/-- The activations of device `c`. -/
def XR (c : Dev nD) : sProp 𝕄 := hold c a0 fullShare Finset.univ Finset.univ (x c)
/-- The weights as the kernel keeps them. -/
def WR (c : Dev nD) : sProp 𝕄 := hold c a11 fullShare Finset.univ Finset.univ (wb w c)
/-- The in-plane sums, the first `n` of its eight bands known (block `b` of half `h` is band `4 h + b`). -/
def PSUM (c : Dev nD) (n : ℕ) : sProp 𝕄 :=
  hold c a7 fullShare Finset.univ (Finset.univ.filter fun i => (i 0).val % 256 / 128 * 4 + (i 0).val / 256 < n) (PS x w c)
/-- The result buffer, its first `n` rows holding finished sums. -/
def OUTY (c : Dev nD) (n : ℕ) : sProp 𝕄 := hold c a2 fullShare Finset.univ (Finset.univ.filter fun i => (i 0).val < n) (Y x w c)

variable {x w}

theorem x_load {α : Type} {Q : α → sProp 𝕄} {c : Dev nD} {r : ℕ} {off : Fin 2 → ℕ} {inb} {hl} {k : Vec F S128x256 .bf16 → Prog (TpuEff nD τ sig (Elt F) Λ₀ .tc) α}
    (hoff : off = ![r, 0]) :
    XR x c ⊢ iprop((XR x c -∗ wp frame (wpE (defs₀ (F := F)) 𝒱₀ (c : Thread nD τ) none) Set.univ (k (xr x c r)) Q)
      -∗ wp frame (wpE (defs₀ (F := F)) 𝒱₀ (c : Thread nD τ) none) Set.univ
          (.op (.load a0 (Rect.unit (s := S4096x256) off S128x256.size inb).toLoadRect hl) k) Q) :=
  rows_load c a0 r hoff (Finset.subset_univ _) (Finset.subset_univ _)

theorem ix2_self {m n : ℕ} (i : (⟨2, ![m, n]⟩ : Shape).Idx) : (ix2 (i 0) (i 1) : (⟨2, ![m, n]⟩ : Shape).Idx) = i := by
  funext a
  match a with
  | ⟨0, _⟩ => rfl
  | ⟨1, _⟩ => rfl

theorem rows_zero {α : Type} {m n : ℕ} [NeZero m] (X : (⟨2, ![m, n]⟩ : Shape).Idx → α) : rows m X 0 = X := by
  funext i
  have h : (i 0).val < m := (i 0).isLt
  unfold rows
  congr 1
  funext a
  match a with
  | ⟨0, _⟩ => exact Fin.ext (by show (0 + (i 0).val) % m = (i 0).val; rw [Nat.zero_add, Nat.mod_eq_of_lt h])
  | ⟨1, _⟩ => rfl

theorem w_load {α : Type} {Q : α → sProp 𝕄} {c : Dev nD} {inb} {hl} {k : Vec F S256x2048 .bf16 → Prog (TpuEff nD τ sig (Elt F) Λ₀ .tc) α} :
    WR w c ⊢ iprop((WR w c -∗ wp frame (wpE (defs₀ (F := F)) 𝒱₀ (c : Thread nD τ) none) Set.univ (k (wb w c)) Q)
      -∗ wp frame (wpE (defs₀ (F := F)) 𝒱₀ (c : Thread nD τ) none) Set.univ
          (.op (.load a11 (Rect.unit (s := S256x2048) ![0, 0] S256x2048.size inb).toLoadRect hl) k) Q) := by
  have h := rows_load (α := α) (Q := Q) (l := 256) (off := ![0, 0]) (inb := inb) (hl := hl) (k := k) (q := fullShare) c a11 (X := wb w c) 0 rfl (Finset.subset_univ _) (Finset.subset_univ _)
  rw [rows_zero] at h
  exact h

theorem ps_rows (c : Dev nD) (b h : ℕ) (hb : b < 4) (hh : h < 2) : rows 128 (PS x w c) (256 * b + 128 * h) = psA x w c b h := by
  funext i
  have hi : (i 0).val < 128 := (i 0).isLt
  have e : (256 * b + 128 * h + (i 0).val) % 1024 = 256 * b + 128 * h + (i 0).val := Nat.mod_eq_of_lt (by omega)
  have e1 : (256 * b + 128 * h + (i 0).val) / 256 = b := by omega
  have e2 : (256 * b + 128 * h + (i 0).val) % 256 / 128 = h := by omega
  have e3 : (256 * b + 128 * h + (i 0).val) % 128 = (i 0).val := by omega
  show psA x w c ((256 * b + 128 * h + (i 0).val) % 1024 / 256) ((256 * b + 128 * h + (i 0).val) % 1024 % 256 / 128)
    (ix2 ⟨(256 * b + 128 * h + (i 0).val) % 1024 % 128, _⟩ (i 1)) = psA x w c b h i
  simp only [e, e1, e2, e3]
  exact congrArg (psA x w c b h) (ix2_self i)

/-- A finished in-plane sum goes to its band. -/
theorem ps_store {α : Type} {Q : α → sProp 𝕄} {c : Dev nD} {n : ℕ} {off : Fin 2 → ℕ} {inb} {hx hm} {v : Vec F S128x2048 .f32} {k : PUnit → Prog (TpuEff nD τ sig (Elt F) Λ₀ .tc) α}
    (b h : ℕ) (hb : b < 4) (hh : h < 2) (hn : n = 4 * h + b + 1) (hoff : off = ![256 * b + 128 * h, 0]) (hv : v = psA x w c b h) :
    PSUM x w c (4 * h + b) ⊢ iprop((PSUM x w c n -∗ wp frame (wpE (defs₀ (F := F)) 𝒱₀ (c : Thread nD τ) none) Set.univ (k ⟨⟩) Q)
      -∗ wp frame (wpE (defs₀ (F := F)) 𝒱₀ (c : Thread nD τ) none) Set.univ
          (.op (.store a7 (Rect.unit (s := S1024x2048) off S128x2048.size inb) v Finset.univ hx hm) k) Q) := by
  subst hn
  refine rows_store c a7 (256 * b + 128 * h) hoff (Finset.subset_univ _) ((ps_rows c b h hb hh).trans hv.symm) fun i hi hni => ⟨?_, rfl⟩
  have h0 : (i 0).val < 1024 := (i 0).isLt
  rw [mem_band] at hni
  simp only [Finset.mem_filter, Finset.mem_univ, true_and] at hi ⊢
  omega

theorem ps_any {α : Type} {Q : α → sProp 𝕄} {c : Dev nD} {n : ℕ} {off : Fin 2 → ℕ} {inb} {hl} {k : Vec F S128x2048 .f32 → Prog (TpuEff nD τ sig (Elt F) Λ₀ .tc) α} :
    PSUM x w c n ⊢ iprop((∀ v, PSUM x w c n -∗ wp frame (wpE (defs₀ (F := F)) 𝒱₀ (c : Thread nD τ) none) Set.univ (k v) Q)
      -∗ wp frame (wpE (defs₀ (F := F)) 𝒱₀ (c : Thread nD τ) none) Set.univ
          (.op (.load a7 (Rect.unit (s := S1024x2048) off S128x2048.size inb).toLoadRect hl) k) Q) := rows_load_any c a7

/-- Rows of a finished in-plane sum. -/
theorem ps_load {α : Type} {Q : α → sProp 𝕄} {c : Dev nD} {n l : ℕ} {off : Fin 2 → ℕ} {inb} {hl} {k : Vec F ⟨2, ![l, 2048]⟩ .f32 → Prog (TpuEff nD τ sig (Elt F) Λ₀ .tc) α}
    (j t : ℕ) (hn : t / 128 * 4 + 4 ≤ n) (hl' : t % 128 + l ≤ 128) (ht : t < 256) (hoff : off = ![256 * (j % 4) + t, 0]) :
    PSUM x w c n ⊢ iprop((PSUM x w c n -∗ wp frame (wpE (defs₀ (F := F)) 𝒱₀ (c : Thread nD τ) none) Set.univ (k (rows l (PS x w c) (256 * (j % 4) + t))) Q)
      -∗ wp frame (wpE (defs₀ (F := F)) 𝒱₀ (c : Thread nD τ) none) Set.univ
          (.op (.load a7 (Rect.unit (s := S1024x2048) off (⟨2, ![l, 2048]⟩ : Shape).size inb).toLoadRect hl) k) Q) := by
  refine rows_load c a7 (256 * (j % 4) + t) hoff (Finset.subset_univ _) fun i hi => ?_
  rw [mem_band] at hi
  have h0 : (i 0).val < 1024 := (i 0).isLt
  simp only [Finset.mem_filter, Finset.mem_univ, true_and]
  omega

/-- The three bands of the result. -/
theorem y_rows0 (c : Dev nD) : rows 128 (Y x w c) 0 = ztA x w c := by
  funext i
  have hi : (i 0).val < 128 := (i 0).isLt
  have e : (0 + (i 0).val) % 256 = (i 0).val := by omega
  have e2 : (i 0).val % 128 = (i 0).val := by omega
  show (if (0 + (i 0).val) % 256 < 128 then ztA x w c (ix2 ⟨(0 + (i 0).val) % 256 % 128, _⟩ (i 1)) else _) = _
  simp only [e, e2, if_pos hi]
  exact congrArg (ztA x w c) (ix2_self i)
theorem y_rows1 (c : Dev nD) : rows 64 (Y x w c) 128 = zuA x w c := by
  funext i
  have hi : (i 0).val < 64 := (i 0).isLt
  have e : (128 + (i 0).val) % 256 = 128 + (i 0).val := by omega
  have e2 : (128 + (i 0).val) % 64 = (i 0).val := by omega
  show (if (128 + (i 0).val) % 256 < 128 then _ else if (128 + (i 0).val) % 256 < 192 then zuA x w c (ix2 ⟨(128 + (i 0).val) % 256 % 64, _⟩ (i 1)) else _) = _
  simp only [e, e2]
  rw [if_neg (by omega), if_pos (by omega)]
  exact congrArg (zuA x w c) (ix2_self i)
theorem y_rows2 (c : Dev nD) : rows 64 (Y x w c) 192 = zdA x w c := by
  funext i
  have hi : (i 0).val < 64 := (i 0).isLt
  have e : (192 + (i 0).val) % 256 = 192 + (i 0).val := by omega
  have e2 : (192 + (i 0).val) % 64 = (i 0).val := by omega
  show (if (192 + (i 0).val) % 256 < 128 then _ else if (192 + (i 0).val) % 256 < 192 then _ else zdA x w c (ix2 ⟨(192 + (i 0).val) % 256 % 64, _⟩ (i 1))) = _
  simp only [e, e2]
  rw [if_neg (by omega), if_neg (by omega)]
  exact congrArg (zdA x w c) (ix2_self i)

theorem y_any {α : Type} {Q : α → sProp 𝕄} {c : Dev nD} {n l : ℕ} {off : Fin 2 → ℕ} {inb} {hl} {k : Vec F ⟨2, ![l, 2048]⟩ .f32 → Prog (TpuEff nD τ sig (Elt F) Λ₀ .tc) α} :
    OUTY x w c n ⊢ iprop((∀ v, OUTY x w c n -∗ wp frame (wpE (defs₀ (F := F)) 𝒱₀ (c : Thread nD τ) none) Set.univ (k v) Q)
      -∗ wp frame (wpE (defs₀ (F := F)) 𝒱₀ (c : Thread nD τ) none) Set.univ
          (.op (.load a2 (Rect.unit (s := S256x2048) off (⟨2, ![l, 2048]⟩ : Shape).size inb).toLoadRect hl) k) Q) := rows_load_any c a2

theorem y_store {α : Type} {Q : α → sProp 𝕄} {c : Dev nD} {l : ℕ} {off : Fin 2 → ℕ} {inb} {hx hm} {v : Vec F ⟨2, ![l, 2048]⟩ .f32} {k : PUnit → Prog (TpuEff nD τ sig (Elt F) Λ₀ .tc) α}
    (r n : ℕ) (hn : n = r + l) (hoff : off = ![r, 0]) (hv : rows l (Y x w c) r = v) :
    OUTY x w c r ⊢ iprop((OUTY x w c n -∗ wp frame (wpE (defs₀ (F := F)) 𝒱₀ (c : Thread nD τ) none) Set.univ (k ⟨⟩) Q)
      -∗ wp frame (wpE (defs₀ (F := F)) 𝒱₀ (c : Thread nD τ) none) Set.univ
          (.op (.store a2 (Rect.unit (s := S256x2048) off (⟨2, ![l, 2048]⟩ : Shape).size inb) v Finset.univ hx hm) k) Q) := by
  subst hn
  refine rows_store c a2 r hoff (Finset.subset_univ _) hv fun i hi hni => ⟨?_, rfl⟩
  rw [mem_band] at hni
  simp only [Finset.mem_filter, Finset.mem_univ, true_and] at hi ⊢
  omega

theorem y_load {α : Type} {Q : α → sProp 𝕄} {c : Dev nD} {n l : ℕ} {off : Fin 2 → ℕ} {inb} {hl} {k : Vec F ⟨2, ![l, 2048]⟩ .f32 → Prog (TpuEff nD τ sig (Elt F) Λ₀ .tc) α}
    (r : ℕ) (hn : r + l ≤ n) (hoff : off = ![r, 0]) :
    OUTY x w c n ⊢ iprop((OUTY x w c n -∗ wp frame (wpE (defs₀ (F := F)) 𝒱₀ (c : Thread nD τ) none) Set.univ (k (rows l (Y x w c) r)) Q)
      -∗ wp frame (wpE (defs₀ (F := F)) 𝒱₀ (c : Thread nD τ) none) Set.univ
          (.op (.load a2 (Rect.unit (s := S256x2048) off (⟨2, ![l, 2048]⟩ : Shape).size inb).toLoadRect hl) k) Q) := by
  refine rows_load c a2 r hoff (Finset.subset_univ _) fun i hi => ?_
  rw [mem_band] at hi
  simp only [Finset.mem_filter, Finset.mem_univ, true_and]
  omega

theorem put4 {α : Type} {Q : α → sProp 𝕄} {c : Dev nD} {M : Memref sig .tc .vmem S4x2x128x2048 .bf16} {s b : ℕ} {inb} {v : Vec F S1x1x128x2048 .bf16} {hx hm}
    {k : PUnit → Prog (TpuEff nD τ sig (Elt F) Λ₀ .tc) α} {v' : Vec F S1x1x128x2048 .bf16} (hv : v = v') :
    F4 (F := F) c M s b ⊢ iprop((H4 c M s b v' -∗ wp frame (wpE (defs₀ (F := F)) 𝒱₀ (c : Thread nD τ) none) Set.univ (k ⟨⟩) Q)
      -∗ wp frame (wpE (defs₀ (F := F)) 𝒱₀ (c : Thread nD τ) none) Set.univ
          (.op (.store M (Rect.unit (s := S4x2x128x2048) ![s, b, 0, 0] S1x1x128x2048.size inb) v Finset.univ hx hm) k) Q) := by
  subst hv; exact F4_store c M
theorem put3 {α : Type} {Q : α → sProp 𝕄} {n : ℕ} {c : Dev nD} {M : Memref sig .tc .vmem ⟨3, ![4, n, 2048]⟩ .bf16} {s : ℕ} {inb} {v : Vec F ⟨3, ![1, n, 2048]⟩ .bf16} {hx hm}
    {k : PUnit → Prog (TpuEff nD τ sig (Elt F) Λ₀ .tc) α} {v' : Vec F ⟨3, ![1, n, 2048]⟩ .bf16} (hv : v = v') :
    F3 (F := F) c M s ⊢ iprop((H3 c M s v' -∗ wp frame (wpE (defs₀ (F := F)) 𝒱₀ (c : Thread nD τ) none) Set.univ (k ⟨⟩) Q)
      -∗ wp frame (wpE (defs₀ (F := F)) 𝒱₀ (c : Thread nD τ) none) Set.univ
          (.op (.store M (Rect.unit (s := ⟨3, ![4, n, 2048]⟩) ![s, 0, 0] (⟨3, ![1, n, 2048]⟩ : Shape).size inb) v Finset.univ hx hm) k) Q) := by
  subst hv; exact F3_store c M

/-- A load of a half slot about to be overwritten: afterwards its contents are of no account. -/
theorem drop4 {α : Type} {Q : α → sProp 𝕄} {c : Dev nD} {M : Memref sig .tc .vmem S4x2x128x2048 .bf16} {s b : ℕ} {inb} {v : Vec F S1x1x128x2048 .bf16} {hl}
    {k : Vec F S1x1x128x2048 .bf16 → Prog (TpuEff nD τ sig (Elt F) Λ₀ .tc) α} :
    H4 c M s b v ⊢ iprop((∀ v', F4 (F := F) c M s b -∗ wp frame (wpE (defs₀ (F := F)) 𝒱₀ (c : Thread nD τ) none) Set.univ (k v') Q)
      -∗ wp frame (wpE (defs₀ (F := F)) 𝒱₀ (c : Thread nD τ) none) Set.univ
          (.op (.load M (Rect.unit (s := S4x2x128x2048) ![s, b, 0, 0] S1x1x128x2048.size inb).toLoadRect hl) k) Q) :=
  (H4_F4 c M s b v).trans (F4_load c M)
theorem drop3 {α : Type} {Q : α → sProp 𝕄} {n : ℕ} {c : Dev nD} {M : Memref sig .tc .vmem ⟨3, ![4, n, 2048]⟩ .bf16} {s : ℕ} {inb} {v : Vec F ⟨3, ![1, n, 2048]⟩ .bf16} {hl}
    {k : Vec F ⟨3, ![1, n, 2048]⟩ .bf16 → Prog (TpuEff nD τ sig (Elt F) Λ₀ .tc) α} :
    H3 c M s v ⊢ iprop((∀ v', F3 (F := F) c M s -∗ wp frame (wpE (defs₀ (F := F)) 𝒱₀ (c : Thread nD τ) none) Set.univ (k v') Q)
      -∗ wp frame (wpE (defs₀ (F := F)) 𝒱₀ (c : Thread nD τ) none) Set.univ
          (.op (.load M (Rect.unit (s := ⟨3, ![4, n, 2048]⟩) ![s, 0, 0] (⟨3, ![1, n, 2048]⟩ : Shape).size inb).toLoadRect hl) k) Q) :=
  (H3_F3 c M s v).trans (F3_load c M)

end Local

/-! ## What the copies hand over, by line -/

section Lines

variable {x : Dev nD → Vec F S4096x256 .bf16} {w : Dev nD → Vec F S256x2048 .bf16} {κ : Dev nD × CI → ℕ}

/-- Both halves of a slot, with known contents. -/
def P4 (c : Dev nD) (M : Memref sig .tc .vmem S4x2x128x2048 .bf16) (s : ℕ) (v : ℕ → Vec F S1x1x128x2048 .bf16) : sProp 𝕄 :=
  iprop(H4 c M s 0 (v 0) ∗ H4 c M s 1 (v 1))

theorem pay0 (s : Fin 3) (c : Dev nD) : recvPay x w (.inl (0, s)) (rt c) = iprop(P4 (rt c) a3 (s.val + 1) (cwU x w 0 s.val c) ∗ RR (F := F) (Pn s.val c)) := by
  show iprop(P4 (rt c) a3 (s.val + 1) (cwU x w 0 s.val (lf (rt c))) ∗ RR (F := F) (Pn s.val (lf (rt c)))) = _; rw [lf_rt]
theorem pay1 (s : Fin 3) (c : Dev nD) : recvPay x w (.inl (1, s)) (lf c) = iprop(P4 (lf c) a4 (s.val + 1) (ccwU x w 0 s.val c) ∗ emp) := by
  show iprop(P4 (lf c) a4 (s.val + 1) (ccwU x w 0 s.val (rt (lf c))) ∗ emp) = _; rw [rt_lf]
theorem pay2 (s : Fin 3) (c : Dev nD) : recvPay x w (.inl (2, s)) (rt c) = iprop(P4 (rt c) a5 (s.val + 1) (cwU x w 1 s.val c) ∗ emp) := by
  show iprop(P4 (rt c) a5 (s.val + 1) (cwU x w 1 s.val (lf (rt c))) ∗ emp) = _; rw [lf_rt]
theorem pay3 (s : Fin 3) (c : Dev nD) : recvPay x w (.inl (3, s)) (lf c) = iprop(P4 (lf c) a6 (s.val + 1) (ccwU x w 1 s.val c) ∗ emp) := by
  show iprop(P4 (lf c) a6 (s.val + 1) (ccwU x w 1 s.val (rt (lf c))) ∗ emp) = _; rw [rt_lf]
theorem pay4 (s : Fin 3) (c : Dev nD) : recvPay x w (.inl (4, s)) (up c) = iprop(H3 (up c) a8 (s.val + 1) (ztU x w s.val c) ∗ RR (F := F) (Zn s.val c)) := by
  show iprop(H3 (up c) a8 (s.val + 1) (ztU x w s.val (dn (up c))) ∗ RR (F := F) (Zn s.val (dn (up c)))) = _; rw [dn_up]
theorem pay5 (s : Fin 3) (c : Dev nD) : recvPay x w (.inl (5, s)) (up c) = iprop(H3 (up c) a9 (s.val + 1) (zuU x w s.val c) ∗ emp) := by
  show iprop(H3 (up c) a9 (s.val + 1) (zuU x w s.val (dn (up c))) ∗ emp) = _; rw [dn_up]
theorem pay6 (s : Fin 3) (c : Dev nD) : recvPay x w (.inl (6, s)) (dn c) = iprop(H3 (dn c) a10 (s.val + 1) (zdU x w s.val c) ∗ emp) := by
  show iprop(H3 (dn c) a10 (s.val + 1) (zdU x w s.val (up (dn c))) ∗ emp) = _; rw [up_dn]

end Lines

/-! ## The copies, by line

Each is stated at literal slots: slot `s` of the sender is copied to slot `t = s + 1` of the target. -/

section Ring

variable {x : Dev nD → Vec F S4096x256 .bf16} {w : Dev nD → Vec F S256x2048 .bf16} {κ : Dev nD × CI → ℕ}

/-- A copy of a slot in the plane, in the order of the wands a script feeds. -/
theorem give4 {α : Type} {Q : α → sProp 𝕄} {k : PUnit → Prog (TpuEff nD τ sig (Elt F) Λ₀ .tc) α} {c c' : Dev nD} (M : Memref sig .tc .vmem S4x2x128x2048 .bf16) (h : Hop) (s t : ℕ) (hc' : c' = tgt h c) {r : ℕ} (n n' : ℕ) (hn : pos h = n) (hn' : n' = n + 1)
    {inb inb'} {iS iR : DmaSem sig} (hS : iS = sndN h) (hR : iR = rcvN h) {hsc} {hsrc hdst} {hsem}
    (hN : ((M.slice (Rect.unit (s := S4x2x128x2048) ![t, 0, 0, 0] S1x2x128x2048.size inb') (fun _ => rfl)).squeeze S2x128x2048 squeezes_S1x2x128x2048_S2x128x2048).view.dmaCredit = amt h)
    (d : Dev nD) (v : ℕ → Vec F S1x1x128x2048 .bf16) (G : sProp 𝕄) (hd : tgt h c = d)
    (hp₁ : free (F := F) c M (slot4 s) ⊢ sendPay x w h c)
    (hp₂ : recvPay x w h (tgt h c) = iprop(P4 (tgt h c) M t v ∗ G)) :
    Recs x w κ ⊢ iprop(St (F := F) c n r 0 -∗ H4 c M s 0 (v 0) -∗ H4 c M s 1 (v 1) -∗ free (F := F) d M (slot4 t) -∗ G
      -∗ (St (F := F) c n' r 0 -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma ((M.slice (Rect.unit (s := S4x2x128x2048) ![s, 0, 0, 0] S1x2x128x2048.size inb) (fun _ => rfl)).squeeze S2x128x2048 squeezes_S1x2x128x2048_S2x128x2048)
                (.remote (Dev.tc c' : Thread nD τ) ((M.slice (Rect.unit (s := S4x2x128x2048) ![t, 0, 0, 0] S1x2x128x2048.size inb') (fun _ => rfl)).squeeze S2x128x2048 squeezes_S1x2x128x2048_S2x128x2048) (.dma iS) hsc) (.dma iR) hsrc hdst hsem) k) Q) := by
  subst hd
  iintro #HR HS Ha Hb Hd HG HK
  iapply (wp_send4 M h s t hc' hn hn' hS hR hN hp₁ (Entails.of_eq hp₂.symm)) $$ [HS Ha Hb Hd HG]
  · iframe HS Ha Hb Hd HG
    iexact HR
  · iexact HK

theorem give3 {α : Type} {Q : α → sProp 𝕄} {k : PUnit → Prog (TpuEff nD τ sig (Elt F) Λ₀ .tc) α} {m : ℕ} {s' : Shape} {hq : (⟨3, ![1, m, 2048]⟩ : Shape).Squeezes s'} {c c' : Dev nD} (M : Memref sig .tc .vmem ⟨3, ![4, m, 2048]⟩ .bf16) (h : Hop) (s t : ℕ) (hc' : c' = tgt h c) {r : ℕ} (n n' : ℕ) (hn : pos h = n) (hn' : n' = n + 1)
    {inb inb'} {iS iR : DmaSem sig} (hS : iS = sndN h) (hR : iR = rcvN h) {hsc} {hsrc hdst} {hsem}
    (hN : ((M.slice (Rect.unit (s := ⟨3, ![4, m, 2048]⟩) ![t, 0, 0] (⟨3, ![1, m, 2048]⟩ : Shape).size inb') (fun _ => rfl)).squeeze s' hq).view.dmaCredit = amt h)
    (d : Dev nD) (v : Vec F ⟨3, ![1, m, 2048]⟩ .bf16) (G : sProp 𝕄) (hd : tgt h c = d)
    (hp₁ : F3 (F := F) c M s ⊢ sendPay x w h c)
    (hp₂ : recvPay x w h (tgt h c) = iprop(H3 (tgt h c) M t v ∗ G)) :
    Recs x w κ ⊢ iprop(St (F := F) c n r 0 -∗ H3 c M s v -∗ F3 (F := F) d M t -∗ G
      -∗ (St (F := F) c n' r 0 -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma ((M.slice (Rect.unit (s := ⟨3, ![4, m, 2048]⟩) ![s, 0, 0] (⟨3, ![1, m, 2048]⟩ : Shape).size inb) (fun _ => rfl)).squeeze s' hq)
                (.remote (Dev.tc c' : Thread nD τ) ((M.slice (Rect.unit (s := ⟨3, ![4, m, 2048]⟩) ![t, 0, 0] (⟨3, ![1, m, 2048]⟩ : Shape).size inb') (fun _ => rfl)).squeeze s' hq) (.dma iS) hsc) (.dma iR) hsrc hdst hsem) k) Q) := by
  subst hd
  iintro #HR HS Ha Hd HG HK
  iapply (wp_send3 M h s t hc' hn hn' hS hR hN hp₁ (Entails.of_eq hp₂.symm)) $$ [HS Ha Hd HG]
  · iframe HS Ha Hd HG
    iexact HR
  · iexact HK

/-- A wait for what another device copies here; `P` is what it brings. -/
theorem take {α : Type} {Q : α → sProp 𝕄} {k : PUnit → Prog (TpuEff nD τ sig (Elt F) Λ₀ .tc) α} {c : Dev nD} (h : Hop) {n : ℕ} (r r' : ℕ) (P : sProp 𝕄) (hP : recvPay x w h c = P) (hr : rpos h = r) (hr' : r' = r + 1) (hn : pos h < n)
    {s s' : Shape} {e e' : EltTy} {src : Memref sig .tc .vmem s e} {dst : Memref sig .tc .vmem s' e'} {iR : DmaSem sig} (hR : iR = rcvN h)
    {hsrc : src.view.WordExact} {hdst : dst.view.WordExact}
    (hN : dst.view.dmaCredit = amt h) :
    Recs x w κ ⊢ iprop(St (F := F) c n r 0
      -∗ (St (F := F) c n r' 0 -∗ P -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 iR src dst hsrc hdst) k) Q) := by
  subst hP
  iintro #HR HS HK
  iapply (wp_hop_recv h hr hr' hn hR hN) $$ [HS]
  · iframe HS
    iexact HR
  · iintro ⟨HS, HP⟩
    iapply HK $$ HS HP

/-- A wait for a copy of this device's to have left; `P` is what comes back. -/
theorem left {α : Type} {Q : α → sProp 𝕄} {k : PUnit → Prog (TpuEff nD τ sig (Elt F) Λ₀ .tc) α} {c : Dev nD} (h : Hop) {r : ℕ} (v v' : ℕ) (P : sProp 𝕄) (hP : sendPay x w h c = P) (hv : pos h = v) (hv' : v' = v + 1)
    {s s' : Shape} {e e' : EltTy} {src : Memref sig .tc .vmem s e} {dst : Memref sig .tc .vmem s' e'} {iS : DmaSem sig} (hS : iS = sndN h)
    {hsrc : src.view.WordExact} {hdst : dst.view.WordExact}
    (hN : dst.view.dmaCredit = amt h) :
    Recs x w κ ⊢ iprop(St (F := F) c 36 r v
      -∗ (St (F := F) c 36 r v' -∗ P -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 iS src dst hsrc hdst) k) Q) := by
  subst hP
  iintro #HR HS HK
  iapply (wp_hop_left h hv hv' hS hN) $$ [HS]
  · iframe HS
    iexact HR
  · iintro ⟨HS, HP⟩
    iapply HK $$ HS HP

end Ring

/-- A part of the kernel at the launch's own buffers and semaphores. -/
abbrev args {β : Type _} (f : (m0 : Memref sig .tc .vmem S4096x256 .bf16) → m0.IsWhole → (m1 : Memref sig .tc .vmem S256x2048 .bf16) → m1.IsWhole → (m2 : Memref sig .tc .vmem S256x2048 .f32) → m2.IsWhole → (m3 : Memref sig .tc .vmem S4x2x128x2048 .bf16) → m3.IsWhole → (m4 : Memref sig .tc .vmem S4x2x128x2048 .bf16) → m4.IsWhole → (m5 : Memref sig .tc .vmem S4x2x128x2048 .bf16) → m5.IsWhole → (m6 : Memref sig .tc .vmem S4x2x128x2048 .bf16) → m6.IsWhole → (m7 : Memref sig .tc .vmem S1024x2048 .f32) → m7.IsWhole → (m8 : Memref sig .tc .vmem S4x128x2048 .bf16) → m8.IsWhole → (m9 : Memref sig .tc .vmem S4x64x2048 .bf16) → m9.IsWhole → (m10 : Memref sig .tc .vmem S4x64x2048 .bf16) → m10.IsWhole → (m11 : Memref sig .tc .vmem S256x2048 .bf16) → m11.IsWhole → (m12 : Memref sig .tc .vmem S16x128 .f32) → m12.IsWhole → DmaSems sig S3 → DmaSems sig S3 → DmaSems sig S3 → DmaSems sig S3 → DmaSems sig S3 → DmaSems sig S3 → DmaSems sig S3 → DmaSems sig S3 → DmaSems sig S3 → DmaSems sig S3 → DmaSems sig S3 → DmaSems sig S3 → DmaSems sig S3 → DmaSems sig S3 → DmaSems sig S16 → DmaSems sig S16 → β) : β :=
  f a0 (Memref.isWhole_whole _) a1 (Memref.isWhole_whole _) a2 (Memref.isWhole_whole _) a3 (Memref.isWhole_whole _) a4 (Memref.isWhole_whole _) a5 (Memref.isWhole_whole _) a6 (Memref.isWhole_whole _) a7 (Memref.isWhole_whole _) a8 (Memref.isWhole_whole _) a9 (Memref.isWhole_whole _) a10 (Memref.isWhole_whole _) a11 (Memref.isWhole_whole _) a12 (Memref.isWhole_whole _) cc0_scratch10 cc0_scratch11 cc0_scratch12 cc0_scratch13 cc0_scratch14 cc0_scratch15 cc0_scratch16 cc0_scratch17 cc0_scratch18 cc0_scratch19 cc0_scratch20 cc0_scratch21 cc0_scratch22 cc0_scratch23 cc0_scratch24 cc0_scratch25

end Cert.K01

end
-- ==== Proof.Meet.lean ====
/-
  The steps that are not slot copies: the barrier, the copies of the table of maxima, and the waits at the end.
-/
module

public import proofs.«01_k».proof.Proof.Steps

@[expose] public section

noncomputable section

namespace Cert.K01

open Cert.KernelIdeal Cert.KernelIdeal.Gen

open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Shares of a held region -/

section Share

variable {s : Shape} {e : EltTy} {c : Dev nD} {M : Memref sig .tc .vmem s e} {q q₁ : PosShare TreeShare} {S D D' : Finset s.Idx} {X X' : s.Idx → Elt F e}

theorem hold_deal : hold c M q S D X ⊢ iprop(hold c M q.left S D X ∗ hold c M q.right S D X) := by
  unfold hold
  iintro ⟨%f, %hf, H⟩
  ihave H2 := (pointsTo_share (PosShare.mem_left_op_right q)).1 $$ H
  icases H2 with ⟨H1, H2⟩
  isplitl [H1]
  · iexists f; isplitr
    · ipureintro; exact hf
    · iexact H1
  · iexists f; isplitr
    · ipureintro; exact hf
    · iexact H2

theorem hold_meet : iprop(hold c M q.left S D X ∗ hold c M q.right S D' X') ⊢ hold c M q S D X := by
  unfold hold
  iintro ⟨⟨%f, %hf, H1⟩, ⟨%g, -, H2⟩⟩
  ihave H := (persistent_entails_right pointsTo_agree) $$ [H1 H2]
  · isplitl [H1] <;> iassumption
  icases H with ⟨%ha, H1, H2⟩
  iexists f
  isplitr; · ipureintro; exact hf
  iapply (pointsTo_share (PosShare.mem_left_op_right q)).2
  isplitl [H1]; · iexact H1
  rw [pointsTo_congr (f := f) (g := g) fun i hi => (ha i (Finset.mem_inter.2 ⟨hi, hi⟩)).1]
  iexact H2

/-- Of no indices there is nothing to hold. -/
theorem hold_nil : hold c M q S D X ⊢ iprop(hold c M q S D X ∗ hold c M q₁ ∅ ∅ X) := by
  unfold hold
  iintro ⟨%f, %hf, H⟩
  isplitl [H]
  · iexists f; isplitr
    · ipureintro; exact hf
    · iexact H
  · iexists f; isplitr
    · ipureintro; intro i hi; exact absurd hi (Finset.notMem_empty i)
    · rw [show M.view.setOn (∅ : Finset s.Idx) = ∅ from Finset.map_empty _, pointsTo_empty]; iempintro

end Share

/-! ## Whole buffers -/

section Whole

variable {m n : ℕ} [NeZero m] {e : EltTy} (M : Memref sig .tc .vmem ⟨2, ![m, n]⟩ e) {c : Dev nD} {X : (⟨2, ![m, n]⟩ : Shape).Idx → Elt F e}

theorem whole_load {α : Type} {Q : α → sProp 𝕄} {q} {D : Finset (⟨2, ![m, n]⟩ : Shape).Idx} (hD : D = Finset.univ) {inb} {hl} {k : Vec F ⟨2, ![m, n]⟩ e → Prog (TpuEff nD τ sig (Elt F) Λ₀ .tc) α} :
    hold c M q D D X ⊢ iprop((hold c M q D D X -∗ wp frame (wpE (defs₀ (F := F)) 𝒱₀ (c : Thread nD τ) none) Set.univ (k X) Q)
      -∗ wp frame (wpE (defs₀ (F := F)) 𝒱₀ (c : Thread nD τ) none) Set.univ
          (.op (.load M (Rect.unit (s := ⟨2, ![m, n]⟩) ![0, 0] (⟨2, ![m, n]⟩ : Shape).size inb).toLoadRect hl) k) Q) := by
  subst hD
  have h := rows_load (α := α) (Q := Q) (l := m) (off := ![0, 0]) (inb := inb) (hl := hl) (k := k) (q := q) c M (X := X) 0 rfl (Finset.subset_univ _) (Finset.subset_univ _)
  rw [rows_zero] at h
  exact h

theorem whole_store {α : Type} {Q : α → sProp 𝕄} {D : Finset (⟨2, ![m, n]⟩ : Shape).Idx} {X' v : (⟨2, ![m, n]⟩ : Shape).Idx → Elt F e} (hv : X' = v) {inb} {hx hm} {k : PUnit → Prog (TpuEff nD τ sig (Elt F) Λ₀ .tc) α} :
    hold c M fullShare Finset.univ D X ⊢ iprop((hold c M fullShare Finset.univ Finset.univ X' -∗ wp frame (wpE (defs₀ (F := F)) 𝒱₀ (c : Thread nD τ) none) Set.univ (k ⟨⟩) Q)
      -∗ wp frame (wpE (defs₀ (F := F)) 𝒱₀ (c : Thread nD τ) none) Set.univ
          (.op (.store M (Rect.unit (s := ⟨2, ![m, n]⟩) ![0, 0] (⟨2, ![m, n]⟩ : Shape).size inb) v Finset.univ hx hm) k) Q) := by
  refine rows_store c M 0 rfl (Finset.subset_univ _) ((rows_zero _).trans hv) fun i _ hi => absurd ?_ hi
  rw [mem_band]
  exact ⟨Nat.zero_le _, by rw [Nat.zero_add]; exact (i 0).isLt⟩

end Whole

section Meet

variable (x : Dev nD → Vec F S4096x256 .bf16) (w : Dev nD → Vec F S256x2048 .bf16)

/-! ## The local inputs together -/

/-- The activations and the weights of device `c`. -/
def XW (c : Dev nD) : sProp 𝕄 := iprop(XR x c ∗ WR w c)

/-- The rows of other devices' tables that `c` has still to write, and what it has left of its own row's read share. -/
def AS (c : Dev nD) (n : ℕ) : sProp 𝕄 :=
  iprop(RR (F := F) (Finset.univ.filter fun p => p.2 = c ∧ n + 1 ≤ (p.1.val + 16 - c.val) % 16) ∗ row0 x w c (Transfers.shareDrop fullShare.left n))

/-- The table of maxima with its first `n` other rows arrived: one half of the share over all rows so far, the other over the arrived ones. -/
def TB (c : Dev nD) (n : ℕ) : sProp 𝕄 :=
  iprop(hold c a12 fullShare.right (band 0 (n + 1)) (band 0 (n + 1)) (AM x w c) ∗ hold c a12 fullShare.left (band 1 n) (band 1 n) (AM x w c))

/-- What the waits at the end have given back. -/
def Back (c : Dev nD) (v : ℕ) : sProp 𝕄 := bigSep (Finset.univ.filter fun h : Hop => pos h < v) fun h => sendPay x w h c

variable {x w} {κ : Dev nD × CI → ℕ}

theorem x_get {α : Type} {Q : α → sProp 𝕄} {c : Dev nD} {r : ℕ} {off : Fin 2 → ℕ} {inb} {hl} {k : Vec F S128x256 .bf16 → Prog (TpuEff nD τ sig (Elt F) Λ₀ .tc) α}
    (hoff : off = ![r, 0]) :
    XW x w c ⊢ iprop((XW x w c -∗ wp frame (wpE (defs₀ (F := F)) 𝒱₀ (c : Thread nD τ) none) Set.univ (k (xr x c r)) Q)
      -∗ wp frame (wpE (defs₀ (F := F)) 𝒱₀ (c : Thread nD τ) none) Set.univ
          (.op (.load a0 (Rect.unit (s := S4096x256) off S128x256.size inb).toLoadRect hl) k) Q) := by
  unfold XW; iintro ⟨HX, HW⟩ HK
  iapply (x_load hoff) $$ HX; iintro HX; iapply HK
  isplitl [HX] <;> iassumption

theorem w_get {α : Type} {Q : α → sProp 𝕄} {c : Dev nD} {inb} {hl} {k : Vec F S256x2048 .bf16 → Prog (TpuEff nD τ sig (Elt F) Λ₀ .tc) α} :
    XW x w c ⊢ iprop((XW x w c -∗ wp frame (wpE (defs₀ (F := F)) 𝒱₀ (c : Thread nD τ) none) Set.univ (k (wb w c)) Q)
      -∗ wp frame (wpE (defs₀ (F := F)) 𝒱₀ (c : Thread nD τ) none) Set.univ
          (.op (.load a11 (Rect.unit (s := S256x2048) ![0, 0] S256x2048.size inb).toLoadRect hl) k) Q) := by
  unfold XW; iintro ⟨HX, HW⟩ HK
  iapply w_load $$ HW; iintro HW; iapply HK
  isplitl [HX] <;> iassumption

/-! ## Rows of the sums in the plane -/

theorem off4_at (c : Dev nD) : k0_off4 c = ![256 * ((c.val / 4 + 3) % 4) + 0, 0] := by revert c; decide +kernel
theorem off5_at (c : Dev nD) (s : Fin 3) : k0_off5 c (BitVec.ofNat 32 s.val) = ![256 * ((c.val / 4 + (6 - s.val)) % 4) + 0, 0] := by revert c s; decide +kernel
theorem off6_up (c : Dev nD) : k0_off6 c 3#32 128#32 = ![256 * ((c.val / 4 + 3) % 4) + 128, 0] := by revert c; decide +kernel
theorem off6_dn (c : Dev nD) : k0_off6 c 1#32 192#32 = ![256 * ((c.val / 4 + 1) % 4) + 192, 0] := by revert c; decide +kernel
theorem off7_at (c : Dev nD) (s : Fin 3) : k0_off7 c (BitVec.ofNat 32 s.val) = ![256 * ((c.val / 4 + (6 - s.val)) % 4) + 128, 0] := by revert c s; decide +kernel
theorem off8_at (c : Dev nD) (s : Fin 3) : k0_off8 c (BitVec.ofNat 32 s.val) = ![256 * ((c.val / 4 + (2 + s.val)) % 4) + 192, 0] := by revert c s; decide +kernel

/-! ## The barrier -/

/-- A barrier signal: the landing slots go to a neighbour. -/
theorem bar_signal {α : Type} {Q : α → sProp 𝕄} {k : PUnit → Prog (TpuEff nD τ sig (Elt F) Λ₀ .tc) α} {c c' d : Dev nD} (i : Fin 4) (hc' : c' = d) {O₁ O₂ : CellTallies nD τ sig Unit}
    (hO : O₁ = O₂ + tallyAt (barC d) () 1) {b : Sem sig} (hb : b = sig.barrier 0 rfl) {W : Waits sig Unit} :
    Recs x w κ ⊢ iprop(owes (c : Thread nD τ) O₁ W -∗ dutyTok ER (barC d) 0 i -∗ barPay (F := F) i d
      -∗ (owes (c : Thread nD τ) O₂ W -∗ wp frame (wpE (defs₀ (F := F)) 𝒱₀ (c : Thread nD τ) none) Set.univ (k ⟨⟩) Q)
        -∗ wp frame (wpE (defs₀ (F := F)) 𝒱₀ (c : Thread nD τ) none) Set.univ (.op (.semSignal (c' : Thread nD τ) b 1) k) Q) := by
  subst hc' hb
  iintro #HR HO Ht Hp HK
  iapply (Rounds.wp_signal 𝒱₀ ER (Rd x w) (c : Thread nD τ) none (dst := (c' : Thread nD τ)) (κ := κ (c', none)) (d := i) (r := 0)
      (by rw [show (((c' : Thread nD τ), SemLoc.reg (sig.barrier 0 rfl)) : GSem nD τ sig) = barC c' from rfl, duties_bar]; exact Finset.mem_univ i)
      (amount_bar x w c' i) () O₂ hO) $$ [HO Ht Hp]
  · isplitr; · iapply (Recs_inv x w κ (c', none)); iexact HR
    isplitl [HO]; · iexact HO
    isplitl [Ht]; · iexact Ht
    isplitl [Hp]; · iapply (Entails.of_eq (payload_bar x w c' i).symm); iexact Hp
    iapply (Recs_reached x w κ (c', none)); iexact HR
  iexact HK

theorem bar_pays (c : Dev nD) : bigSep Finset.univ (fun i => barPay (F := F) i c)
    = iprop(barPay (F := F) 0 c ∗ barPay (F := F) 1 c ∗ barPay (F := F) 2 c ∗ barPay (F := F) 3 c) := by
  rw [show (Finset.univ : Finset (Fin 4)) = {0, 1, 2, 3} by decide, bigSep_insert (by decide), bigSep_insert (by decide), bigSep_insert (by decide), bigSep_singleton]
  rfl

/-- The wait for the four neighbours: what they signalled arrives, and the barrier is closed. -/
theorem bar_wait {α : Type} {Q : α → sProp 𝕄} {k : PUnit → Prog (TpuEff nD τ sig (Elt F) Λ₀ .tc) α} {c : Dev nD} {b : Sem sig} (hb : b = sig.barrier 0 rfl) {W : Waits sig Unit} :
    Recs x w κ ⊢ iprop(owes (c : Thread nD τ) (O c 0) W -∗ cred (tallyAt (barC c) () 4) -∗ atPos ER (barC c) 0 ∅ 0
      -∗ ((∃ W, owes (c : Thread nD τ) (O c 0) W) -∗ semVal (barC c) 0 -∗ barPay (F := F) 0 c -∗ barPay (F := F) 1 c -∗ barPay (F := F) 2 c -∗ barPay (F := F) 3 c
          -∗ wp frame (wpE (defs₀ (F := F)) 𝒱₀ (c : Thread nD τ) none) Set.univ (k ⟨⟩) Q)
        -∗ wp frame (wpE (defs₀ (F := F)) 𝒱₀ (c : Thread nD τ) none) Set.univ (.op (.semWait b 4) k) Q) := by
  subst hb
  iintro #HR HO Hc Hat HK
  iapply (Rounds.wp_wait_rest_token 𝒱₀ ER (Rd x w) (c : Thread nD τ) none (κ := κ (c, none))
      (wpE_semWait_eq 𝒱₀ (c : Thread nD τ) none Set.univ) (Set.mem_univ _) () (O := O c 0) (W := W) (R := 0) (m := 0) (T := ∅)
      ((Nat.zero_add _).trans (expect_bar x w c).symm)) $$ [Hc HO Hat]
  · isplitr; · iapply (Recs_inv x w κ (c, none)); iexact HR
    isplitl [Hc]; · iexact Hc
    isplitl [HO]; · iexact HO
    isplitr; · iapply (Recs_wait_bar x w κ c); iexact HR
    iexact Hat
  iintro ⟨HO, Hat, -, Hpay⟩
  ihave Hp := (Entails.of_eq ((rest_bar x w c).trans (bar_pays c))) $$ Hpay
  imod (Rounds.cell_close ER (Rd x w) (Set.mem_univ (κ (c, none))) (fun h => h) (R := 0 + 1) (duties_later x w (barC c))) $$ [Hat] with Hz
  · isplitr; · iapply (Recs_inv x w κ (c, none)); iexact HR
    iexact Hat
  icases Hp with ⟨H0, H1, H2, H3⟩
  iapply HK $$ [HO] Hz H0 H1 H2 H3
  iexists _; iexact HO

theorem barPay_up (c : Dev nD) : barPay (F := F) 0 (up c) = land3 (F := F) c a10 := by
  show land3 (F := F) (dn (up c)) a10 = _; rw [dn_up]
theorem barPay_dn (c : Dev nD) : barPay (F := F) 1 (dn c) = iprop(land3 (F := F) c a8 ∗ land3 (F := F) c a9) := by
  show iprop(land3 (F := F) (up (dn c)) a8 ∗ land3 (F := F) (up (dn c)) a9) = _; rw [up_dn]
theorem barPay_rt (c : Dev nD) : barPay (F := F) 2 (rt c) = iprop(land4 (F := F) c a4 ∗ land4 (F := F) c a6) := by
  show iprop(land4 (F := F) (lf (rt c)) a4 ∗ land4 (F := F) (lf (rt c)) a6) = _; rw [lf_rt]
theorem barPay_lf (c : Dev nD) : barPay (F := F) 3 (lf c) = iprop(land4 (F := F) c a3 ∗ land4 (F := F) c a5) := by
  show iprop(land4 (F := F) (rt (lf c)) a3 ∗ land4 (F := F) (rt (lf c)) a5) = _; rw [rt_lf]

theorem bar_open (c : Dev nD) : barPay (F := F) 0 c ⊢ iprop(barPay (F := F) 1 c -∗ barPay (F := F) 2 c -∗ barPay (F := F) 3 c
    -∗ land3 (F := F) (dn c) a10 ∗ land3 (F := F) (up c) a8 ∗ land3 (F := F) (up c) a9 ∗ land4 (F := F) (lf c) a4 ∗ land4 (F := F) (lf c) a6
      ∗ land4 (F := F) (rt c) a3 ∗ land4 (F := F) (rt c) a5) := by
  show land3 (F := F) (dn c) a10 ⊢ iprop((land3 (F := F) (up c) a8 ∗ land3 (F := F) (up c) a9) -∗ (land4 (F := F) (lf c) a4 ∗ land4 (F := F) (lf c) a6)
    -∗ (land4 (F := F) (rt c) a3 ∗ land4 (F := F) (rt c) a5) -∗ _)
  iintro H0 ⟨H1, H2⟩ ⟨H3, H4⟩ ⟨H5, H6⟩
  isplitl [H0]; · iexact H0
  isplitl [H1]; · iexact H1
  isplitl [H2]; · iexact H2
  isplitl [H3]; · iexact H3
  isplitl [H4]; · iexact H4
  isplitl [H5] <;> iassumption

/-! ## The table of maxima -/

theorem AM_own (c : Dev nD) : rows 1 (AM x w c) 0 = AV x w c := by
  funext i
  have h : (i 0).val = 0 := by have : (i 0).val < 1 := (i 0).isLt; omega
  show AV x w (fwd ((0 + (i 0).val) % 16) c) (ix2 0 (i 1)) = AV x w c i
  rw [show fwd ((0 + (i 0).val) % 16) c = c by rw [h]; exact Fin.ext (Nat.mod_eq_of_lt (show c.val + 0 < 16 from c.isLt)),
    show (ix2 0 (i 1) : S1x128.Idx) = i from (congrArg (fun a => ix2 a (i 1)) (Fin.ext h.symm)).trans (ix2_self i)]

/-- Row `15 - o` of the table of the device `o + 1` places on is row 0 of this one's. -/
theorem AM_far (c : Dev nD) (o : Fin 15) (i : S16x128.Idx) (j : S16x128.Idx) (hi : (i 0).val = 15 - o.val) (hj : (j 0).val = 0) (h1 : j 1 = i 1) :
    AM x w c j = AM x w (fwd (o.val + 1) c) i := by
  show AV x w (fwd (j 0).val c) (ix2 0 (j 1)) = AV x w (fwd (i 0).val (fwd (o.val + 1) c)) (ix2 0 (i 1))
  rw [h1, hi, hj]
  congr 1
  exact Fin.ext (by show (c.val + 0) % 16 = ((c.val + (o.val + 1)) % 16 + (15 - o.val)) % 16; omega)

theorem read_copy' {s : Shape} {e : EltTy} {sp sp' : Space} (v : View sig .tc sp s e) (v' : View sig .tc sp' s e) (off off' : Fin s.rank → ℕ) (size : Fin s.rank → ℕ)
    (inb : ∀ a, off a + size a ≤ s.size a) (inb' : ∀ a, off' a + size a ≤ s.size a)
    (fd : v'.ty.Contents (Elt F)) (fs : v.ty.Contents (Elt F)) (y : (Rect.unit (s := s) off size inb).shape.Idx) :
    v'.read (Elt F) ((v'.slice (Rect.unit (s := s) off' size inb')).write (Elt F) fd ((v.slice (Rect.unit (s := s) off size inb)).read (Elt F) fs) Finset.univ) ((Rect.unit (s := s) off' size inb').emb y)
      = v.read (Elt F) fs ((Rect.unit (s := s) off size inb).emb y) := by
  rw [View.read_apply, show v'.emb ((Rect.unit (s := s) off' size inb').emb y) = (v'.slice (Rect.unit (s := s) off' size inb')).emb y from rfl,
    View.write_emb_of_mem _ _ (Finset.mem_univ y), cast_cast, cast_eq]
  rfl

theorem RR_take (c : Dev nD) (o : Fin 15) :
    RR (F := F) (Finset.univ.filter fun p => p.2 = c ∧ o.val + 1 ≤ (p.1.val + 16 - c.val) % 16)
      ⊢ iprop(free (F := F) (fwd (o.val + 1) c) a12 (band (15 - o.val) 1) ∗ RR (F := F) (Finset.univ.filter fun p => p.2 = c ∧ o.val + 1 + 1 ≤ (p.1.val + 16 - c.val) % 16)) := by
  have hR : RR (F := F) {(fwd (o.val + 1) c, c)} = free (F := F) (fwd (o.val + 1) c) a12 (band (15 - o.val) 1) := by
    unfold RR
    rw [bigSep_singleton]
    unfold R
    rw [show (c.val + 16 - (fwd (o.val + 1) c).val) % 16 = 15 - o.val by revert c o; decide +kernel]
  rw [← hR]
  refine RR_split fun p => ?_
  simp only [Finset.mem_filter, Finset.mem_univ, true_and, Finset.mem_singleton]
  obtain ⟨d, u⟩ := p
  simp only [Prod.mk.injEq]
  by_cases hu : u = c
  · subst hu
    have key : (d = fwd (o.val + 1) u) ↔ (d.val + 16 - u.val) % 16 = o.val + 1 := by
      clear hR; revert d u o; decide +kernel
    simp only [_root_.true_and, _root_.and_true, key]
    omega
  · simp [hu]

/-- A row of maxima goes to the device `o + 1` places on. -/
theorem give_max {α : Type} {Q : α → sProp 𝕄} {k : PUnit → Prog (TpuEff nD τ sig (Elt F) Λ₀ .tc) α} {c c' : Dev nD} (o : Fin 15) (hc' : c' = fwd (o.val + 1) c) {r t : ℕ} (n n' : ℕ) (ht : t = 15 - o.val) (hn : 21 + o.val = n) (hn' : n' = n + 1)
    {inb inb'} {iS iR : DmaSem sig} (hS : iS = sndN (.inr o)) (hR : iR = rcvN (.inr o)) {hsc} {hsrc hdst} {hsem}
    (hN : (a12.slice (Rect.unit (s := S16x128) ![t, 0] S1x128.size inb') (fun _ => rfl)).view.dmaCredit = amt (.inr o)) :
    Recs x w κ ⊢ iprop(St (F := F) c n r 0 -∗ AS x w c o.val
      -∗ (St (F := F) c n' r 0 -∗ AS x w c (o.val + 1) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (a12.slice (Rect.unit (s := S16x128) ![0, 0] S1x128.size inb) (fun _ => rfl))
                (.remote (Dev.tc c' : Thread nD τ) (a12.slice (Rect.unit (s := S16x128) ![t, 0] S1x128.size inb') (fun _ => rfl)) (.dma iS) hsc) (.dma iR) hsrc hdst hsem) k) Q) := by
  subst ht
  have hset (a : ℕ) (ia) : (a12.slice (Rect.unit (s := S16x128) ![a, 0] S1x128.size ia) (fun _ => rfl)).view.set = a12.view.setOn (band a 1) :=
    (View.set_slice a12.view _).trans (congrArg (Finset.map a12.view.emb) (rect_band a ia))
  unfold AS row0
  iintro #HR HSt ⟨HRR, Hrow⟩ HK
  ihave Hs := (hold_deal (q := Transfers.shareDrop fullShare.left o.val)) $$ Hrow
  icases Hs with ⟨Hrest, Hs⟩
  ihave Hd := (RR_take c o) $$ HRR
  icases Hd with ⟨Hd, HRR⟩
  unfold hold free
  icases Hs with ⟨%fs, %hfs, Hs⟩
  icases Hd with ⟨%fd, Hd⟩
  rw [← hset 0 inb, ← hset (15 - o.val) inb']
  iapply (wp_hop_send (x := x) (w := w) (κ := κ) (.inr o) hc' hn hn' (src := a12.slice (Rect.unit (s := S16x128) ![0, 0] S1x128.size inb) (fun _ => rfl))
    (dst := a12.slice (Rect.unit (s := S16x128) ![15 - o.val, 0] S1x128.size inb') (fun _ => rfl))
    hS hR hN (q := shr o.val) (fs := fs) (fd := fd) (G := iprop(emp)) ?_ ?_) $$ [HSt Hs Hd]
  · exact (Entails.of_eq (by rw [hset 0 inb])).trans (hold_of_pts c a12 (D := band 0 1) (X := AM x w c) fs hfs)
  · refine Laws.sep_emp.1.trans (((Entails.of_eq (by rw [hset (15 - o.val) inb']; rfl)).trans (hold_of_pts (fwd (o.val + 1) c) a12 (D := band (15 - o.val) 1) (X := AM x w (fwd (o.val + 1) c)) _ ?_)))
    intro i hi
    rw [← rect_band (15 - o.val) inb'] at hi
    obtain ⟨y, rfl⟩ := (Rect.unit (s := S16x128) ![15 - o.val, 0] S1x128.size inb').exists_idx_of_mem hi
    refine (read_copy' a12.view a12.view ![0, 0] ![15 - o.val, 0] S1x128.size inb inb' fd fs y).trans ?_
    have hy : (y 0).val < 1 := (y 0).isLt
    refine (hfs _ (by rw [← rect_band 0 inb]; exact (Rect.unit (s := S16x128) ![0, 0] S1x128.size inb).idx_mem y)).trans ?_
    refine AM_far c o _ _ ?_ ?_ ?_
    · show (15 - o.val) + 1 * (y 0).val = _; omega
    · show 0 + 1 * (y 0).val = 0; omega
    · rfl
  · isplitr; · iexact HR
    isplitl [HSt]; · iexact HSt
    isplitl [Hs]; · iexact Hs
    isplitl [Hd]; · iexact Hd
    iempintro
  iintro HSt
  iapply HK $$ HSt [HRR Hrest]
  isplitl [HRR]; · iexact HRR
  iexact Hrest

/-- A row of maxima arrives. -/
theorem take_max {α : Type} {Q : α → sProp 𝕄} {k : PUnit → Prog (TpuEff nD τ sig (Elt F) Λ₀ .tc) α} {c : Dev nD} (o : Fin 15) (t t' r r' : ℕ) (ht : t + o.val = 14) (ht' : t' = t + 1) (hr : rpos (.inr o) = r) (hr' : r' = r + 1)
    {s s' : Shape} {e e' : EltTy} {src : Memref sig .tc .vmem s e} {dst : Memref sig .tc .vmem s' e'} {iR : DmaSem sig} (hR : iR = rcvN (.inr o))
    {hsrc : src.view.WordExact} {hdst : dst.view.WordExact} (hN : dst.view.dmaCredit = amt (.inr o)) :
    Recs x w κ ⊢ iprop(St (F := F) c 36 r 0 -∗ TB x w c t
      -∗ (St (F := F) c 36 r' 0 -∗ TB x w c t' -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 iR src dst hsrc hdst) k) Q) := by
  subst ht'
  have hband (a : ℕ) (ha : a ≤ t + 1) : (band a (t + 1 - a) ∪ band (t + 1) 1 : Finset S16x128.Idx) = band a (t + 1 + 1 - a) := by
    ext i; rw [Finset.mem_union, mem_band, mem_band, mem_band]; omega
  have hdis (a : ℕ) (ha : a ≤ t + 1) : Disjoint (band a (t + 1 - a) : Finset S16x128.Idx) (band (t + 1) 1) :=
    Finset.disjoint_left.2 fun i h1 h2 => by rw [mem_band] at h1 h2; omega
  iintro #HR HSt HT HK
  iapply (take (.inr o) r r' (hold c a12 fullShare (band (t + 1) 1) (band (t + 1) 1) (AM x w c)) (by rw [show t + 1 = 15 - o.val by omega]; rfl) hr hr' (by show 21 + o.val < 36; omega) hR hN) $$ HR HSt
  iintro HSt Hrow
  iapply HK $$ HSt
  unfold TB
  icases HT with ⟨Hr, Hl⟩
  ihave H2 := (hold_deal (q := fullShare)) $$ Hrow
  icases H2 with ⟨Hl2, Hr2⟩
  isplitl [Hr Hr2]
  · ihave H := (hold_union c a12 (hdis 0 (Nat.zero_le _)) subset_rfl subset_rfl) $$ [Hr Hr2]
    · isplitl [Hr]; · iexact Hr
      iexact Hr2
    iapply (Entails.of_eq (congrArg (fun S => hold c a12 fullShare.right S S (AM x w c)) (hband 0 (Nat.zero_le _)))) $$ H
  · ihave H := (hold_union c a12 (hdis 1 (by omega)) subset_rfl subset_rfl) $$ [Hl Hl2]
    · isplitl [Hl]; · iexact Hl
      iexact Hl2
    iapply (Entails.of_eq (congrArg (fun S => hold c a12 fullShare.left S S (AM x w c)) (hband 1 (by omega)))) $$ H

theorem Back_zero (c : Dev nD) : (emp : sProp 𝕄) ⊢ Back x w c 0 := by
  unfold Back
  rw [show (Finset.univ.filter fun h : Hop => pos h < 0) = ∅ from Finset.filter_false_of_mem fun _ _ => Nat.not_lt_zero _, bigSep_empty]
  exact .refl

/-- A wait at the end: a copy has left. -/
theorem leave {α : Type} {Q : α → sProp 𝕄} {k : PUnit → Prog (TpuEff nD τ sig (Elt F) Λ₀ .tc) α} {c : Dev nD} (h : Hop) {r : ℕ} (v v' : ℕ) (hv : pos h = v) (hv' : v' = v + 1)
    {s s' : Shape} {e e' : EltTy} {src : Memref sig .tc .vmem s e} {dst : Memref sig .tc .vmem s' e'} {iS : DmaSem sig} (hS : iS = sndN h)
    {hsrc : src.view.WordExact} {hdst : dst.view.WordExact} (hN : dst.view.dmaCredit = amt h) :
    Recs x w κ ⊢ iprop(St (F := F) c 36 r v -∗ Back x w c v
      -∗ (St (F := F) c 36 r v' -∗ Back x w c v' -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 iS src dst hsrc hdst) k) Q) := by
  subst hv'
  iintro #HR HSt HB HK
  iapply (left h v (v + 1) (sendPay x w h c) rfl hv rfl hS hN) $$ HR HSt
  iintro HSt Hp
  iapply HK $$ HSt
  have e1 : (Finset.univ.filter fun g : Hop => pos g < v + 1) = insert h (Finset.univ.filter fun g : Hop => pos g < v) := by
    ext g
    simp only [Finset.mem_filter, Finset.mem_univ, true_and, Finset.mem_insert]
    constructor
    · intro hg
      by_cases h' : g = h
      · exact .inl h'
      · exact .inr (by have := mt (pos_inj g h) h'; omega)
    · rintro (rfl | hg) <;> omega
  have e2 : Back x w c (v + 1) = iprop(sendPay x w h c ∗ Back x w c v) := by
    unfold Back
    rw [e1, bigSep_insert (by simp only [Finset.mem_filter, Finset.mem_univ, true_and]; omega)]
    rfl
  iapply (Entails.of_eq e2.symm)
  isplitl [Hp] <;> iassumption

end Meet

/-- Both halves of a slot make the slot. -/
theorem slot4_free (c : Dev nD) (M : Memref sig .tc .vmem S4x2x128x2048 .bf16) (s : ℕ) {v0 v1 : Vec F S1x1x128x2048 .bf16} :
    iprop(H4 c M s 0 v0 ∗ H4 c M s 1 v1) ⊢ free (F := F) c M (slot4 s) := by
  rw [slot4_eq]
  have : Nonempty (Elt F .bf16) := ⟨v0 fun a => ⟨0, by revert a; decide⟩⟩
  exact (Laws.sep_mono (H4_F4 c M s 0 v0) (H4_F4 c M s 1 v1)).trans (free_union c M (half_disj (.inr (by decide))))

/-- A program of device `c`, run to `Φ`. -/
abbrev Run {α : Type} (c : Dev nD) (p : Prog (TpuEff nD τ sig (Elt F) Λ₀ .tc) α) (Φ : α → sProp 𝕄) : sProp 𝕄 :=
  wp frame (wpE (defs₀ (F := F)) 𝒱₀ (c : Thread nD τ) none) Set.univ p Φ

theorem post_eq {β : Type _} {Φ : β → sProp 𝕄} {a b : β} (h : a = b) : Φ a ⊢ Φ b := Entails.of_eq (congrArg Φ h)

end Cert.K01

end
-- ==== Proof.PartsA.lean ====
/-
  The parts of the kernel that start it: the barrier, the weights, and the first three steps of the ring in the plane for the first half.
-/
module

public import proofs.«01_k».proof.Proof.Meet

@[expose] public section

noncomputable section

namespace Cert.K01

open Cert.KernelIdeal Cert.KernelIdeal.Gen

open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section Parts

variable {x : Dev nD → Vec F S4096x256 .bf16} {w : Dev nD → Vec F S256x2048 .bf16} {κ : Dev nD × CI → ℕ} (c : Dev nD)

theorem part1 {Φ : (Σ' (d0 : Dev nD) (v2 : BitVec 32) (v19 : BitVec 32) (v20 : BitVec 32) (v24 : BitVec 32) (v28 : BitVec 32) (v30 : BitVec 32) (v33 : BitVec 32) (v34 : Sems sig S_), BitVec 32) → sProp 𝕄} :
    iprop(∀ v2 v19 v20 v24 v28 v30 v33 v35, Φ ⟨c, v2, v19, v20, v24, v28, v30, v33, SemArray.scalar (sig.barrier 0 rfl), v35⟩)
      ⊢ Run (F := F) c (args (k0_part1 (F := F))) Φ := by
  iintro HK
  simp only [args, k0_part1_eq_skeleton]; unfold k0_part1_skel
  simp only [Prog.lift, Prog.bind_op, Prog.bind_ret, Prog.pure_eq_ret, wp_deviceId]
  rw [wp_ret]; imodintro
  iapply HK

theorem part2 {Φ : (Σ' (v49 : BitVec 32), FVec F S128x2048 .bf16) → sProp 𝕄} (v20 v24 v28 v33 v35 : BitVec 32) {W : Waits sig Unit} :
    Recs x w κ ⊢ iprop(owes (c : Thread nD τ) (OB c) W -∗ bigSep Finset.univ (sSt (F := F) c 0 0) -∗ bigSep Finset.univ (rSt (F := F) c 0)
      -∗ dutyTok ER (barC (up c)) 0 0 -∗ dutyTok ER (barC (dn c)) 0 1 -∗ dutyTok ER (barC (rt c)) 0 2 -∗ dutyTok ER (barC (lf c)) 0 3
      -∗ cred (tallyAt (barC c) () 4) -∗ atPos ER (barC c) 0 ∅ 0
      -∗ land4 (F := F) c a3 -∗ land4 (F := F) c a4 -∗ land4 (F := F) c a5 -∗ land4 (F := F) c a6 -∗ land3 (F := F) c a8 -∗ land3 (F := F) c a9 -∗ land3 (F := F) c a10
      -∗ XR x c -∗ hold c a1 fullShare Finset.univ Finset.univ (w c) -∗ free (F := F) c a11 Finset.univ -∗ F4 (F := F) c a3 0 0
      -∗ (∀ v49, St (F := F) c 0 0 0 -∗ semVal (barC c) 0
        -∗ land4 (F := F) (rt c) a3 -∗ land4 (F := F) (lf c) a4 -∗ land4 (F := F) (rt c) a5 -∗ land4 (F := F) (lf c) a6 -∗ land3 (F := F) (up c) a8 -∗ land3 (F := F) (up c) a9 -∗ land3 (F := F) (dn c) a10
        -∗ XW x w c -∗ hold c a1 fullShare Finset.univ Finset.univ (w c) -∗ F4 (F := F) c a3 0 0
        -∗ Φ ⟨v49, k0_pay2 (xr x c (rw4 0 (c.val % 4 + 3) 0)) (wb w c)⟩)
      -∗ Run (F := F) c (args (k0_part2 (F := F)) c v20 v24 v28 v33 (SemArray.scalar (sig.barrier 0 rfl)) v35) Φ) := by
  iintro #HR HO Hs Hr T0 T1 T2 T3 Hc Hat L3 L4 L5 L6 L8 L9 L10 HX Hw Hb Ha HK
  simp only [args, k0_part2_eq_skeleton]; unfold k0_part2_skel
  simp only [semSignalWord, semWaitWord, Prog.lift, Prog.bind_op, Prog.bind_ret, Prog.pure_eq_ret]
  iapply (bar_signal 0 (dev1_eq c) (O₁ := OB c) rfl rfl) $$ HR HO T0 [L10]
  · iapply (Entails.of_eq (barPay_up c).symm) $$ L10
  iintro HO
  iapply (bar_signal 1 (dev2_eq c) rfl rfl) $$ HR HO T1 [L8 L9]
  · iapply (Entails.of_eq (barPay_dn c).symm)
    isplitl [L8] <;> iassumption
  iintro HO
  iapply (bar_signal 2 (dev3_eq c) rfl rfl) $$ HR HO T2 [L4 L6]
  · iapply (Entails.of_eq (barPay_rt c).symm)
    isplitl [L4] <;> iassumption
  iintro HO
  iapply (bar_signal 3 (dev4_eq c) rfl rfl) $$ HR HO T3 [L3 L5]
  · iapply (Entails.of_eq (barPay_lf c).symm)
    isplitl [L3] <;> iassumption
  iintro HO
  iapply (bar_wait rfl) $$ HR HO Hc Hat
  iintro HO Hz P0 P1 P2 P3
  iapply (whole_load a1 rfl) $$ Hw; iintro Hw
  iapply (free_load_any c a11 (Finset.subset_univ _)) $$ Hb; iintro %_ Hb
  ihave Hb := (free_hold c a11 Finset.univ (wb w c)) $$ Hb
  iapply (whole_store a11 (X' := wb w c) rfl) $$ Hb; iintro Hb
  iapply (x_load (off1_at c 0 3 0)) $$ HX; iintro HX
  iapply (whole_load a11 rfl) $$ Hb; iintro Hb
  iapply (F4_load c a3) $$ Ha; iintro %_ Ha
  rw [wp_ret]; imodintro
  icases (bar_open c) $$ P0 P1 P2 P3 with ⟨P10, P8, P9, P4, P6, P3, P5⟩
  ihave H := HK $$ %(Scalar.remsi (Scalar.addi v20 3#32) 4#32) [HO Hs Hr] Hz P3 P4 P5 P6 P8 P9 P10 [HX Hb] Hw Ha
  · unfold St
    isplitl [HO]; · iexact HO
    isplitl [Hs] <;> iassumption
  · unfold XW WR
    isplitl [HX] <;> iassumption
  · iapply (post_eq ?_) $$ H; rfl

theorem part3 {Φ : BitVec 32 → sProp 𝕄} (v20 v49 : BitVec 32) :
    iprop(XW x w c ∗ F4 (F := F) c a3 0 0 ∗ F4 (F := F) c a3 0 1 ∗ F4 (F := F) c a4 0 0
      ∗ (∀ v90, XW x w c -∗ H4 c a3 0 0 (cwU x w 0 0 c 0) -∗ H4 c a3 0 1 (cwU x w 0 0 c 1) -∗ H4 c a4 0 0 (ccwU x w 0 0 c 0) -∗ Φ v90))
      ⊢ Run (F := F) c (args (k0_part3 (F := F)) c v20 v49 (k0_pay2 (xr x c (rw4 0 (c.val % 4 + 3) 0)) (wb w c))) Φ := by
  iintro ⟨HL, Ha, Hb, Hc, HK⟩
  simp only [args, k0_part3_eq_skeleton]; unfold k0_part3_skel
  simp only [Prog.lift, Prog.bind_op, Prog.bind_ret, Prog.pure_eq_ret]
  iapply (put4 (v' := cwU x w 0 0 c 0) rfl) $$ Ha; iintro Ha
  iapply (x_get (off1_at c 1 3 0)) $$ HL; iintro HL
  iapply w_get $$ HL; iintro HL
  iapply (F4_load c a3) $$ Hb; iintro %_ Hb
  iapply (put4 (v' := cwU x w 0 0 c 1) rfl) $$ Hb; iintro Hb
  iapply (x_get (off1_at c 2 1 0)) $$ HL; iintro HL
  iapply w_get $$ HL; iintro HL
  iapply (F4_load c a4) $$ Hc; iintro %_ Hc
  iapply (put4 (v' := ccwU x w 0 0 c 0) rfl) $$ Hc; iintro Hc
  rw [wp_ret]; imodintro
  iapply HK $$ HL Ha Hb Hc

theorem part4 {Φ : PUnit → sProp 𝕄} (v24 v28 v90 : BitVec 32) :
    Recs x w κ ⊢ iprop(XW x w c -∗ St (F := F) c 0 0 0 -∗ H4 c a3 0 0 (cwU x w 0 0 c 0) -∗ H4 c a3 0 1 (cwU x w 0 0 c 1) -∗ F4 (F := F) c a4 0 1
      -∗ free (F := F) (rt c) a3 (slot4 1) -∗ RR (F := F) (Pn 0 c)
      -∗ (XW x w c -∗ St (F := F) c 1 0 0 -∗ H4 c a4 0 1 (ccwU x w 0 0 c 1) -∗ Φ ⟨⟩)
      -∗ Run (F := F) c (args (k0_part4 (F := F)) c v24 v28 v90) Φ) := by
  iintro #HR HL HS Ha Hb Hc Hd Hp HK
  simp only [args, k0_part4_eq_skeleton]; unfold k0_part4_skel
  simp only [Prog.lift, Prog.bind_op, Prog.bind_ret, Prog.pure_eq_ret]
  iapply (x_get (off1_at c 3 1 0)) $$ HL; iintro HL
  iapply w_get $$ HL; iintro HL
  iapply (F4_load c a4) $$ Hc; iintro %_ Hc
  iapply (put4 (v' := ccwU x w 0 0 c 1) rfl) $$ Hc; iintro Hc
  iapply (give4 a3 (.inl (0, 0)) 0 1 (dev5_eq c) 0 1 rfl rfl rfl rfl rfl (rt c) (cwU x w 0 0 c) (RR (Pn 0 c)) rfl .refl (pay0 0 c)) $$ HR HS Ha Hb Hd Hp
  iintro HS
  rw [wp_ret]; imodintro
  iapply HK $$ HL HS Hc

theorem part5 {Φ : (Σ' (v125 : BitVec 32) (v133 : FVec F S128x2048 .f32) (v141 : FVec F S128x2048 .f32) (v147 : FVec F S128x256 .bf16) (v148 : Vec F S256x2048 .bf16), FVec F S128x2048 .f32) → sProp 𝕄} (v20 : BitVec 32) :
    Recs x w κ ⊢ iprop(XW x w c -∗ St (F := F) c 1 0 0 -∗ H4 c a4 0 0 (ccwU x w 0 0 c 0) -∗ H4 c a4 0 1 (ccwU x w 0 0 c 1)
      -∗ free (F := F) (lf c) a4 (slot4 1)
      -∗ (∀ v125, XW x w c -∗ St (F := F) c 2 0 0 -∗ Φ ⟨v125, prt x w c (rw4 0 (c.val % 4 + 6) 0), prt x w c (rw4 1 (c.val % 4 + 6) 0),
          k0_pay9 (xr x c (rw4 2 (c.val % 4 + 2) 0)), wb w c, constant S128x2048 .f32 0x00000000#32⟩)
      -∗ Run (F := F) c (args (k0_part5 (F := F)) c v20) Φ) := by
  iintro #HR HL HS Ha Hb Hd HK
  simp only [args, k0_part5_eq_skeleton]; unfold k0_part5_skel
  simp only [Prog.lift, Prog.bind_op, Prog.bind_ret, Prog.pure_eq_ret]
  iapply (give4 a4 (.inl (1, 0)) 0 1 (dev6_eq c) 1 2 rfl rfl rfl rfl rfl (lf c) (ccwU x w 0 0 c) iprop(emp) rfl .refl (pay1 0 c)) $$ HR HS Ha Hb Hd []
  · iempintro
  iintro HS
  iapply (x_get (off2_at c 0 0 0)) $$ HL; iintro HL
  iapply w_get $$ HL; iintro HL
  iapply (x_get (off2_at c 1 0 0)) $$ HL; iintro HL
  iapply w_get $$ HL; iintro HL
  iapply (x_get (off3_at c 0 0 0)) $$ HL; iintro HL
  iapply w_get $$ HL; iintro HL
  rw [wp_ret]; imodintro
  ihave H := HK $$ HL HS
  iapply (post_eq ?_) $$ H; rfl

theorem part6 {Φ : (Σ' (v149 : FVec F S128x2048 .f32) (v157 : FVec F S128x2048 .f32), FVec F S128x2048 .bf16) → sProp 𝕄} (v24 v125 : BitVec 32) :
    Recs x w κ ⊢ iprop(XW x w c -∗ St (F := F) c 2 0 0
      -∗ (XW x w c -∗ St (F := F) c 2 1 0 -∗ RR (F := F) (Pn 0 (lf c)) -∗ H4 c a3 1 0 (cwU x w 0 1 c 0) -∗ H4 c a3 1 1 (cwU x w 0 0 (lf c) 1)
        -∗ Φ ⟨prt x w c (rw4 2 (c.val % 4 + 2) 0), prt x w c (rw4 3 (c.val % 4 + 2) 0), k0_pay13 (cwU x w 0 0 (lf c) 1)⟩)
      -∗ Run (F := F) c (args (k0_part6 (F := F)) c v24 v125 (prt x w c (rw4 0 (c.val % 4 + 6) 0)) (k0_pay9 (xr x c (rw4 2 (c.val % 4 + 2) 0))) (wb w c) (constant S128x2048 .f32 0x00000000#32)) Φ) := by
  iintro #HR HL HS HK
  simp only [args, k0_part6_eq_skeleton]; unfold k0_part6_skel
  simp only [Prog.lift, Prog.bind_op, Prog.bind_ret, Prog.pure_eq_ret]
  iapply (x_get (off3_at c 1 0 0)) $$ HL; iintro HL
  iapply w_get $$ HL; iintro HL
  iapply (take (.inl (0, 0)) 0 1 iprop((H4 c a3 1 0 (cwU x w 0 0 (lf c) 0) ∗ H4 c a3 1 1 (cwU x w 0 0 (lf c) 1)) ∗ RR (F := F) (Pn 0 (lf c))) rfl rfl rfl (by decide) rfl rfl) $$ HR HS
  iintro HS ⟨⟨Ha, Hb⟩, Hp⟩
  iapply (H4_load c a3) $$ Ha; iintro Ha
  iapply (drop4) $$ Ha; iintro %_ Ha
  iapply (put4 (v' := cwU x w 0 1 c 0) rfl) $$ Ha; iintro Ha
  iapply (H4_load c a3) $$ Hb; iintro Hb
  rw [wp_ret]; imodintro
  ihave H := HK $$ HL HS Hp Ha Hb
  iapply (post_eq ?_) $$ H; rfl

end Parts

end Cert.K01

end
-- ==== Proof.PartsB.lean ====
/-
  The parts of the kernel that finish the ring in the plane for the first half.
-/
module

public import proofs.«01_k».proof.Proof.PartsA

@[expose] public section

noncomputable section

namespace Cert.K01

open Cert.KernelIdeal Cert.KernelIdeal.Gen

open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section Parts

variable {x : Dev nD → Vec F S4096x256 .bf16} {w : Dev nD → Vec F S256x2048 .bf16} {κ : Dev nD × CI → ℕ} (c : Dev nD)

theorem part7 {Φ : Vec F S1x1x128x2048 .bf16 → sProp 𝕄} (v24 v28 : BitVec 32) :
    Recs x w κ ⊢ iprop(St (F := F) c 2 1 0 -∗ H4 c a3 1 0 (cwU x w 0 1 c 0) -∗ H4 c a3 1 1 (cwU x w 0 0 (lf c) 1) -∗ free (F := F) (rt c) a3 (slot4 2) -∗ RR (F := F) (Pn 1 c)
      -∗ (St (F := F) c 3 2 0 -∗ H4 c a4 1 0 (ccwU x w 0 0 (rt c) 0) -∗ H4 c a4 1 1 (ccwU x w 0 0 (rt c) 1) -∗ Φ (ccwU x w 0 0 (rt c) 0))
      -∗ Run (F := F) c (args (k0_part7 (F := F)) c v24 v28 (prt x w c (rw4 1 (c.val % 4 + 6) 0)) (k0_pay13 (cwU x w 0 0 (lf c) 1))) Φ) := by
  iintro #HR HS Ha Hb Hd Hp HK
  simp only [args, k0_part7_eq_skeleton]; unfold k0_part7_skel
  simp only [Prog.lift, Prog.bind_op, Prog.bind_ret, Prog.pure_eq_ret]
  iapply drop4 $$ Hb; iintro %_ Hb
  iapply (put4 (v' := cwU x w 0 1 c 1) rfl) $$ Hb; iintro Hb
  iapply (give4 a3 (.inl (0, 1)) 1 2 (dev7_eq c) 2 3 rfl rfl rfl rfl rfl (rt c) (cwU x w 0 1 c) (RR (Pn 1 c)) rfl .refl (pay0 1 c)) $$ HR HS Ha Hb Hd Hp
  iintro HS
  iapply (take (.inl (1, 0)) 1 2 iprop((H4 c a4 1 0 (ccwU x w 0 0 (rt c) 0) ∗ H4 c a4 1 1 (ccwU x w 0 0 (rt c) 1)) ∗ emp) rfl rfl rfl (by decide) (by rfl) (by rfl)) $$ HR HS
  iintro HS ⟨⟨Ha, Hb⟩, -⟩
  iapply (H4_load c a4) $$ Ha; iintro Ha
  rw [wp_ret]; imodintro
  iapply HK $$ HS Ha Hb

theorem part8 {Φ : (Σ' (v228 : BitVec 32), BitVec 32) → sProp 𝕄} (v20 v28 : BitVec 32) :
    Recs x w κ ⊢ iprop(St (F := F) c 3 2 0 -∗ H4 c a4 1 0 (ccwU x w 0 0 (rt c) 0) -∗ H4 c a4 1 1 (ccwU x w 0 0 (rt c) 1) -∗ free (F := F) (lf c) a4 (slot4 2)
      -∗ (∀ v228 v229, St (F := F) c 4 2 0 -∗ Φ ⟨v228, v229⟩)
      -∗ Run (F := F) c (args (k0_part8 (F := F)) c v20 v28 (prt x w c (rw4 2 (c.val % 4 + 2) 0)) (prt x w c (rw4 3 (c.val % 4 + 2) 0)) (ccwU x w 0 0 (rt c) 0)) Φ) := by
  iintro #HR HS Ha Hb Hd HK
  simp only [args, k0_part8_eq_skeleton]; unfold k0_part8_skel
  simp only [Prog.lift, Prog.bind_op, Prog.bind_ret, Prog.pure_eq_ret]
  iapply drop4 $$ Ha; iintro %_ Ha
  iapply (put4 (v' := ccwU x w 0 1 c 0) rfl) $$ Ha; iintro Ha
  iapply (H4_load c a4) $$ Hb; iintro Hb
  iapply drop4 $$ Hb; iintro %_ Hb
  iapply (put4 (v' := ccwU x w 0 1 c 1) rfl) $$ Hb; iintro Hb
  iapply (give4 a4 (.inl (1, 1)) 1 2 (dev8_eq c) 3 4 rfl rfl rfl rfl rfl (lf c) (ccwU x w 0 1 c) iprop(emp) rfl .refl (pay1 1 c)) $$ HR HS Ha Hb Hd []
  · iempintro
  iintro HS
  rw [wp_ret]; imodintro
  iapply HK $$ HS

theorem part9 {Φ : (Σ' (v239 : FVec F S128x2048 .f32) (v247 : FVec F S128x2048 .f32) (v255 : FVec F S128x2048 .f32), FVec F S128x256 .bf16) → sProp 𝕄} (v228 v229 : BitVec 32) :
    XW x w c ⊢ iprop((XW x w c -∗ Φ ⟨prt x w c (rw4 0 (c.val % 4 + 5) 0), prt x w c (rw4 1 (c.val % 4 + 5) 0), prt x w c (rw4 2 (c.val % 4 + 3) 0), k0_pay20 (xr x c (rw4 3 (c.val % 4 + 3) 0))⟩)
      -∗ Run (F := F) c (args (k0_part9 (F := F)) c v228 v229) Φ) := by
  iintro HL HK
  simp only [args, k0_part9_eq_skeleton]; unfold k0_part9_skel
  simp only [Prog.lift, Prog.bind_op, Prog.bind_ret, Prog.pure_eq_ret]
  iapply (x_get (off2_at c 0 1 0)) $$ HL; iintro HL
  iapply w_get $$ HL; iintro HL
  iapply (x_get (off2_at c 1 1 0)) $$ HL; iintro HL
  iapply w_get $$ HL; iintro HL
  iapply (x_get (off3_at c 0 1 0)) $$ HL; iintro HL
  iapply w_get $$ HL; iintro HL
  iapply (x_get (off3_at c 1 1 0)) $$ HL; iintro HL
  rw [wp_ret]; imodintro
  ihave H := HK $$ HL
  iapply (post_eq ?_) $$ H; rfl

theorem part10 {Φ : FVec F S128x2048 .f32 → sProp 𝕄} (v24 : BitVec 32) :
    Recs x w κ ⊢ iprop(XW x w c -∗ St (F := F) c 4 2 0
      -∗ (XW x w c -∗ St (F := F) c 4 3 0 -∗ RR (F := F) (Pn 1 (lf c)) -∗ H4 c a3 2 0 (cwU x w 0 2 c 0) -∗ H4 c a3 2 1 (cwU x w 0 2 c 1)
        -∗ Φ (prt x w c (rw4 3 (c.val % 4 + 3) 0)))
      -∗ Run (F := F) c (args (k0_part10 (F := F)) v24 (prt x w c (rw4 0 (c.val % 4 + 5) 0)) (prt x w c (rw4 1 (c.val % 4 + 5) 0)) (k0_pay20 (xr x c (rw4 3 (c.val % 4 + 3) 0)))) Φ) := by
  iintro #HR HL HS HK
  simp only [args, k0_part10_eq_skeleton]; unfold k0_part10_skel
  simp only [Prog.lift, Prog.bind_op, Prog.bind_ret, Prog.pure_eq_ret]
  iapply w_get $$ HL; iintro HL
  iapply (take (.inl (0, 1)) 2 3 iprop((H4 c a3 2 0 (cwU x w 0 1 (lf c) 0) ∗ H4 c a3 2 1 (cwU x w 0 1 (lf c) 1)) ∗ RR (F := F) (Pn 1 (lf c))) rfl rfl rfl (by decide) (by rfl) (by rfl)) $$ HR HS
  iintro HS ⟨⟨Ha, Hb⟩, Hp⟩
  iapply (H4_load c a3) $$ Ha; iintro Ha
  iapply drop4 $$ Ha; iintro %_ Ha
  iapply (put4 (v' := cwU x w 0 2 c 0) rfl) $$ Ha; iintro Ha
  iapply (H4_load c a3) $$ Hb; iintro Hb
  iapply drop4 $$ Hb; iintro %_ Hb
  iapply (put4 (v' := cwU x w 0 2 c 1) rfl) $$ Hb; iintro Hb
  rw [wp_ret]; imodintro
  ihave H := HK $$ HL HS Hp Ha Hb
  iapply (post_eq ?_) $$ H; rfl

theorem part11 {Φ : PUnit → sProp 𝕄} (v24 v28 : BitVec 32) :
    Recs x w κ ⊢ iprop(St (F := F) c 4 3 0 -∗ H4 c a3 2 0 (cwU x w 0 2 c 0) -∗ H4 c a3 2 1 (cwU x w 0 2 c 1) -∗ free (F := F) (rt c) a3 (slot4 3) -∗ RR (F := F) (Pn 2 c)
      -∗ (St (F := F) c 5 4 0 -∗ H4 c a4 2 0 (ccwU x w 0 2 c 0) -∗ H4 c a4 2 1 (ccwU x w 0 1 (rt c) 1) -∗ Φ ⟨⟩)
      -∗ Run (F := F) c (args (k0_part11 (F := F)) c v24 v28 (prt x w c (rw4 2 (c.val % 4 + 3) 0))) Φ) := by
  iintro #HR HS Ha Hb Hd Hp HK
  simp only [args, k0_part11_eq_skeleton]; unfold k0_part11_skel
  simp only [Prog.lift, Prog.bind_op, Prog.bind_ret, Prog.pure_eq_ret]
  iapply (give4 a3 (.inl (0, 2)) 2 3 (dev9_eq c) 4 5 rfl rfl rfl rfl rfl (rt c) (cwU x w 0 2 c) (RR (Pn 2 c)) rfl .refl (pay0 2 c)) $$ HR HS Ha Hb Hd Hp
  iintro HS
  iapply (take (.inl (1, 1)) 3 4 iprop((H4 c a4 2 0 (ccwU x w 0 1 (rt c) 0) ∗ H4 c a4 2 1 (ccwU x w 0 1 (rt c) 1)) ∗ emp) rfl rfl rfl (by decide) (by rfl) (by rfl)) $$ HR HS
  iintro HS ⟨⟨Ha, Hb⟩, -⟩
  iapply (H4_load c a4) $$ Ha; iintro Ha
  iapply drop4 $$ Ha; iintro %_ Ha
  iapply (put4 (v' := ccwU x w 0 2 c 0) rfl) $$ Ha; iintro Ha
  rw [wp_ret]; imodintro
  iapply HK $$ HS Ha Hb

theorem part12 {Φ : (Σ' (v334 : BitVec 32), BitVec 32) → sProp 𝕄} (v20 v28 : BitVec 32) :
    Recs x w κ ⊢ iprop(St (F := F) c 5 4 0 -∗ H4 c a4 2 0 (ccwU x w 0 2 c 0) -∗ H4 c a4 2 1 (ccwU x w 0 1 (rt c) 1) -∗ free (F := F) (lf c) a4 (slot4 3)
      -∗ (∀ v334 v337, St (F := F) c 6 4 0 -∗ Φ ⟨v334, v337⟩)
      -∗ Run (F := F) c (args (k0_part12 (F := F)) c v20 v28 (prt x w c (rw4 3 (c.val % 4 + 3) 0))) Φ) := by
  iintro #HR HS Ha Hb Hd HK
  simp only [args, k0_part12_eq_skeleton]; unfold k0_part12_skel
  simp only [Prog.lift, Prog.bind_op, Prog.bind_ret, Prog.pure_eq_ret]
  iapply (H4_load c a4) $$ Hb; iintro Hb
  iapply drop4 $$ Hb; iintro %_ Hb
  iapply (put4 (v' := ccwU x w 0 2 c 1) rfl) $$ Hb; iintro Hb
  iapply (give4 a4 (.inl (1, 2)) 2 3 (dev10_eq c) 5 6 rfl rfl rfl rfl rfl (lf c) (ccwU x w 0 2 c) iprop(emp) rfl .refl (pay1 2 c)) $$ HR HS Ha Hb Hd []
  · iempintro
  iintro HS
  rw [wp_ret]; imodintro
  iapply HK $$ HS

theorem part13 {Φ : (Σ' (v345 : FVec F S128x2048 .f32) (v353 : FVec F S128x2048 .f32) (v361 : FVec F S128x2048 .f32), FVec F S128x2048 .f32) → sProp 𝕄} (v24 v334 v337 : BitVec 32) :
    XW x w c ⊢ iprop((XW x w c -∗ Φ ⟨prt x w c (rw4 0 (c.val % 4 + 4) 0), prt x w c (rw4 1 (c.val % 4 + 4) 0), prt x w c (rw4 2 (c.val % 4 + 4) 0), prt x w c (rw4 3 (c.val % 4 + 4) 0)⟩)
      -∗ Run (F := F) c (args (k0_part13 (F := F)) c v24 v334 v337) Φ) := by
  iintro HL HK
  simp only [args, k0_part13_eq_skeleton]; unfold k0_part13_skel
  simp only [Prog.lift, Prog.bind_op, Prog.bind_ret, Prog.pure_eq_ret]
  iapply (x_get (off2_at c 0 2 0)) $$ HL; iintro HL
  iapply w_get $$ HL; iintro HL
  iapply (x_get (off2_at c 1 2 0)) $$ HL; iintro HL
  iapply w_get $$ HL; iintro HL
  iapply (x_get (off3_at c 0 2 0)) $$ HL; iintro HL
  iapply w_get $$ HL; iintro HL
  iapply (x_get (off3_at c 1 2 0)) $$ HL; iintro HL
  iapply w_get $$ HL; iintro HL
  rw [wp_ret]; imodintro
  ihave H := HK $$ HL
  iapply (post_eq ?_) $$ H; rfl

theorem part14 {Φ : PUnit → sProp 𝕄} (v28 : BitVec 32) :
    Recs x w κ ⊢ iprop(St (F := F) c 6 4 0 -∗ PSUM x w c 0
      -∗ (St (F := F) c 6 5 0 -∗ RR (F := F) (Pn 2 (lf c)) -∗ free (F := F) c a3 (slot4 3) -∗ PSUM x w c 2 -∗ Φ ⟨⟩)
      -∗ Run (F := F) c (args (k0_part14 (F := F)) v28 (prt x w c (rw4 0 (c.val % 4 + 4) 0)) (prt x w c (rw4 1 (c.val % 4 + 4) 0))) Φ) := by
  iintro #HR HS HP HK
  simp only [args, k0_part14_eq_skeleton]; unfold k0_part14_skel
  simp only [Prog.lift, Prog.bind_op, Prog.bind_ret, Prog.pure_eq_ret]
  iapply (take (.inl (0, 2)) 4 5 iprop((H4 c a3 3 0 (cwU x w 0 2 (lf c) 0) ∗ H4 c a3 3 1 (cwU x w 0 2 (lf c) 1)) ∗ RR (F := F) (Pn 2 (lf c))) rfl rfl rfl (by decide) (by rfl) (by rfl)) $$ HR HS
  iintro HS ⟨⟨Ha, Hb⟩, Hp⟩
  iapply (H4_load c a3) $$ Ha; iintro Ha
  iapply ps_any $$ HP; iintro %_ HP
  iapply (ps_store 0 0 (by decide) (by decide) (n := 1) rfl rfl rfl) $$ HP; iintro HP
  iapply (H4_load c a3) $$ Hb; iintro Hb
  iapply ps_any $$ HP; iintro %_ HP
  iapply (ps_store 1 0 (by decide) (by decide) (n := 2) rfl rfl rfl) $$ HP; iintro HP
  rw [wp_ret]; imodintro
  iapply HK $$ HS Hp [Ha Hb] HP
  iapply (slot4_free c a3 3)
  isplitl [Ha] <;> iassumption

theorem part15 {Φ : PUnit → sProp 𝕄} (v19 v30 : BitVec 32) :
    Recs x w κ ⊢ iprop(St (F := F) c 6 5 0 -∗ PSUM x w c 2 -∗ F3 (F := F) c a8 0
      -∗ (St (F := F) c 6 6 0 -∗ free (F := F) c a4 (slot4 3) -∗ PSUM x w c 4 -∗ H3 c a8 0 (ztU x w 0 c) -∗ Φ ⟨⟩)
      -∗ Run (F := F) c (args (k0_part15 (F := F)) c v19 v30 (prt x w c (rw4 2 (c.val % 4 + 4) 0)) (prt x w c (rw4 3 (c.val % 4 + 4) 0))) Φ) := by
  iintro #HR HS HP Hz HK
  simp only [args, k0_part15_eq_skeleton]; unfold k0_part15_skel
  simp only [Prog.lift, Prog.bind_op, Prog.bind_ret, Prog.pure_eq_ret]
  iapply (take (.inl (1, 2)) 5 6 iprop((H4 c a4 3 0 (ccwU x w 0 2 (rt c) 0) ∗ H4 c a4 3 1 (ccwU x w 0 2 (rt c) 1)) ∗ emp) rfl rfl rfl (by decide) (by rfl) (by rfl)) $$ HR HS
  iintro HS ⟨⟨Ha, Hb⟩, -⟩
  iapply (H4_load c a4) $$ Ha; iintro Ha
  iapply ps_any $$ HP; iintro %_ HP
  iapply (ps_store 2 0 (by decide) (by decide) (n := 3) rfl rfl rfl) $$ HP; iintro HP
  iapply (H4_load c a4) $$ Hb; iintro Hb
  iapply ps_any $$ HP; iintro %_ HP
  iapply (ps_store 3 0 (by decide) (by decide) (n := 4) rfl rfl rfl) $$ HP; iintro HP
  iapply (ps_load (l := 128) (c.val / 4 + 3) 0 (by decide) (by decide) (by decide) (off4_at c)) $$ HP; iintro HP
  iapply (F3_load c a8) $$ Hz; iintro %_ Hz
  iapply (put3 (v' := ztU x w 0 c) rfl) $$ Hz; iintro Hz
  rw [wp_ret]; imodintro
  iapply HK $$ HS [Ha Hb] HP Hz
  iapply (slot4_free c a4 3)
  isplitl [Ha] <;> iassumption

end Parts

end Cert.K01

end
-- ==== Proof.PartsC.lean ====
/-
  The parts of the kernel that run the ring in the plane for the second half, while the turn runs for the first.
-/
module

public import proofs.«01_k».proof.Proof.PartsB

@[expose] public section

noncomputable section

namespace Cert.K01

open Cert.KernelIdeal Cert.KernelIdeal.Gen

open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- The two steps at which the permissions travel, the numbers written out. -/
theorem plane_step (s : Fin 3) (m m' : ℕ) (hm : m = s.val) (hm' : m' = s.val + 1) (c : Dev nD) :
    iprop(RR (F := F) (Kn m c) ∗ RR (F := F) (Pn m (lf c))) ⊢ iprop(RR (F := F) (Kn m' c) ∗ RR (F := F) (Pn m' c)) := by
  subst hm hm'; exact RR_plane s c
theorem up_step (s : Fin 3) (m m' : ℕ) (hm : m = s.val) (hm' : m' = s.val + 1) (c : Dev nD) :
    iprop(RR (F := F) (Vn m c) ∗ RR (F := F) (Zn m (dn c))) ⊢ iprop(RR (F := F) (Vn m' c) ∗ RR (F := F) (Zn m' c)) := by
  subst hm hm'; exact RR_up s c

section Parts

variable {x : Dev nD → Vec F S4096x256 .bf16} {w : Dev nD → Vec F S256x2048 .bf16} {κ : Dev nD × CI → ℕ} (c : Dev nD)

theorem part16 {Φ : Vec F S128x2048 .bf16 → sProp 𝕄} (v20 : BitVec 32) :
    Recs x w κ ⊢ iprop(St (F := F) c 6 6 0 -∗ XW x w c -∗ H3 c a8 0 (ztU x w 0 c) -∗ free (F := F) (up c) a8 (slot3 1) -∗ RR (F := F) (Zn 0 c) -∗ F4 (F := F) c a5 0 0 -∗ F4 (F := F) c a5 0 1
      -∗ (St (F := F) c 7 6 0 -∗ XW x w c -∗ H4 c a5 0 0 (cwU x w 1 0 c 0) -∗ F4 (F := F) c a5 0 1
        -∗ Φ (k0_pay36 (xr x c (rw4 1 (c.val % 4 + 3) 1)) (wb w c)))
      -∗ Run (F := F) c (args (k0_part16 (F := F)) c v20) Φ) := by
  iintro #HR HS HL Hz Hd Hp Ha Hb HK
  simp only [args, k0_part16_eq_skeleton]; unfold k0_part16_skel
  simp only [Prog.lift, Prog.bind_op, Prog.bind_ret, Prog.pure_eq_ret]
  iapply (give3 a8 (.inl (4, 0)) 0 1 (dev11_eq c) 6 7 rfl rfl rfl rfl (by rfl) (up c) (ztU x w 0 c) (RR (Zn 0 c)) rfl .refl (pay4 0 c)) $$ HR HS Hz Hd Hp
  iintro HS
  iapply (x_get (off1_at c 0 3 1)) $$ HL; iintro HL
  iapply w_get $$ HL; iintro HL
  iapply (F4_load c a5) $$ Ha; iintro %_ Ha
  iapply (put4 (v' := cwU x w 1 0 c 0) rfl) $$ Ha; iintro Ha
  iapply (x_get (off1_at c 1 3 1)) $$ HL; iintro HL
  iapply w_get $$ HL; iintro HL
  iapply (F4_load c a5) $$ Hb; iintro %_ Hb
  rw [wp_ret]; imodintro
  ihave H := HK $$ HS HL Ha Hb
  iapply (post_eq ?_) $$ H; rfl

theorem part17 {Φ : BitVec 32 → sProp 𝕄} (v20 v24 : BitVec 32) :
    XW x w c ⊢ iprop(F4 (F := F) c a5 0 1 -∗ F4 (F := F) c a6 0 0 -∗ F4 (F := F) c a6 0 1
      -∗ (∀ v486, XW x w c -∗ H4 c a5 0 1 (cwU x w 1 0 c 1) -∗ H4 c a6 0 0 (ccwU x w 1 0 c 0) -∗ H4 c a6 0 1 (ccwU x w 1 0 c 1) -∗ Φ v486)
      -∗ Run (F := F) c (args (k0_part17 (F := F)) c v20 v24 (k0_pay36 (xr x c (rw4 1 (c.val % 4 + 3) 1)) (wb w c))) Φ) := by
  iintro HL Ha Hb Hc HK
  simp only [args, k0_part17_eq_skeleton]; unfold k0_part17_skel
  simp only [Prog.lift, Prog.bind_op, Prog.bind_ret, Prog.pure_eq_ret]
  iapply (put4 (v' := cwU x w 1 0 c 1) rfl) $$ Ha; iintro Ha
  iapply (x_get (off1_at c 2 1 1)) $$ HL; iintro HL
  iapply w_get $$ HL; iintro HL
  iapply (F4_load c a6) $$ Hb; iintro %_ Hb
  iapply (put4 (v' := ccwU x w 1 0 c 0) rfl) $$ Hb; iintro Hb
  iapply (x_get (off1_at c 3 1 1)) $$ HL; iintro HL
  iapply w_get $$ HL; iintro HL
  iapply (F4_load c a6) $$ Hc; iintro %_ Hc
  iapply (put4 (v' := ccwU x w 1 0 c 1) rfl) $$ Hc; iintro Hc
  rw [wp_ret]; imodintro
  iapply HK $$ HL Ha Hb Hc

theorem part18 {Φ : (Σ' (v508 : BitVec 32), BitVec 32) → sProp 𝕄} (v20 v28 v486 : BitVec 32) :
    Recs x w κ ⊢ iprop(St (F := F) c 7 6 0 -∗ H4 c a5 0 0 (cwU x w 1 0 c 0) -∗ H4 c a5 0 1 (cwU x w 1 0 c 1) -∗ H4 c a6 0 0 (ccwU x w 1 0 c 0) -∗ H4 c a6 0 1 (ccwU x w 1 0 c 1)
      -∗ free (F := F) (rt c) a5 (slot4 1) -∗ free (F := F) (lf c) a6 (slot4 1)
      -∗ (∀ v508 v511, St (F := F) c 9 6 0 -∗ Φ ⟨v508, v511⟩)
      -∗ Run (F := F) c (args (k0_part18 (F := F)) c v20 v28 v486) Φ) := by
  iintro #HR HS Ha Hb Hc Hd D1 D2 HK
  simp only [args, k0_part18_eq_skeleton]; unfold k0_part18_skel
  simp only [Prog.lift, Prog.bind_op, Prog.bind_ret, Prog.pure_eq_ret]
  iapply (give4 a5 (.inl (2, 0)) 0 1 (dev12_eq c) 7 8 rfl rfl rfl rfl (by rfl) (rt c) (cwU x w 1 0 c) iprop(emp) rfl .refl (pay2 0 c)) $$ HR HS Ha Hb D1 []
  · iempintro
  iintro HS
  iapply (give4 a6 (.inl (3, 0)) 0 1 (dev13_eq c) 8 9 rfl rfl rfl rfl (by rfl) (lf c) (ccwU x w 1 0 c) iprop(emp) rfl .refl (pay3 0 c)) $$ HR HS Hc Hd D2 []
  · iempintro
  iintro HS
  rw [wp_ret]; imodintro
  iapply HK $$ HS

theorem part19 {Φ : (Σ' (v519 : FVec F S128x2048 .f32) (v527 : FVec F S128x2048 .f32) (v535 : FVec F S128x2048 .f32), FVec F S128x2048 .f32) → sProp 𝕄} (v30 v508 v511 : BitVec 32) :
    XW x w c ⊢ iprop((XW x w c -∗ Φ ⟨prt x w c (rw4 0 (c.val % 4 + 6) 1), prt x w c (rw4 1 (c.val % 4 + 6) 1), prt x w c (rw4 2 (c.val % 4 + 2) 1), prt x w c (rw4 3 (c.val % 4 + 2) 1)⟩)
      -∗ Run (F := F) c (args (k0_part19 (F := F)) c v30 v508 v511) Φ) := by
  iintro HL HK
  simp only [args, k0_part19_eq_skeleton]; unfold k0_part19_skel
  simp only [Prog.lift, Prog.bind_op, Prog.bind_ret, Prog.pure_eq_ret]
  iapply (x_get (off2_at c 0 0 1)) $$ HL; iintro HL
  iapply w_get $$ HL; iintro HL
  iapply (x_get (off2_at c 1 0 1)) $$ HL; iintro HL
  iapply w_get $$ HL; iintro HL
  iapply (x_get (off3_at c 0 0 1)) $$ HL; iintro HL
  iapply w_get $$ HL; iintro HL
  iapply (x_get (off3_at c 1 0 1)) $$ HL; iintro HL
  iapply w_get $$ HL; iintro HL
  rw [wp_ret]; imodintro
  ihave H := HK $$ HL
  iapply (post_eq ?_) $$ H; rfl

theorem part20 {Φ : PUnit → sProp 𝕄} (v19 v30 : BitVec 32) :
    Recs x w κ ⊢ iprop(St (F := F) c 9 6 0 -∗ PSUM x w c 4 -∗ free (F := F) (up c) a8 (slot3 2)
      -∗ RR (F := F) (Vn 0 c)
      -∗ (St (F := F) c 10 7 0 -∗ PSUM x w c 4 -∗ RR (F := F) (Vn 1 c) -∗ Φ ⟨⟩)
      -∗ Run (F := F) c (args (k0_part20 (F := F)) c v19 v30) Φ) := by
  iintro #HR HS HP Hd HW HK
  simp only [args, k0_part20_eq_skeleton]; unfold k0_part20_skel
  simp only [Prog.lift, Prog.bind_op, Prog.bind_ret, Prog.pure_eq_ret]
  iapply (take (.inl (4, 0)) 6 7 iprop(H3 c a8 1 (ztU x w 0 (dn c)) ∗ RR (F := F) (Zn 0 (dn c))) rfl rfl rfl (by decide) (by rfl) (by rfl)) $$ HR HS
  iintro HS ⟨Ha, Hp⟩
  iapply (ps_load (l := 128) (c.val / 4 + 6) 0 (by decide) (by decide) (by decide) (off5_at c 0)) $$ HP; iintro HP
  iapply (H3_load c a8) $$ Ha; iintro Ha
  iapply drop3 $$ Ha; iintro %_ Ha
  iapply (put3 (v' := ztU x w 1 c) rfl) $$ Ha; iintro Ha
  ihave Hp := (up_step 0 0 1 rfl rfl c) $$ [HW Hp]
  · isplitl [HW] <;> iassumption
  icases Hp with ⟨HV, Hp⟩
  iapply (give3 a8 (.inl (4, 1)) 1 2 (dev14_eq c) 9 10 rfl rfl rfl rfl (by rfl) (up c) (ztU x w 1 c) (RR (Zn 1 c)) rfl .refl (pay4 1 c)) $$ HR HS Ha Hd Hp
  iintro HS
  rw [wp_ret]; imodintro
  iapply HK $$ HS HP HV

theorem part21 {Φ : BitVec 32 → sProp 𝕄} (v24 : BitVec 32) :
    Recs x w κ ⊢ iprop(St (F := F) c 10 7 0
      -∗ (∀ c1, St (F := F) c 10 8 0 -∗ H4 c a5 1 0 (cwU x w 1 1 c 0) -∗ H4 c a5 1 1 (cwU x w 1 1 c 1) -∗ Φ c1)
      -∗ Run (F := F) c (args (k0_part21 (F := F)) v24 (prt x w c (rw4 0 (c.val % 4 + 6) 1)) (prt x w c (rw4 1 (c.val % 4 + 6) 1))) Φ) := by
  iintro #HR HS HK
  simp only [args, k0_part21_eq_skeleton]; unfold k0_part21_skel
  simp only [Prog.lift, Prog.bind_op, Prog.bind_ret, Prog.pure_eq_ret]
  iapply (take (.inl (2, 0)) 7 8 iprop((H4 c a5 1 0 (cwU x w 1 0 (lf c) 0) ∗ H4 c a5 1 1 (cwU x w 1 0 (lf c) 1)) ∗ emp) rfl rfl rfl (by decide) (by rfl) (by rfl)) $$ HR HS
  iintro HS ⟨⟨Ha, Hb⟩, -⟩
  iapply (H4_load c a5) $$ Ha; iintro Ha
  iapply drop4 $$ Ha; iintro %_ Ha
  iapply (put4 (v' := cwU x w 1 1 c 0) rfl) $$ Ha; iintro Ha
  iapply (H4_load c a5) $$ Hb; iintro Hb
  iapply drop4 $$ Hb; iintro %_ Hb
  iapply (put4 (v' := cwU x w 1 1 c 1) rfl) $$ Hb; iintro Hb
  rw [wp_ret]; imodintro
  iapply HK $$ HS Ha Hb

theorem part22 {Φ : PUnit → sProp 𝕄} (v24 v28 c1 : BitVec 32) :
    Recs x w κ ⊢ iprop(St (F := F) c 10 8 0 -∗ H4 c a5 1 0 (cwU x w 1 1 c 0) -∗ H4 c a5 1 1 (cwU x w 1 1 c 1) -∗ free (F := F) (rt c) a5 (slot4 2)
      -∗ (St (F := F) c 11 9 0 -∗ H4 c a6 1 0 (ccwU x w 1 1 c 0) -∗ H4 c a6 1 1 (ccwU x w 1 0 (rt c) 1) -∗ Φ ⟨⟩)
      -∗ Run (F := F) c (args (k0_part22 (F := F)) c v24 v28 (prt x w c (rw4 2 (c.val % 4 + 2) 1)) c1) Φ) := by
  iintro #HR HS Ha Hb Hd HK
  simp only [args, k0_part22_eq_skeleton]; unfold k0_part22_skel
  simp only [Prog.lift, Prog.bind_op, Prog.bind_ret, Prog.pure_eq_ret]
  iapply (give4 a5 (.inl (2, 1)) 1 2 (dev15_eq c) 10 11 rfl rfl rfl rfl (by rfl) (rt c) (cwU x w 1 1 c) iprop(emp) rfl .refl (pay2 1 c)) $$ HR HS Ha Hb Hd []
  · iempintro
  iintro HS
  iapply (take (.inl (3, 0)) 8 9 iprop((H4 c a6 1 0 (ccwU x w 1 0 (rt c) 0) ∗ H4 c a6 1 1 (ccwU x w 1 0 (rt c) 1)) ∗ emp) rfl rfl rfl (by decide) (by rfl) (by rfl)) $$ HR HS
  iintro HS ⟨⟨Ha, Hb⟩, -⟩
  iapply (H4_load c a6) $$ Ha; iintro Ha
  iapply drop4 $$ Ha; iintro %_ Ha
  iapply (put4 (v' := ccwU x w 1 1 c 0) rfl) $$ Ha; iintro Ha
  rw [wp_ret]; imodintro
  iapply HK $$ HS Ha Hb

theorem part23 {Φ : (Σ' (v647 : BitVec 32) (v650 : BitVec 32), FVec F S128x256 .bf16) → sProp 𝕄} (v20 v28 : BitVec 32) :
    Recs x w κ ⊢ iprop(St (F := F) c 11 9 0 -∗ XW x w c -∗ H4 c a6 1 0 (ccwU x w 1 1 c 0) -∗ H4 c a6 1 1 (ccwU x w 1 0 (rt c) 1) -∗ free (F := F) (lf c) a6 (slot4 2)
      -∗ (∀ v647 v650, St (F := F) c 12 9 0 -∗ XW x w c -∗ Φ ⟨v647, v650, k0_pay49 (xr x c (rw4 0 (c.val % 4 + 5) 1))⟩)
      -∗ Run (F := F) c (args (k0_part23 (F := F)) c v20 v28 (prt x w c (rw4 3 (c.val % 4 + 2) 1))) Φ) := by
  iintro #HR HS HL Ha Hb Hd HK
  simp only [args, k0_part23_eq_skeleton]; unfold k0_part23_skel
  simp only [Prog.lift, Prog.bind_op, Prog.bind_ret, Prog.pure_eq_ret]
  iapply (H4_load c a6) $$ Hb; iintro Hb
  iapply drop4 $$ Hb; iintro %_ Hb
  iapply (put4 (v' := ccwU x w 1 1 c 1) rfl) $$ Hb; iintro Hb
  iapply (give4 a6 (.inl (3, 1)) 1 2 (dev16_eq c) 11 12 rfl rfl rfl rfl (by rfl) (lf c) (ccwU x w 1 1 c) iprop(emp) rfl .refl (pay3 1 c)) $$ HR HS Ha Hb Hd []
  · iempintro
  iintro HS
  iapply (x_get (off2_at c 0 1 1)) $$ HL; iintro HL
  rw [wp_ret]; imodintro
  ispecialize HK $$ %_ %_ HS HL
  iapply (post_eq ?_) $$ HK; rfl

theorem part24 {Φ : (Σ' (v658 : FVec F S128x2048 .f32) (v666 : FVec F S128x2048 .f32) (v674 : FVec F S128x2048 .f32), FVec F S128x2048 .f32) → sProp 𝕄} (v30 v647 v650 : BitVec 32) :
    XW x w c ⊢ iprop((XW x w c -∗ Φ ⟨prt x w c (rw4 0 (c.val % 4 + 5) 1), prt x w c (rw4 1 (c.val % 4 + 5) 1), prt x w c (rw4 2 (c.val % 4 + 3) 1), prt x w c (rw4 3 (c.val % 4 + 3) 1)⟩)
      -∗ Run (F := F) c (args (k0_part24 (F := F)) c v30 v647 v650 (k0_pay49 (xr x c (rw4 0 (c.val % 4 + 5) 1)))) Φ) := by
  iintro HL HK
  simp only [args, k0_part24_eq_skeleton]; unfold k0_part24_skel
  simp only [Prog.lift, Prog.bind_op, Prog.bind_ret, Prog.pure_eq_ret]
  iapply w_get $$ HL; iintro HL
  iapply (x_get (off2_at c 1 1 1)) $$ HL; iintro HL
  iapply w_get $$ HL; iintro HL
  iapply (x_get (off3_at c 0 1 1)) $$ HL; iintro HL
  iapply w_get $$ HL; iintro HL
  iapply (x_get (off3_at c 1 1 1)) $$ HL; iintro HL
  iapply w_get $$ HL; iintro HL
  rw [wp_ret]; imodintro
  ihave H := HK $$ HL
  iapply (post_eq ?_) $$ H; rfl

theorem part25 {Φ : PUnit → sProp 𝕄} (v19 v30 : BitVec 32) :
    Recs x w κ ⊢ iprop(St (F := F) c 12 9 0 -∗ PSUM x w c 4 -∗ free (F := F) (up c) a8 (slot3 3)
      -∗ RR (F := F) (Vn 1 c)
      -∗ (St (F := F) c 13 10 0 -∗ PSUM x w c 4 -∗ RR (F := F) (Vn 2 c) -∗ Φ ⟨⟩)
      -∗ Run (F := F) c (args (k0_part25 (F := F)) c v19 v30) Φ) := by
  iintro #HR HS HP Hd HW HK
  simp only [args, k0_part25_eq_skeleton]; unfold k0_part25_skel
  simp only [Prog.lift, Prog.bind_op, Prog.bind_ret, Prog.pure_eq_ret]
  iapply (take (.inl (4, 1)) 9 10 iprop(H3 c a8 2 (ztU x w 1 (dn c)) ∗ RR (F := F) (Zn 1 (dn c))) rfl rfl rfl (by decide) (by rfl) (by rfl)) $$ HR HS
  iintro HS ⟨Ha, Hp⟩
  iapply (ps_load (l := 128) (c.val / 4 + 5) 0 (by decide) (by decide) (by decide) (off5_at c 1)) $$ HP; iintro HP
  iapply (H3_load c a8) $$ Ha; iintro Ha
  iapply drop3 $$ Ha; iintro %_ Ha
  iapply (put3 (v' := ztU x w 2 c) rfl) $$ Ha; iintro Ha
  ihave Hp := (up_step 1 1 2 rfl rfl c) $$ [HW Hp]
  · isplitl [HW] <;> iassumption
  icases Hp with ⟨HV, Hp⟩
  iapply (give3 a8 (.inl (4, 2)) 2 3 (dev17_eq c) 12 13 rfl rfl rfl rfl (by rfl) (up c) (ztU x w 2 c) (RR (Zn 2 c)) rfl .refl (pay4 2 c)) $$ HR HS Ha Hd Hp
  iintro HS
  rw [wp_ret]; imodintro
  iapply HK $$ HS HP HV

theorem part26 {Φ : PUnit → sProp 𝕄} (v24 : BitVec 32) :
    Recs x w κ ⊢ iprop(St (F := F) c 13 10 0
      -∗ (St (F := F) c 13 11 0 -∗ H4 c a5 2 0 (cwU x w 1 2 c 0) -∗ H4 c a5 2 1 (cwU x w 1 2 c 1) -∗ Φ ⟨⟩)
      -∗ Run (F := F) c (args (k0_part26 (F := F)) v24 (prt x w c (rw4 0 (c.val % 4 + 5) 1)) (prt x w c (rw4 1 (c.val % 4 + 5) 1))) Φ) := by
  iintro #HR HS HK
  simp only [args, k0_part26_eq_skeleton]; unfold k0_part26_skel
  simp only [Prog.lift, Prog.bind_op, Prog.bind_ret, Prog.pure_eq_ret]
  iapply (take (.inl (2, 1)) 10 11 iprop((H4 c a5 2 0 (cwU x w 1 1 (lf c) 0) ∗ H4 c a5 2 1 (cwU x w 1 1 (lf c) 1)) ∗ emp) rfl rfl rfl (by decide) (by rfl) (by rfl)) $$ HR HS
  iintro HS ⟨⟨Ha, Hb⟩, -⟩
  iapply (H4_load c a5) $$ Ha; iintro Ha
  iapply drop4 $$ Ha; iintro %_ Ha
  iapply (put4 (v' := cwU x w 1 2 c 0) rfl) $$ Ha; iintro Ha
  iapply (H4_load c a5) $$ Hb; iintro Hb
  iapply drop4 $$ Hb; iintro %_ Hb
  iapply (put4 (v' := cwU x w 1 2 c 1) rfl) $$ Hb; iintro Hb
  rw [wp_ret]; imodintro
  iapply HK $$ HS Ha Hb

theorem part27 {Φ : FVec F S128x2048 .f32 → sProp 𝕄} (v28 : BitVec 32) :
    Recs x w κ ⊢ iprop(St (F := F) c 13 11 0 -∗ H4 c a5 2 0 (cwU x w 1 2 c 0) -∗ H4 c a5 2 1 (cwU x w 1 2 c 1) -∗ free (F := F) (rt c) a5 (slot4 3)
      -∗ (St (F := F) c 14 12 0 -∗ H4 c a6 2 0 (ccwU x w 1 2 c 0) -∗ H4 c a6 2 1 (ccwU x w 1 1 (rt c) 1) -∗ Φ (k0_pay58 (prt x w c (rw4 3 (c.val % 4 + 3) 1)) (ccwU x w 1 1 (rt c) 1)))
      -∗ Run (F := F) c (args (k0_part27 (F := F)) c v28 (prt x w c (rw4 2 (c.val % 4 + 3) 1)) (prt x w c (rw4 3 (c.val % 4 + 3) 1))) Φ) := by
  iintro #HR HS Ha Hb Hd HK
  simp only [args, k0_part27_eq_skeleton]; unfold k0_part27_skel
  simp only [Prog.lift, Prog.bind_op, Prog.bind_ret, Prog.pure_eq_ret]
  iapply (give4 a5 (.inl (2, 2)) 2 3 (dev18_eq c) 13 14 rfl rfl rfl rfl (by rfl) (rt c) (cwU x w 1 2 c) iprop(emp) rfl .refl (pay2 2 c)) $$ HR HS Ha Hb Hd []
  · iempintro
  iintro HS
  iapply (take (.inl (3, 1)) 11 12 iprop((H4 c a6 2 0 (ccwU x w 1 1 (rt c) 0) ∗ H4 c a6 2 1 (ccwU x w 1 1 (rt c) 1)) ∗ emp) rfl rfl rfl (by decide) (by rfl) (by rfl)) $$ HR HS
  iintro HS ⟨⟨Ha, Hb⟩, -⟩
  iapply (H4_load c a6) $$ Ha; iintro Ha
  iapply drop4 $$ Ha; iintro %_ Ha
  iapply (put4 (v' := ccwU x w 1 2 c 0) rfl) $$ Ha; iintro Ha
  iapply (H4_load c a6) $$ Hb; iintro Hb
  rw [wp_ret]; imodintro
  iapply HK $$ HS Ha Hb

theorem part28 {Φ : (Σ' (v786 : BitVec 32) (v789 : BitVec 32) (v797 : FVec F S128x2048 .f32), BitVec 32) → sProp 𝕄} (v20 v28 : BitVec 32) :
    Recs x w κ ⊢ iprop(St (F := F) c 14 12 0 -∗ XW x w c -∗ H4 c a6 2 0 (ccwU x w 1 2 c 0) -∗ H4 c a6 2 1 (ccwU x w 1 1 (rt c) 1) -∗ free (F := F) (lf c) a6 (slot4 3)
      -∗ (∀ v786 v789 c4, St (F := F) c 15 12 0 -∗ XW x w c -∗ Φ ⟨v786, v789, prt x w c (rw4 0 (c.val % 4 + 4) 1), c4⟩)
      -∗ Run (F := F) c (args (k0_part28 (F := F)) c v20 v28 (k0_pay58 (prt x w c (rw4 3 (c.val % 4 + 3) 1)) (ccwU x w 1 1 (rt c) 1))) Φ) := by
  iintro #HR HS HL Ha Hb Hd HK
  simp only [args, k0_part28_eq_skeleton]; unfold k0_part28_skel
  simp only [Prog.lift, Prog.bind_op, Prog.bind_ret, Prog.pure_eq_ret]
  iapply drop4 $$ Hb; iintro %_ Hb
  iapply (put4 (v' := ccwU x w 1 2 c 1) rfl) $$ Hb; iintro Hb
  iapply (give4 a6 (.inl (3, 2)) 2 3 (dev19_eq c) 14 15 rfl rfl rfl rfl (by rfl) (lf c) (ccwU x w 1 2 c) iprop(emp) rfl .refl (pay3 2 c)) $$ HR HS Ha Hb Hd []
  · iempintro
  iintro HS
  iapply (x_get (off2_at c 0 2 1)) $$ HL; iintro HL
  iapply w_get $$ HL; iintro HL
  rw [wp_ret]; imodintro
  ispecialize HK $$ %_ %_ %_ HS HL
  iapply (post_eq ?_) $$ HK; rfl

theorem part29 {Φ : (Σ' (v805 : FVec F S128x2048 .f32) (v813 : FVec F S128x2048 .f32), FVec F S128x2048 .f32) → sProp 𝕄} (v30 v786 v789 c4 : BitVec 32) :
    XW x w c ⊢ iprop((XW x w c -∗ Φ ⟨prt x w c (rw4 1 (c.val % 4 + 4) 1), prt x w c (rw4 2 (c.val % 4 + 4) 1), prt x w c (rw4 3 (c.val % 4 + 4) 1)⟩)
      -∗ Run (F := F) c (args (k0_part29 (F := F)) c v30 v786 v789 c4) Φ) := by
  iintro HL HK
  simp only [args, k0_part29_eq_skeleton]; unfold k0_part29_skel
  simp only [Prog.lift, Prog.bind_op, Prog.bind_ret, Prog.pure_eq_ret]
  iapply (x_get (off2_at c 1 2 1)) $$ HL; iintro HL
  iapply w_get $$ HL; iintro HL
  iapply (x_get (off3_at c 0 2 1)) $$ HL; iintro HL
  iapply w_get $$ HL; iintro HL
  iapply (x_get (off3_at c 1 2 1)) $$ HL; iintro HL
  iapply w_get $$ HL; iintro HL
  rw [wp_ret]; imodintro
  ihave H := HK $$ HL
  iapply (post_eq ?_) $$ H; rfl

theorem part30 {Φ : FVec F S128x2048 .f32 → sProp 𝕄} (v19 v24 : BitVec 32) :
    Recs x w κ ⊢ iprop(St (F := F) c 15 12 0 -∗ PSUM x w c 4 -∗ OUTY x w c 0
      -∗ (St (F := F) c 15 14 0 -∗ PSUM x w c 4 -∗ OUTY x w c 128 -∗ RR (F := F) (Zn 2 (dn c)) -∗ F3 (F := F) c a8 3
        -∗ H4 c a5 3 0 (cwU x w 1 2 (lf c) 0) -∗ H4 c a5 3 1 (cwU x w 1 2 (lf c) 1) -∗ Φ (k0_pay65 (prt x w c (rw4 0 (c.val % 4 + 4) 1)) (cwU x w 1 2 (lf c) 0)))
      -∗ Run (F := F) c (args (k0_part30 (F := F)) c v19 v24 (prt x w c (rw4 0 (c.val % 4 + 4) 1))) Φ) := by
  iintro #HR HS HP HY HK
  simp only [args, k0_part30_eq_skeleton]; unfold k0_part30_skel
  simp only [Prog.lift, Prog.bind_op, Prog.bind_ret, Prog.pure_eq_ret]
  iapply (take (.inl (4, 2)) 12 13 iprop(H3 c a8 3 (ztU x w 2 (dn c)) ∗ RR (F := F) (Zn 2 (dn c))) rfl rfl rfl (by decide) (by rfl) (by rfl)) $$ HR HS
  iintro HS ⟨Hz, Hp⟩
  iapply (ps_load (l := 128) (c.val / 4 + 4) 0 (by decide) (by decide) (by decide) (off5_at c 2)) $$ HP; iintro HP
  iapply (H3_load c a8) $$ Hz; iintro Hz
  iapply y_any $$ HY; iintro %_ HY
  iapply (y_store 0 128 rfl rfl (by exact y_rows0 c)) $$ HY; iintro HY
  iapply (take (.inl (2, 2)) 13 14 iprop((H4 c a5 3 0 (cwU x w 1 2 (lf c) 0) ∗ H4 c a5 3 1 (cwU x w 1 2 (lf c) 1)) ∗ emp) rfl rfl rfl (by decide) (by rfl) (by rfl)) $$ HR HS
  iintro HS ⟨⟨Ha, Hb⟩, -⟩
  iapply (H4_load c a5) $$ Ha; iintro Ha
  iapply ps_any $$ HP; iintro %_ HP
  rw [wp_ret]; imodintro
  ihave Hz := (H3_F3 c a8 3 _) $$ Hz
  iapply HK $$ HS HP HY Hp Hz Ha Hb

theorem part31 {Φ : FVec F S128x2048 .f32 → sProp 𝕄} (v28 : BitVec 32) :
    Recs x w κ ⊢ iprop(St (F := F) c 15 14 0 -∗ PSUM x w c 4 -∗ H4 c a5 3 0 (cwU x w 1 2 (lf c) 0) -∗ H4 c a5 3 1 (cwU x w 1 2 (lf c) 1)
      -∗ (St (F := F) c 15 15 0 -∗ PSUM x w c 7 -∗ free (F := F) c a5 (slot4 3) -∗ free (F := F) c a6 (slot4 3)
        -∗ Φ (k0_pay69 (prt x w c (rw4 3 (c.val % 4 + 4) 1)) (ccwU x w 1 2 (rt c) 1)))
      -∗ Run (F := F) c (args (k0_part31 (F := F)) v28 (prt x w c (rw4 1 (c.val % 4 + 4) 1)) (prt x w c (rw4 2 (c.val % 4 + 4) 1)) (prt x w c (rw4 3 (c.val % 4 + 4) 1))
          (k0_pay65 (prt x w c (rw4 0 (c.val % 4 + 4) 1)) (cwU x w 1 2 (lf c) 0))) Φ) := by
  iintro #HR HS HP Ha Hb HK
  simp only [args, k0_part31_eq_skeleton]; unfold k0_part31_skel
  simp only [Prog.lift, Prog.bind_op, Prog.bind_ret, Prog.pure_eq_ret]
  iapply (ps_store 0 1 (by decide) (by decide) (n := 5) rfl rfl rfl) $$ HP; iintro HP
  iapply (H4_load c a5) $$ Hb; iintro Hb
  iapply ps_any $$ HP; iintro %_ HP
  iapply (ps_store 1 1 (by decide) (by decide) (n := 6) rfl rfl rfl) $$ HP; iintro HP
  iapply (take (.inl (3, 2)) 14 15 iprop((H4 c a6 3 0 (ccwU x w 1 2 (rt c) 0) ∗ H4 c a6 3 1 (ccwU x w 1 2 (rt c) 1)) ∗ emp) rfl rfl rfl (by decide) (by rfl) (by rfl)) $$ HR HS
  iintro HS ⟨⟨Hc, Hd⟩, -⟩
  iapply (H4_load c a6) $$ Hc; iintro Hc
  iapply ps_any $$ HP; iintro %_ HP
  iapply (ps_store 2 1 (by decide) (by decide) (n := 7) rfl rfl rfl) $$ HP; iintro HP
  iapply (H4_load c a6) $$ Hd; iintro Hd
  rw [wp_ret]; imodintro
  iapply HK $$ HS HP [Ha Hb] [Hc Hd]
  · iapply (slot4_free c a5 3)
    isplitl [Ha] <;> iassumption
  · iapply (slot4_free c a6 3)
    isplitl [Hc] <;> iassumption

theorem part32 {Φ : PUnit → sProp 𝕄} (v19 v30 : BitVec 32) :
    PSUM x w c 7 ⊢ iprop(F3 (F := F) c a9 0 -∗ F3 (F := F) c a10 0
      -∗ (PSUM x w c 8 -∗ H3 c a9 0 (zuU x w 0 c) -∗ H3 c a10 0 (zdU x w 0 c) -∗ Φ ⟨⟩)
      -∗ Run (F := F) c (args (k0_part32 (F := F)) c v19 v30 (k0_pay69 (prt x w c (rw4 3 (c.val % 4 + 4) 1)) (ccwU x w 1 2 (rt c) 1))) Φ) := by
  iintro HP Ha Hb HK
  simp only [args, k0_part32_eq_skeleton]; unfold k0_part32_skel
  simp only [Prog.lift, Prog.bind_op, Prog.bind_ret, Prog.pure_eq_ret]
  iapply ps_any $$ HP; iintro %_ HP
  iapply (ps_store 3 1 (by decide) (by decide) (n := 8) rfl rfl rfl) $$ HP; iintro HP
  iapply (ps_load (l := 64) (c.val / 4 + 3) 128 (by decide) (by decide) (by decide) (off6_up c)) $$ HP; iintro HP
  iapply (F3_load c a9) $$ Ha; iintro %_ Ha
  iapply (put3 (v' := zuU x w 0 c) rfl) $$ Ha; iintro Ha
  iapply (ps_load (l := 64) (c.val / 4 + 1) 192 (by decide) (by decide) (by decide) (off6_dn c)) $$ HP; iintro HP
  iapply (F3_load c a10) $$ Hb; iintro %_ Hb
  iapply (put3 (v' := zdU x w 0 c) rfl) $$ Hb; iintro Hb
  rw [wp_ret]; imodintro
  iapply HK $$ HP Ha Hb

end Parts

end Cert.K01

end
-- ==== Proof.PartsD.lean ====
/-
  The parts of the kernel that finish the turn and put down the row of the local maximum.
-/
module

public import proofs.«01_k».proof.Proof.PartsC

@[expose] public section

noncomputable section

namespace Cert.K01

open Cert.KernelIdeal Cert.KernelIdeal.Gen

open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section Parts

variable {x : Dev nD → Vec F S4096x256 .bf16} {w : Dev nD → Vec F S256x2048 .bf16} {κ : Dev nD × CI → ℕ} (c : Dev nD)

theorem part33 {Φ : (Σ' (v932 : F .f32), BitVec 32) → sProp 𝕄} (v19 v30 v33 : BitVec 32) :
    Recs x w κ ⊢ iprop(St (F := F) c 15 15 0 -∗ H3 c a9 0 (zuU x w 0 c) -∗ H3 c a10 0 (zdU x w 0 c) -∗ F3 (F := F) (up c) a9 1 -∗ F3 (F := F) (dn c) a10 1 -∗ OUTY x w c 128
      -∗ (∀ v943, St (F := F) c 17 16 0 -∗ H3 c a9 1 (zuU x w 0 (dn c)) -∗ OUTY x w c 128 -∗ Φ ⟨k0_pay73 (rows 128 (Y x w c) 0), v943⟩)
      -∗ Run (F := F) c (args (k0_part33 (F := F)) c v19 v30 v33) Φ) := by
  iintro #HR HS Ha Hb D1 D2 HY HK
  simp only [args, k0_part33_eq_skeleton]; unfold k0_part33_skel
  simp only [Prog.lift, Prog.bind_op, Prog.bind_ret, Prog.pure_eq_ret]
  iapply (give3 a9 (.inl (5, 0)) 0 1 (dev20_eq c) 15 16 rfl rfl rfl rfl (by rfl) (up c) (zuU x w 0 c) iprop(emp) rfl .refl (pay5 0 c)) $$ HR HS Ha D1 []
  · iempintro
  iintro HS
  iapply (give3 a10 (.inl (6, 0)) 0 1 (dev21_eq c) 16 17 rfl rfl rfl rfl (by rfl) (dn c) (zdU x w 0 c) iprop(emp) rfl .refl (pay6 0 c)) $$ HR HS Hb D2 []
  · iempintro
  iintro HS
  iapply (y_load (l := 128) 0 (by decide) rfl) $$ HY; iintro HY
  iapply (take (.inl (5, 0)) 15 16 iprop(H3 c a9 1 (zuU x w 0 (dn c)) ∗ emp) rfl rfl rfl (by decide) (by rfl) (by rfl)) $$ HR HS
  iintro HS ⟨Ha, -⟩
  rw [wp_ret]; imodintro
  iapply HK $$ HS Ha HY

theorem part34 {Φ : PUnit → sProp 𝕄} (v30 v33 v943 : BitVec 32) :
    Recs x w κ ⊢ iprop(St (F := F) c 17 16 0 -∗ PSUM x w c 8 -∗ H3 c a9 1 (zuU x w 0 (dn c)) -∗ F3 (F := F) (up c) a9 2
      -∗ (St (F := F) c 18 16 0 -∗ PSUM x w c 8 -∗ Φ ⟨⟩)
      -∗ Run (F := F) c (args (k0_part34 (F := F)) c v30 v33 v943) Φ) := by
  iintro #HR HS HP Ha Hd HK
  simp only [args, k0_part34_eq_skeleton]; unfold k0_part34_skel
  simp only [Prog.lift, Prog.bind_op, Prog.bind_ret, Prog.pure_eq_ret]
  iapply (ps_load (l := 64) (c.val / 4 + 6) 128 (by decide) (by decide) (by decide) (off7_at c 0)) $$ HP; iintro HP
  iapply (H3_load c a9) $$ Ha; iintro Ha
  iapply drop3 $$ Ha; iintro %_ Ha
  iapply (put3 (v' := zuU x w 1 c) rfl) $$ Ha; iintro Ha
  iapply (give3 a9 (.inl (5, 1)) 1 2 (dev22_eq c) 17 18 rfl rfl rfl rfl (by rfl) (up c) (zuU x w 1 c) iprop(emp) rfl .refl (pay5 1 c)) $$ HR HS Ha Hd []
  · iempintro
  iintro HS
  rw [wp_ret]; imodintro
  iapply HK $$ HS HP

theorem part35 {Φ : PUnit → sProp 𝕄} (v19 v30 v33 : BitVec 32) :
    Recs x w κ ⊢ iprop(St (F := F) c 18 16 0 -∗ PSUM x w c 8 -∗ F3 (F := F) (dn c) a10 2
      -∗ (St (F := F) c 19 17 0 -∗ PSUM x w c 8 -∗ Φ ⟨⟩)
      -∗ Run (F := F) c (args (k0_part35 (F := F)) c v19 v30 v33) Φ) := by
  iintro #HR HS HP Hd HK
  simp only [args, k0_part35_eq_skeleton]; unfold k0_part35_skel
  simp only [Prog.lift, Prog.bind_op, Prog.bind_ret, Prog.pure_eq_ret]
  iapply (take (.inl (6, 0)) 16 17 iprop(H3 c a10 1 (zdU x w 0 (up c)) ∗ emp) rfl rfl rfl (by decide) (by rfl) (by rfl)) $$ HR HS
  iintro HS ⟨Ha, -⟩
  iapply (ps_load (l := 64) (c.val / 4 + 2) 192 (by decide) (by decide) (by decide) (off8_at c 0)) $$ HP; iintro HP
  iapply (H3_load c a10) $$ Ha; iintro Ha
  iapply drop3 $$ Ha; iintro %_ Ha
  iapply (put3 (v' := zdU x w 1 c) rfl) $$ Ha; iintro Ha
  iapply (give3 a10 (.inl (6, 1)) 1 2 (dev23_eq c) 18 19 rfl rfl rfl rfl (by rfl) (dn c) (zdU x w 1 c) iprop(emp) rfl .refl (pay6 1 c)) $$ HR HS Ha Hd []
  · iempintro
  iintro HS
  rw [wp_ret]; imodintro
  iapply HK $$ HS HP

theorem part36 {Φ : PUnit → sProp 𝕄} (v19 v30 : BitVec 32) :
    Recs x w κ ⊢ iprop(St (F := F) c 19 17 0 -∗ PSUM x w c 8 -∗ F3 (F := F) (up c) a9 3
      -∗ (St (F := F) c 20 18 0 -∗ PSUM x w c 8 -∗ Φ ⟨⟩)
      -∗ Run (F := F) c (args (k0_part36 (F := F)) c v19 v30) Φ) := by
  iintro #HR HS HP Hd HK
  simp only [args, k0_part36_eq_skeleton]; unfold k0_part36_skel
  simp only [Prog.lift, Prog.bind_op, Prog.bind_ret, Prog.pure_eq_ret]
  iapply (take (.inl (5, 1)) 17 18 iprop(H3 c a9 2 (zuU x w 1 (dn c)) ∗ emp) rfl rfl rfl (by decide) (by rfl) (by rfl)) $$ HR HS
  iintro HS ⟨Ha, -⟩
  iapply (ps_load (l := 64) (c.val / 4 + 5) 128 (by decide) (by decide) (by decide) (off7_at c 1)) $$ HP; iintro HP
  iapply (H3_load c a9) $$ Ha; iintro Ha
  iapply drop3 $$ Ha; iintro %_ Ha
  iapply (put3 (v' := zuU x w 2 c) rfl) $$ Ha; iintro Ha
  iapply (give3 a9 (.inl (5, 2)) 2 3 (dev24_eq c) 19 20 rfl rfl rfl rfl (by rfl) (up c) (zuU x w 2 c) iprop(emp) rfl .refl (pay5 2 c)) $$ HR HS Ha Hd []
  · iempintro
  iintro HS
  rw [wp_ret]; imodintro
  iapply HK $$ HS HP

theorem part37 {Φ : PUnit → sProp 𝕄} (v19 v33 : BitVec 32) :
    Recs x w κ ⊢ iprop(St (F := F) c 20 18 0 -∗ PSUM x w c 8
      -∗ (St (F := F) c 20 19 0 -∗ PSUM x w c 8 -∗ H3 c a10 2 (zdU x w 2 c) -∗ Φ ⟨⟩)
      -∗ Run (F := F) c (args (k0_part37 (F := F)) c v19 v33) Φ) := by
  iintro #HR HS HP HK
  simp only [args, k0_part37_eq_skeleton]; unfold k0_part37_skel
  simp only [Prog.lift, Prog.bind_op, Prog.bind_ret, Prog.pure_eq_ret]
  iapply (take (.inl (6, 1)) 18 19 iprop(H3 c a10 2 (zdU x w 1 (up c)) ∗ emp) rfl rfl rfl (by decide) (by rfl) (by rfl)) $$ HR HS
  iintro HS ⟨Ha, -⟩
  iapply (ps_load (l := 64) (c.val / 4 + 3) 192 (by decide) (by decide) (by decide) (off8_at c 1)) $$ HP; iintro HP
  iapply (H3_load c a10) $$ Ha; iintro Ha
  iapply drop3 $$ Ha; iintro %_ Ha
  iapply (put3 (v' := zdU x w 2 c) rfl) $$ Ha; iintro Ha
  rw [wp_ret]; imodintro
  iapply HK $$ HS HP Ha

theorem part38 {Φ : PUnit → sProp 𝕄} (v19 v30 v33 : BitVec 32) :
    Recs x w κ ⊢ iprop(St (F := F) c 20 19 0 -∗ PSUM x w c 8 -∗ H3 c a10 2 (zdU x w 2 c) -∗ F3 (F := F) (dn c) a10 3 -∗ OUTY x w c 128
      -∗ (St (F := F) c 21 20 0 -∗ PSUM x w c 8 -∗ F3 (F := F) c a9 3 -∗ OUTY x w c 192 -∗ Φ ⟨⟩)
      -∗ Run (F := F) c (args (k0_part38 (F := F)) c v19 v30 v33) Φ) := by
  iintro #HR HS HP Ha Hd HY HK
  simp only [args, k0_part38_eq_skeleton]; unfold k0_part38_skel
  simp only [Prog.lift, Prog.bind_op, Prog.bind_ret, Prog.pure_eq_ret]
  iapply (give3 a10 (.inl (6, 2)) 2 3 (dev25_eq c) 20 21 rfl rfl rfl rfl (by rfl) (dn c) (zdU x w 2 c) iprop(emp) rfl .refl (pay6 2 c)) $$ HR HS Ha Hd []
  · iempintro
  iintro HS
  iapply (take (.inl (5, 2)) 19 20 iprop(H3 c a9 3 (zuU x w 2 (dn c)) ∗ emp) rfl rfl rfl (by decide) (by rfl) (by rfl)) $$ HR HS
  iintro HS ⟨Ha, -⟩
  iapply (ps_load (l := 64) (c.val / 4 + 4) 128 (by decide) (by decide) (by decide) (off7_at c 2)) $$ HP; iintro HP
  iapply (H3_load c a9) $$ Ha; iintro Ha
  iapply (y_any (l := 64)) $$ HY; iintro %_ HY
  iapply (y_store (l := 64) 128 192 rfl rfl (by exact y_rows1 c)) $$ HY; iintro HY
  rw [wp_ret]; imodintro
  ihave Ha := (H3_F3 c a9 3 _) $$ Ha
  iapply HK $$ HS HP Ha HY

/-- The row of maxima, read shares of which go out with the copies. -/
theorem row_ready : hold c a12 fullShare (band 0 1) (band 0 1) (AM x w c) ⊢ iprop(RR (F := F) (Vn 3 c) -∗ (AS x w c 0 ∗ TB x w c 0)) := by
  iintro H HV
  ihave H := (hold_deal (q := fullShare)) $$ H
  icases H with ⟨Hl, Hr⟩
  ihave Hl := (hold_nil (q₁ := fullShare.left)) $$ Hl
  icases Hl with ⟨Hl, Hn⟩
  unfold AS TB row0
  isplitl [HV Hl]
  · isplitl [HV]
    · iapply (Entails.of_eq (congrArg (RR (F := F)) ?_)) $$ HV
      refine Finset.ext fun p => ?_
      simp only [Vn, Finset.mem_filter, Finset.mem_univ, true_and]
      obtain ⟨d, u⟩ := p
      revert d u c; decide +kernel
    · iexact Hl
  · isplitl [Hr]
    · iexact Hr
    · iapply (Entails.of_eq (congrArg (fun S => hold c a12 fullShare.left S S (AM x w c)) ?_)) $$ Hn
      refine (Finset.ext fun i => ?_).symm
      rw [mem_band]
      exact ⟨fun h => by omega, fun h => absurd h (Finset.notMem_empty i)⟩

theorem part39 {Φ : (Σ' (v1119 : BitVec 32), BitVec 32) → sProp 𝕄} (v2 v19 : BitVec 32) :
    Recs x w κ ⊢ iprop(St (F := F) c 21 20 0 -∗ PSUM x w c 8 -∗ OUTY x w c 192 -∗ free (F := F) c a12 (band 0 1) -∗ RR (F := F) (Vn 3 c)
      -∗ (∀ v1119 c0, St (F := F) c 21 21 0 -∗ PSUM x w c 8 -∗ F3 (F := F) c a10 3 -∗ OUTY x w c 256 -∗ AS x w c 0 -∗ TB x w c 0 -∗ Φ ⟨v1119, c0⟩)
      -∗ Run (F := F) c (args (k0_part39 (F := F)) c v2 v19 (k0_pay73 (rows 128 (Y x w c) 0))) Φ) := by
  iintro #HR HS HP HY Hf HV HK
  simp only [args, k0_part39_eq_skeleton]; unfold k0_part39_skel
  simp only [Prog.lift, Prog.bind_op, Prog.bind_ret, Prog.pure_eq_ret]
  iapply (take (.inl (6, 2)) 20 21 iprop(H3 c a10 3 (zdU x w 2 (up c)) ∗ emp) rfl rfl rfl (by decide) (by rfl) (by rfl)) $$ HR HS
  iintro HS ⟨Ha, -⟩
  iapply (ps_load (l := 64) (c.val / 4 + 4) 192 (by decide) (by decide) (by decide) (off8_at c 2)) $$ HP; iintro HP
  iapply (H3_load c a10) $$ Ha; iintro Ha
  iapply (y_any (l := 64)) $$ HY; iintro %_ HY
  iapply (y_store (l := 64) 192 256 rfl rfl (by exact y_rows2 c)) $$ HY; iintro HY
  iapply (y_load (l := 128) 128 (by decide) rfl) $$ HY; iintro HY
  iapply (free_load_any c a12 (by rw [rect_band])) $$ Hf; iintro %_ Hf
  ihave Hf := (free_hold c a12 (band 0 1) (AM x w c)) $$ Hf
  iapply (rows_store (l := 1) c a12 (X' := AM x w c) (D' := band 0 1) 0 rfl subset_rfl (by exact AM_own c) (fun i h1 h2 => absurd h1 h2)) $$ Hf; iintro Hf
  ihave H := (row_ready c) $$ Hf HV
  icases H with ⟨HA, HT⟩
  rw [wp_ret]; imodintro
  ihave Ha := (H3_F3 c a10 3 _) $$ Ha
  iapply HK $$ HS HP Ha HY HA HT

end Parts

end Cert.K01

end
-- ==== Proof.PartsE.lean ====
/-
  The parts of the kernel that exchange the maxima, write the result and wait for the copies to have left.
-/
module

public import proofs.«01_k».proof.Proof.PartsD

@[expose] public section

noncomputable section

namespace Cert.K01

open Cert.KernelIdeal Cert.KernelIdeal.Gen

open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

theorem band_full : (band 0 (15 + 1) : Finset S16x128.Idx) = Finset.univ := by
  refine Finset.eq_univ_of_forall fun i => ?_
  have : (i 0).val < 16 := (i 0).isLt
  rw [mem_band]; omega

/-- `give_max`, the numbers written out. -/
theorem give_row {x : Dev nD → Vec F S4096x256 .bf16} {w : Dev nD → Vec F S256x2048 .bf16} {κ : Dev nD × CI → ℕ} {α : Type} {Q : α → sProp 𝕄} {k : PUnit → Prog (TpuEff nD τ sig (Elt F) Λ₀ .tc) α} {c c' : Dev nD}
    (o : Fin 15) (m m' t : ℕ) (hc' : c' = fwd (o.val + 1) c) {r : ℕ} (n n' : ℕ) (hm : m = o.val) (hm' : m' = o.val + 1) (ht : t = 15 - o.val) (hn : 21 + o.val = n) (hn' : n' = n + 1)
    {inb inb'} {iS iR : DmaSem sig} (hS : iS = sndN (.inr o)) (hR : iR = rcvN (.inr o)) {hsc} {hsrc hdst} {hsem}
    (hN : (a12.slice (Rect.unit (s := S16x128) ![t, 0] S1x128.size inb') (fun _ => rfl)).view.dmaCredit = amt (.inr o)) :
    Recs x w κ ⊢ iprop(St (F := F) c n r 0 -∗ AS x w c m
      -∗ (St (F := F) c n' r 0 -∗ AS x w c m' -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (a12.slice (Rect.unit (s := S16x128) ![0, 0] S1x128.size inb) (fun _ => rfl))
                (.remote (Dev.tc c' : Thread nD τ) (a12.slice (Rect.unit (s := S16x128) ![t, 0] S1x128.size inb') (fun _ => rfl)) (.dma iS) hsc) (.dma iR) hsrc hdst hsem) k) Q) := by
  subst hm hm'
  exact give_max o hc' n n' ht hn hn' hS hR hN

section Parts

variable {x : Dev nD → Vec F S4096x256 .bf16} {w : Dev nD → Vec F S256x2048 .bf16} {κ : Dev nD × CI → ℕ} (c : Dev nD)

theorem part40 {Φ : BitVec 32 → sProp 𝕄} (v2 v1119 c0 : BitVec 32) :
    Recs x w κ ⊢ iprop(St (F := F) c 21 21 0 -∗ AS x w c 0 -∗ (∀ v1148, St (F := F) c 24 21 0 -∗ AS x w c 3 -∗ Φ v1148)
      -∗ Run (F := F) c (args (k0_part40 (F := F)) c v2 v1119 c0) Φ) := by
  iintro #HR HS HA HK
  simp only [args, k0_part40_eq_skeleton]; unfold k0_part40_skel
  simp only [Prog.lift, Prog.bind_op, Prog.bind_ret, Prog.pure_eq_ret]
  iapply (give_row 0 0 1 15 (dev26_eq c) 21 22 rfl rfl rfl rfl rfl rfl rfl (by rfl)) $$ HR HS HA; iintro HS HA
  iapply (give_row 1 1 2 14 (dev27_eq c) 22 23 rfl rfl rfl rfl rfl rfl rfl (by rfl)) $$ HR HS HA; iintro HS HA
  iapply (give_row 2 2 3 13 (dev28_eq c) 23 24 rfl rfl rfl rfl rfl rfl rfl (by rfl)) $$ HR HS HA; iintro HS HA
  rw [wp_ret]; imodintro
  iapply HK $$ HS HA

theorem part41 {Φ : (Σ' (v1177 : BitVec 32), BitVec 32) → sProp 𝕄} (v2 v1148 : BitVec 32) :
    Recs x w κ ⊢ iprop(St (F := F) c 24 21 0 -∗ AS x w c 3 -∗ (∀ v1177 c16, St (F := F) c 27 21 0 -∗ AS x w c 6 -∗ Φ ⟨v1177, c16⟩)
      -∗ Run (F := F) c (args (k0_part41 (F := F)) c v2 v1148) Φ) := by
  iintro #HR HS HA HK
  simp only [args, k0_part41_eq_skeleton]; unfold k0_part41_skel
  simp only [Prog.lift, Prog.bind_op, Prog.bind_ret, Prog.pure_eq_ret]
  iapply (give_row 3 3 4 12 (dev29_eq c) 24 25 rfl rfl rfl rfl rfl rfl rfl (by rfl)) $$ HR HS HA; iintro HS HA
  iapply (give_row 4 4 5 11 (dev30_eq c) 25 26 rfl rfl rfl rfl rfl rfl rfl (by rfl)) $$ HR HS HA; iintro HS HA
  iapply (give_row 5 5 6 10 (dev31_eq c) 26 27 rfl rfl rfl rfl rfl rfl rfl (by rfl)) $$ HR HS HA; iintro HS HA
  rw [wp_ret]; imodintro
  iapply HK $$ HS HA

theorem part42 {Φ : PUnit → sProp 𝕄} (v2 v1177 c16 : BitVec 32) :
    Recs x w κ ⊢ iprop(St (F := F) c 27 21 0 -∗ AS x w c 6 -∗ (St (F := F) c 30 21 0 -∗ AS x w c 9 -∗ Φ ⟨⟩)
      -∗ Run (F := F) c (args (k0_part42 (F := F)) c v2 v1177 c16) Φ) := by
  iintro #HR HS HA HK
  simp only [args, k0_part42_eq_skeleton]; unfold k0_part42_skel
  simp only [Prog.lift, Prog.bind_op, Prog.bind_ret, Prog.pure_eq_ret]
  iapply (give_row 6 6 7 9 (dev32_eq c) 27 28 rfl rfl rfl rfl rfl rfl rfl (by rfl)) $$ HR HS HA; iintro HS HA
  iapply (give_row 7 7 8 8 (dev33_eq c) 28 29 rfl rfl rfl rfl rfl rfl rfl (by rfl)) $$ HR HS HA; iintro HS HA
  iapply (give_row 8 8 9 7 (dev34_eq c) 29 30 rfl rfl rfl rfl rfl rfl rfl (by rfl)) $$ HR HS HA; iintro HS HA
  rw [wp_ret]; imodintro
  iapply HK $$ HS HA

theorem part43 {Φ : PUnit → sProp 𝕄} (v2 : BitVec 32) :
    Recs x w κ ⊢ iprop(St (F := F) c 30 21 0 -∗ AS x w c 9 -∗ (St (F := F) c 32 21 0 -∗ AS x w c 11 -∗ Φ ⟨⟩)
      -∗ Run (F := F) c (args (k0_part43 (F := F)) c v2) Φ) := by
  iintro #HR HS HA HK
  simp only [args, k0_part43_eq_skeleton]; unfold k0_part43_skel
  simp only [Prog.lift, Prog.bind_op, Prog.bind_ret, Prog.pure_eq_ret]
  iapply (give_row 9 9 10 6 (dev35_eq c) 30 31 rfl rfl rfl rfl rfl rfl rfl (by rfl)) $$ HR HS HA; iintro HS HA
  iapply (give_row 10 10 11 5 (dev36_eq c) 31 32 rfl rfl rfl rfl rfl rfl rfl (by rfl)) $$ HR HS HA; iintro HS HA
  rw [wp_ret]; imodintro
  iapply HK $$ HS HA

theorem part44 {Φ : PUnit → sProp 𝕄} (v2 : BitVec 32) :
    Recs x w κ ⊢ iprop(St (F := F) c 32 21 0 -∗ AS x w c 11 -∗ (St (F := F) c 35 21 0 -∗ AS x w c 14 -∗ Φ ⟨⟩)
      -∗ Run (F := F) c (args (k0_part44 (F := F)) c v2) Φ) := by
  iintro #HR HS HA HK
  simp only [args, k0_part44_eq_skeleton]; unfold k0_part44_skel
  simp only [Prog.lift, Prog.bind_op, Prog.bind_ret, Prog.pure_eq_ret]
  iapply (give_row 11 11 12 4 (dev37_eq c) 32 33 rfl rfl rfl rfl rfl rfl rfl (by rfl)) $$ HR HS HA; iintro HS HA
  iapply (give_row 12 12 13 3 (dev38_eq c) 33 34 rfl rfl rfl rfl rfl rfl rfl (by rfl)) $$ HR HS HA; iintro HS HA
  iapply (give_row 13 13 14 2 (dev39_eq c) 34 35 rfl rfl rfl rfl rfl rfl rfl (by rfl)) $$ HR HS HA; iintro HS HA
  rw [wp_ret]; imodintro
  iapply HK $$ HS HA

theorem part45 {Φ : PUnit → sProp 𝕄} (v33 : BitVec 32) :
    Recs x w κ ⊢ iprop(St (F := F) c 35 21 0 -∗ AS x w c 14 -∗ TB x w c 0 -∗ (St (F := F) c 36 24 0 -∗ AS x w c 15 -∗ TB x w c 3 -∗ Φ ⟨⟩)
      -∗ Run (F := F) c (args (k0_part45 (F := F)) c v33) Φ) := by
  iintro #HR HS HA HT HK
  simp only [args, k0_part45_eq_skeleton]; unfold k0_part45_skel
  simp only [Prog.lift, Prog.bind_op, Prog.bind_ret, Prog.pure_eq_ret]
  iapply (give_row 14 14 15 1 (dev40_eq c) 35 36 rfl rfl rfl rfl rfl rfl rfl (by rfl)) $$ HR HS HA; iintro HS HA
  iapply (take_max 14 0 1 21 22 rfl rfl rfl rfl (by rfl) (by rfl)) $$ HR HS HT; iintro HS HT
  iapply (take_max 13 1 2 22 23 rfl rfl rfl rfl (by rfl) (by rfl)) $$ HR HS HT; iintro HS HT
  iapply (take_max 12 2 3 23 24 rfl rfl rfl rfl (by rfl) (by rfl)) $$ HR HS HT; iintro HS HT
  rw [wp_ret]; imodintro
  iapply HK $$ HS HA HT

theorem part46 {Φ : PUnit → sProp 𝕄} (v33 : BitVec 32) :
    Recs x w κ ⊢ iprop(St (F := F) c 36 24 0 -∗ TB x w c 3 -∗ (St (F := F) c 36 28 0 -∗ TB x w c 7 -∗ Φ ⟨⟩)
      -∗ Run (F := F) c (args (k0_part46 (F := F)) v33) Φ) := by
  iintro #HR HS HT HK
  simp only [args, k0_part46_eq_skeleton]; unfold k0_part46_skel
  simp only [Prog.lift, Prog.bind_op, Prog.bind_ret, Prog.pure_eq_ret]
  iapply (take_max 11 3 4 24 25 rfl rfl rfl rfl (by rfl) (by rfl)) $$ HR HS HT; iintro HS HT
  iapply (take_max 10 4 5 25 26 rfl rfl rfl rfl (by rfl) (by rfl)) $$ HR HS HT; iintro HS HT
  iapply (take_max 9 5 6 26 27 rfl rfl rfl rfl (by rfl) (by rfl)) $$ HR HS HT; iintro HS HT
  iapply (take_max 8 6 7 27 28 rfl rfl rfl rfl (by rfl) (by rfl)) $$ HR HS HT; iintro HS HT
  rw [wp_ret]; imodintro
  iapply HK $$ HS HT

theorem part47 {Φ : PUnit → sProp 𝕄} (v33 : BitVec 32) :
    Recs x w κ ⊢ iprop(St (F := F) c 36 28 0 -∗ TB x w c 7 -∗ (St (F := F) c 36 32 0 -∗ TB x w c 11 -∗ Φ ⟨⟩)
      -∗ Run (F := F) c (args (k0_part47 (F := F)) v33) Φ) := by
  iintro #HR HS HT HK
  simp only [args, k0_part47_eq_skeleton]; unfold k0_part47_skel
  simp only [Prog.lift, Prog.bind_op, Prog.bind_ret, Prog.pure_eq_ret]
  iapply (take_max 7 7 8 28 29 rfl rfl rfl rfl (by rfl) (by rfl)) $$ HR HS HT; iintro HS HT
  iapply (take_max 6 8 9 29 30 rfl rfl rfl rfl (by rfl) (by rfl)) $$ HR HS HT; iintro HS HT
  iapply (take_max 5 9 10 30 31 rfl rfl rfl rfl (by rfl) (by rfl)) $$ HR HS HT; iintro HS HT
  iapply (take_max 4 10 11 31 32 rfl rfl rfl rfl (by rfl) (by rfl)) $$ HR HS HT; iintro HS HT
  rw [wp_ret]; imodintro
  iapply HK $$ HS HT

theorem part48 {Φ : (Σ' (v1361 : F .f32), F .f32) → sProp 𝕄} (v33 : BitVec 32) :
    Recs x w κ ⊢ iprop(St (F := F) c 36 32 0 -∗ TB x w c 11
      -∗ (St (F := F) c 36 36 0 -∗ TB x w c 15 -∗ Φ ⟨k0_pay81 (AM x w c), Scalar.ofBits .f32 0x43E00000#32⟩)
      -∗ Run (F := F) c (args (k0_part48 (F := F)) v33) Φ) := by
  iintro #HR HS HT HK
  simp only [args, k0_part48_eq_skeleton]; unfold k0_part48_skel
  simp only [Prog.lift, Prog.bind_op, Prog.bind_ret, Prog.pure_eq_ret]
  iapply (take_max 3 11 12 32 33 rfl rfl rfl rfl (by rfl) (by rfl)) $$ HR HS HT; iintro HS HT
  iapply (take_max 2 12 13 33 34 rfl rfl rfl rfl (by rfl) (by rfl)) $$ HR HS HT; iintro HS HT
  iapply (take_max 1 13 14 34 35 rfl rfl rfl rfl (by rfl) (by rfl)) $$ HR HS HT; iintro HS HT
  iapply (take_max 0 14 15 35 36 rfl rfl rfl rfl (by rfl) (by rfl)) $$ HR HS HT; iintro HS HT
  unfold TB
  icases HT with ⟨Hr, Hl⟩
  iapply (whole_load a12 band_full) $$ Hr; iintro Hr
  rw [wp_ret]; imodintro
  iapply HK $$ HS [Hr Hl]
  isplitl [Hr] <;> iassumption

theorem part49 {Φ : PUnit → sProp 𝕄} :
    Recs x w κ ⊢ iprop(St (F := F) c 36 36 0 -∗ OUTY x w c 256
      -∗ (St (F := F) c 36 36 2 -∗ hold c a2 fullShare Finset.univ Finset.univ (OUT x w c) -∗ Back x w c 2 -∗ Φ ⟨⟩)
      -∗ Run (F := F) c (args (k0_part49 (F := F)) (k0_pay81 (AM x w c)) (Scalar.ofBits .f32 0x43E00000#32)) Φ) := by
  iintro #HR HS HY HK
  simp only [args, k0_part49_eq_skeleton]; unfold k0_part49_skel
  simp only [Prog.lift, Prog.bind_op, Prog.bind_ret, Prog.pure_eq_ret]
  iapply (y_load (l := 256) 0 (by decide) rfl) $$ HY; iintro HY
  iapply (y_any (l := 256)) $$ HY; iintro %_ HY
  ihave HY := (Entails.of_eq (show OUTY x w c 256 = hold c a2 fullShare Finset.univ (Finset.univ.filter fun i => (i 0).val < 256) (Y x w c) from rfl)) $$ HY
  iapply (whole_store a2 (X' := OUT x w c) (by exact congrArg (k0_pay82 (k0_pay81 (AM x w c)) (Scalar.ofBits .f32 0x43E00000#32)) (rows_zero (m := 256) (Y x w c)).symm)) $$ HY; iintro HY
  ihave HB := (Back_zero (x := x) (w := w) c) $$ []
  · iempintro
  iapply (leave (.inl (0, 0)) 0 1 rfl rfl rfl (by rfl)) $$ HR HS HB; iintro HS HB
  iapply (leave (.inl (1, 0)) 1 2 rfl rfl rfl (by rfl)) $$ HR HS HB; iintro HS HB
  rw [wp_ret]; imodintro
  iapply HK $$ HS HY HB

theorem part50 {Φ : PUnit → sProp 𝕄} :
    Recs x w κ ⊢ iprop(St (F := F) c 36 36 2 -∗ Back x w c 2 -∗ (St (F := F) c 36 36 5 -∗ Back x w c 5 -∗ Φ ⟨⟩)
      -∗ Run (F := F) c (args (k0_part50 (F := F))) Φ) := by
  iintro #HR HS HB HK
  simp only [args, k0_part50_eq_skeleton]; unfold k0_part50_skel
  simp only [Prog.lift, Prog.bind_op, Prog.bind_ret, Prog.pure_eq_ret]
  iapply (leave (.inl (0, 1)) 2 3 rfl rfl rfl (by rfl)) $$ HR HS HB; iintro HS HB
  iapply (leave (.inl (1, 1)) 3 4 rfl rfl rfl (by rfl)) $$ HR HS HB; iintro HS HB
  iapply (leave (.inl (0, 2)) 4 5 rfl rfl rfl (by rfl)) $$ HR HS HB; iintro HS HB
  rw [wp_ret]; imodintro
  iapply HK $$ HS HB

theorem part51 {Φ : PUnit → sProp 𝕄} :
    Recs x w κ ⊢ iprop(St (F := F) c 36 36 5 -∗ Back x w c 5 -∗ (St (F := F) c 36 36 8 -∗ Back x w c 8 -∗ Φ ⟨⟩)
      -∗ Run (F := F) c (args (k0_part51 (F := F))) Φ) := by
  iintro #HR HS HB HK
  simp only [args, k0_part51_eq_skeleton]; unfold k0_part51_skel
  simp only [Prog.lift, Prog.bind_op, Prog.bind_ret, Prog.pure_eq_ret]
  iapply (leave (.inl (1, 2)) 5 6 rfl rfl rfl (by rfl)) $$ HR HS HB; iintro HS HB
  iapply (leave (.inl (4, 0)) 6 7 rfl rfl rfl (by rfl)) $$ HR HS HB; iintro HS HB
  iapply (leave (.inl (2, 0)) 7 8 rfl rfl rfl (by rfl)) $$ HR HS HB; iintro HS HB
  rw [wp_ret]; imodintro
  iapply HK $$ HS HB

theorem part52 {Φ : PUnit → sProp 𝕄} :
    Recs x w κ ⊢ iprop(St (F := F) c 36 36 8 -∗ Back x w c 8 -∗ (St (F := F) c 36 36 12 -∗ Back x w c 12 -∗ Φ ⟨⟩)
      -∗ Run (F := F) c (args (k0_part52 (F := F))) Φ) := by
  iintro #HR HS HB HK
  simp only [args, k0_part52_eq_skeleton]; unfold k0_part52_skel
  simp only [Prog.lift, Prog.bind_op, Prog.bind_ret, Prog.pure_eq_ret]
  iapply (leave (.inl (3, 0)) 8 9 rfl rfl rfl (by rfl)) $$ HR HS HB; iintro HS HB
  iapply (leave (.inl (4, 1)) 9 10 rfl rfl rfl (by rfl)) $$ HR HS HB; iintro HS HB
  iapply (leave (.inl (2, 1)) 10 11 rfl rfl rfl (by rfl)) $$ HR HS HB; iintro HS HB
  iapply (leave (.inl (3, 1)) 11 12 rfl rfl rfl (by rfl)) $$ HR HS HB; iintro HS HB
  rw [wp_ret]; imodintro
  iapply HK $$ HS HB

theorem part53 {Φ : PUnit → sProp 𝕄} :
    Recs x w κ ⊢ iprop(St (F := F) c 36 36 12 -∗ Back x w c 12 -∗ (St (F := F) c 36 36 15 -∗ Back x w c 15 -∗ Φ ⟨⟩)
      -∗ Run (F := F) c (args (k0_part53 (F := F))) Φ) := by
  iintro #HR HS HB HK
  simp only [args, k0_part53_eq_skeleton]; unfold k0_part53_skel
  simp only [Prog.lift, Prog.bind_op, Prog.bind_ret, Prog.pure_eq_ret]
  iapply (leave (.inl (4, 2)) 12 13 rfl rfl rfl (by rfl)) $$ HR HS HB; iintro HS HB
  iapply (leave (.inl (2, 2)) 13 14 rfl rfl rfl (by rfl)) $$ HR HS HB; iintro HS HB
  iapply (leave (.inl (3, 2)) 14 15 rfl rfl rfl (by rfl)) $$ HR HS HB; iintro HS HB
  rw [wp_ret]; imodintro
  iapply HK $$ HS HB

theorem part54 {Φ : PUnit → sProp 𝕄} :
    Recs x w κ ⊢ iprop(St (F := F) c 36 36 15 -∗ Back x w c 15 -∗ (St (F := F) c 36 36 19 -∗ Back x w c 19 -∗ Φ ⟨⟩)
      -∗ Run (F := F) c (args (k0_part54 (F := F))) Φ) := by
  iintro #HR HS HB HK
  simp only [args, k0_part54_eq_skeleton]; unfold k0_part54_skel
  simp only [Prog.lift, Prog.bind_op, Prog.bind_ret, Prog.pure_eq_ret]
  iapply (leave (.inl (5, 0)) 15 16 rfl rfl rfl (by rfl)) $$ HR HS HB; iintro HS HB
  iapply (leave (.inl (6, 0)) 16 17 rfl rfl rfl (by rfl)) $$ HR HS HB; iintro HS HB
  iapply (leave (.inl (5, 1)) 17 18 rfl rfl rfl (by rfl)) $$ HR HS HB; iintro HS HB
  iapply (leave (.inl (6, 1)) 18 19 rfl rfl rfl (by rfl)) $$ HR HS HB; iintro HS HB
  rw [wp_ret]; imodintro
  iapply HK $$ HS HB

theorem part55 {Φ : PUnit → sProp 𝕄} :
    Recs x w κ ⊢ iprop(St (F := F) c 36 36 19 -∗ Back x w c 19 -∗ (St (F := F) c 36 36 24 -∗ Back x w c 24 -∗ Φ ⟨⟩)
      -∗ Run (F := F) c (args (k0_part55 (F := F))) Φ) := by
  iintro #HR HS HB HK
  simp only [args, k0_part55_eq_skeleton]; unfold k0_part55_skel
  simp only [Prog.lift, Prog.bind_op, Prog.bind_ret, Prog.pure_eq_ret]
  iapply (leave (.inl (5, 2)) 19 20 rfl rfl rfl (by rfl)) $$ HR HS HB; iintro HS HB
  iapply (leave (.inl (6, 2)) 20 21 rfl rfl rfl (by rfl)) $$ HR HS HB; iintro HS HB
  iapply (leave (.inr 0) 21 22 rfl rfl rfl (by rfl)) $$ HR HS HB; iintro HS HB
  iapply (leave (.inr 1) 22 23 rfl rfl rfl (by rfl)) $$ HR HS HB; iintro HS HB
  iapply (leave (.inr 2) 23 24 rfl rfl rfl (by rfl)) $$ HR HS HB; iintro HS HB
  rw [wp_ret]; imodintro
  iapply HK $$ HS HB

theorem part56 {Φ : PUnit → sProp 𝕄} :
    Recs x w κ ⊢ iprop(St (F := F) c 36 36 24 -∗ Back x w c 24 -∗ (St (F := F) c 36 36 29 -∗ Back x w c 29 -∗ Φ ⟨⟩)
      -∗ Run (F := F) c (args (k0_part56 (F := F))) Φ) := by
  iintro #HR HS HB HK
  simp only [args, k0_part56_eq_skeleton]; unfold k0_part56_skel
  simp only [Prog.lift, Prog.bind_op, Prog.bind_ret, Prog.pure_eq_ret]
  iapply (leave (.inr 3) 24 25 rfl rfl rfl (by rfl)) $$ HR HS HB; iintro HS HB
  iapply (leave (.inr 4) 25 26 rfl rfl rfl (by rfl)) $$ HR HS HB; iintro HS HB
  iapply (leave (.inr 5) 26 27 rfl rfl rfl (by rfl)) $$ HR HS HB; iintro HS HB
  iapply (leave (.inr 6) 27 28 rfl rfl rfl (by rfl)) $$ HR HS HB; iintro HS HB
  iapply (leave (.inr 7) 28 29 rfl rfl rfl (by rfl)) $$ HR HS HB; iintro HS HB
  rw [wp_ret]; imodintro
  iapply HK $$ HS HB

theorem part57 {Φ : PUnit → sProp 𝕄} :
    Recs x w κ ⊢ iprop(St (F := F) c 36 36 29 -∗ Back x w c 29 -∗ (St (F := F) c 36 36 34 -∗ Back x w c 34 -∗ Φ ⟨⟩)
      -∗ Run (F := F) c (args (k0_part57 (F := F))) Φ) := by
  iintro #HR HS HB HK
  simp only [args, k0_part57_eq_skeleton]; unfold k0_part57_skel
  simp only [Prog.lift, Prog.bind_op, Prog.bind_ret, Prog.pure_eq_ret]
  iapply (leave (.inr 8) 29 30 rfl rfl rfl (by rfl)) $$ HR HS HB; iintro HS HB
  iapply (leave (.inr 9) 30 31 rfl rfl rfl (by rfl)) $$ HR HS HB; iintro HS HB
  iapply (leave (.inr 10) 31 32 rfl rfl rfl (by rfl)) $$ HR HS HB; iintro HS HB
  iapply (leave (.inr 11) 32 33 rfl rfl rfl (by rfl)) $$ HR HS HB; iintro HS HB
  iapply (leave (.inr 12) 33 34 rfl rfl rfl (by rfl)) $$ HR HS HB; iintro HS HB
  rw [wp_ret]; imodintro
  iapply HK $$ HS HB

end Parts

end Cert.K01

end
-- ==== Proof.Body.lean ====
/-
  The kernel on one device, its parts put together.
-/
module

public import proofs.«01_k».proof.Proof.PartsE

@[expose] public section

noncomputable section

namespace Cert.K01

open Cert.KernelIdeal Cert.KernelIdeal.Gen

open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section Body

variable {x : Dev nD → Vec F S4096x256 .bf16} {w : Dev nD → Vec F S256x2048 .bf16} {κ : Dev nD × CI → ℕ} (c : Dev nD)

theorem run_bind {α β : Type} {p : Prog (TpuEff nD τ sig (Elt F) Λ₀ .tc) α} {k : α → Prog (TpuEff nD τ sig (Elt F) Λ₀ .tc) β} {Φ : β → sProp 𝕄} :
    Run (F := F) c p (fun a => Run (F := F) c (k a) Φ) ⊢ Run (F := F) c (p >>= k) Φ :=
  Entails.of_eq (Idealize.SL.Sem.wp_bind _ _ _ p k Φ).symm

/-- At the end all is waited for and nothing is owed. -/
theorem St_end (c : Dev nD) : St (F := F) c 36 36 36 ⊢ iprop((∃ W, owes (c : Thread nD τ) 0 W)
    ∗ bigSep Finset.univ (fun h : Hop => (semVal (sndC c h) 0 : sProp 𝕄)) ∗ bigSep Finset.univ (fun h : Hop => (semVal (rcvC c h) 0 : sProp 𝕄))) := by
  have h1 : ∀ h : Hop, pos h < 36 := by decide
  have h2 : ∀ h : Hop, rpos h < 36 := by decide
  unfold St; rw [O_end]
  rw [bigSep_congr (s := Finset.univ) fun h _ => sSt_end (F := F) (c := c) (h1 h) (h1 h), bigSep_congr (s := Finset.univ) fun h _ => rSt_end (F := F) (c := c) (h2 h)]

/-- What a device starts the kernel with: its own buffers, the tokens of the protocol and what it owes. -/
def Pre (x : Dev nD → Vec F S4096x256 .bf16) (w : Dev nD → Vec F S256x2048 .bf16) : sProp 𝕄 :=
  iprop((bigSep Finset.univ (sSt (F := F) c 0 0) ∗ bigSep Finset.univ (rSt (F := F) c 0)
      ∗ (dutyTok ER (barC (up c)) 0 0 ∗ dutyTok ER (barC (dn c)) 0 1 ∗ dutyTok ER (barC (rt c)) 0 2 ∗ dutyTok ER (barC (lf c)) 0 3)
      ∗ cred (tallyAt (barC c) () 4) ∗ atPos ER (barC c) 0 ∅ 0)
    ∗ (land4 (F := F) c a3 ∗ land4 (F := F) c a4 ∗ land4 (F := F) c a5 ∗ land4 (F := F) c a6 ∗ land3 (F := F) c a8 ∗ land3 (F := F) c a9 ∗ land3 (F := F) c a10)
    ∗ (XR x c ∗ hold c a1 fullShare Finset.univ Finset.univ (w c) ∗ OUTY x w c 0 ∗ PSUM x w c 0 ∗ free (F := F) c a11 Finset.univ ∗ free (F := F) c a12 (band 0 1) ∗ RR (F := F) (Own c))
    ∗ ((F4 (F := F) c a3 0 0 ∗ F4 (F := F) c a3 0 1) ∗ (F4 (F := F) c a4 0 0 ∗ F4 (F := F) c a4 0 1) ∗ (F4 (F := F) c a5 0 0 ∗ F4 (F := F) c a5 0 1) ∗ (F4 (F := F) c a6 0 0 ∗ F4 (F := F) c a6 0 1)
      ∗ F3 (F := F) c a8 0 ∗ F3 (F := F) c a9 0 ∗ F3 (F := F) c a10 0))

/-- What it ends with. -/
def Post (x : Dev nD → Vec F S4096x256 .bf16) (w : Dev nD → Vec F S256x2048 .bf16) : sProp 𝕄 :=
  iprop((bigSep Finset.univ (fun h : Hop => (semVal (sndC c h) 0 : sProp 𝕄)) ∗ bigSep Finset.univ (fun h : Hop => (semVal (rcvC c h) 0 : sProp 𝕄)) ∗ semVal (barC c) 0)
    ∗ (XR x c ∗ hold c a1 fullShare Finset.univ Finset.univ (w c) ∗ hold c a2 fullShare Finset.univ Finset.univ (OUT x w c) ∗ PSUM x w c 8 ∗ WR w c)
    ∗ (free (F := F) c a3 (slot4 3) ∗ free (F := F) c a4 (slot4 3) ∗ free (F := F) c a5 (slot4 3) ∗ free (F := F) c a6 (slot4 3) ∗ F3 (F := F) c a8 3 ∗ F3 (F := F) c a9 3 ∗ F3 (F := F) c a10 3)
    ∗ (Back x w c 36 ∗ AS x w c 15 ∗ TB x w c 15))

/-- The whole kernel on device `c`. -/
theorem body_run {W : Waits sig Unit} {Φ : PUnit → sProp 𝕄} :
    Recs x w κ ⊢ iprop(owes (c : Thread nD τ) (OB c) W -∗ Pre c x w -∗ (∀ W, owes (c : Thread nD τ) 0 W -∗ Post c x w -∗ Φ ⟨⟩)
      -∗ Run (F := F) c (args (cc0_body (F := F))) Φ) := by
  iintro #HR HO HPre HK
  unfold Pre
  icases HPre with ⟨⟨Hs, Hr, ⟨T0, T1, T2, T3⟩, Hc, Hat⟩, ⟨L3, L4, L5, L6, L8, L9, L10⟩, ⟨HX, Hw, HY, HP, Hb, HA, HOwn⟩, ⟨⟨F30, F31⟩, ⟨F40, F41⟩, ⟨F50, F51⟩, ⟨F60, F61⟩, Z8, Z9, Z10⟩⟩
  ihave HOwn := (RR_own c) $$ HOwn
  icases HOwn with ⟨RK, RP⟩
  simp only [args, cc0_body_eq_skeleton]; unfold cc0_body_skel
  simp only [k0_part58_eq_skeleton]; unfold k0_part58_skel
  simp only [Prog.bind_assoc]
  iapply (run_bind c)
  iapply (part1 c); iintro %v2 %v19 %v20 %v24 %v28 %v30 %v33 %v35
  iapply (run_bind c)
  iapply (part2 c v20 v24 v28 v33 v35) $$ HR HO Hs Hr T0 T1 T2 T3 Hc Hat L3 L4 L5 L6 L8 L9 L10 HX Hw Hb F30
  iintro %v49 HS Hz L3 L4 L5 L6 L8 L9 L10 HL Hw F30
  unfold land4 land3
  icases L3 with ⟨L31, L32, L33⟩
  icases L4 with ⟨L41, L42, L43⟩
  icases L5 with ⟨L51, L52, L53⟩
  icases L6 with ⟨L61, L62, L63⟩
  icases L8 with ⟨L81, L82, L83⟩
  icases L9 with ⟨L91, L92, L93⟩
  icases L10 with ⟨L101, L102, L103⟩
  iapply (run_bind c)
  iapply (part3 c v20 v49); isplitl [HL]; · iexact HL
  isplitl [F30]; · iexact F30
  isplitl [F31]; · iexact F31
  isplitl [F40]; · iexact F40
  iintro %v90 HL F30 F31 F40
  iapply (run_bind c)
  iapply (part4 c v24 v28 v90) $$ HR HL HS F30 F31 F41 L31 RP; iintro HL HS F41
  iapply (run_bind c)
  iapply (part5 c v20) $$ HR HL HS F40 F41 L41; iintro %v125 HL HS
  iapply (run_bind c)
  iapply (part6 c v24 v125) $$ HR HL HS; iintro HL HS RP F30 F31
  ihave RJ := (plane_step 0 0 1 rfl rfl c) $$ [RK RP]; · isplitl [RK]; (· iexact RK); iexact RP
  icases RJ with ⟨RK, RP⟩
  iapply (run_bind c)
  iapply (part7 c v24 v28) $$ HR HS F30 F31 L32 RP; iintro HS F40 F41
  iapply (run_bind c)
  iapply (part8 c v20 v28) $$ HR HS F40 F41 L42; iintro %v228 %v229 HS
  iapply (run_bind c)
  iapply (part9 c v228 v229) $$ HL; iintro HL
  iapply (run_bind c)
  iapply (part10 c v24) $$ HR HL HS; iintro HL HS RP F30 F31
  ihave RJ := (plane_step 1 1 2 rfl rfl c) $$ [RK RP]; · isplitl [RK]; (· iexact RK); iexact RP
  icases RJ with ⟨RK, RP⟩
  iapply (run_bind c)
  iapply (part11 c v24 v28) $$ HR HS F30 F31 L33 RP; iintro HS F40 F41
  iapply (run_bind c)
  iapply (part12 c v20 v28) $$ HR HS F40 F41 L43; iintro %v334 %v337 HS
  iapply (run_bind c)
  iapply (part13 c v24 v334 v337) $$ HL; iintro HL
  iapply (run_bind c)
  iapply (part14 c v28) $$ HR HS HP; iintro HS RP E3 HP
  ihave RJ := (plane_step 2 2 3 rfl rfl c) $$ [RK RP]; · isplitl [RK]; (· iexact RK); iexact RP
  icases RJ with ⟨RK, RP⟩
  ihave RK := (RR_turn c) $$ RK; icases RK with ⟨RV, RZ⟩
  iapply (run_bind c)
  iapply (part15 c v19 v30) $$ HR HS HP Z8; iintro HS E4 HP Z8
  iapply (run_bind c)
  iapply (part16 c v20) $$ HR HS HL Z8 L81 RZ F50 F51; iintro HS HL F50 F51
  iapply (run_bind c)
  iapply (part17 c v20 v24) $$ HL F51 F60 F61; iintro %v486 HL F51 F60 F61
  iapply (run_bind c)
  iapply (part18 c v20 v28 v486) $$ HR HS F50 F51 F60 F61 L51 L61; iintro %v508 %v511 HS
  iapply (run_bind c)
  iapply (part19 c v30 v508 v511) $$ HL; iintro HL
  iapply (run_bind c)
  iapply (part20 c v19 v30) $$ HR HS HP L82 RV; iintro HS HP RV
  iapply (run_bind c)
  iapply (part21 c v24) $$ HR HS; iintro %c1 HS F50 F51
  iapply (run_bind c)
  iapply (part22 c v24 v28 c1) $$ HR HS F50 F51 L52; iintro HS F60 F61
  iapply (run_bind c)
  iapply (part23 c v20 v28) $$ HR HS HL F60 F61 L62; iintro %v647 %v650 HS HL
  iapply (run_bind c)
  iapply (part24 c v30 v647 v650) $$ HL; iintro HL
  iapply (run_bind c)
  iapply (part25 c v19 v30) $$ HR HS HP L83 RV; iintro HS HP RV
  iapply (run_bind c)
  iapply (part26 c v24) $$ HR HS; iintro HS F50 F51
  iapply (run_bind c)
  iapply (part27 c v28) $$ HR HS F50 F51 L53; iintro HS F60 F61
  iapply (run_bind c)
  iapply (part28 c v20 v28) $$ HR HS HL F60 F61 L63; iintro %v786 %v789 %c4 HS HL
  iapply (run_bind c)
  iapply (part29 c v30 v786 v789 c4) $$ HL; iintro HL
  iapply (run_bind c)
  iapply (part30 c v19 v24) $$ HR HS HP HY; iintro HS HP HY RZ Z8 F50 F51
  ihave RJ := (up_step 2 2 3 rfl rfl c) $$ [RV RZ]; · isplitl [RV]; (· iexact RV); iexact RZ
  icases RJ with ⟨RV, RZ⟩
  iapply (run_bind c)
  iapply (part31 c v28) $$ HR HS HP F50 F51; iintro HS HP E5 E6
  iapply (run_bind c)
  iapply (part32 c v19 v30) $$ HP Z9 Z10; iintro HP Z9 Z10
  iapply (run_bind c)
  iapply (part33 c v19 v30 v33) $$ HR HS Z9 Z10 L91 L101 HY; iintro %v943 HS Z9 HY
  iapply (run_bind c)
  iapply (part34 c v30 v33 v943) $$ HR HS HP Z9 L92; iintro HS HP
  iapply (run_bind c)
  iapply (part35 c v19 v30 v33) $$ HR HS HP L102; iintro HS HP
  iapply (run_bind c)
  iapply (part36 c v19 v30) $$ HR HS HP L93; iintro HS HP
  iapply (run_bind c)
  iapply (part37 c v19 v33) $$ HR HS HP; iintro HS HP Z10
  iapply (run_bind c)
  iapply (part38 c v19 v30 v33) $$ HR HS HP Z10 L103 HY; iintro HS HP Z9 HY
  iapply (run_bind c)
  iapply (part39 c v2 v19) $$ HR HS HP HY HA RV; iintro %v1119 %c0 HS HP Z10 HY HA HT
  iapply (run_bind c)
  iapply (part40 c v2 v1119 c0) $$ HR HS HA; iintro %v1148 HS HA
  iapply (run_bind c)
  iapply (part41 c v2 v1148) $$ HR HS HA; iintro %v1177 %c16 HS HA
  iapply (run_bind c)
  iapply (part42 c v2 v1177 c16) $$ HR HS HA; iintro HS HA
  iapply (run_bind c)
  iapply (part43 c v2) $$ HR HS HA; iintro HS HA
  iapply (run_bind c)
  iapply (part44 c v2) $$ HR HS HA; iintro HS HA
  iapply (run_bind c)
  iapply (part45 c v33) $$ HR HS HA HT; iintro HS HA HT
  iapply (run_bind c)
  iapply (part46 c v33) $$ HR HS HT; iintro HS HT
  iapply (run_bind c)
  iapply (part47 c v33) $$ HR HS HT; iintro HS HT
  iapply (run_bind c)
  iapply (part48 c v33) $$ HR HS HT; iintro HS HT
  iapply (run_bind c)
  iapply (part49 c) $$ HR HS HY; iintro HS HY HB
  iapply (run_bind c)
  iapply (part50 c) $$ HR HS HB; iintro HS HB
  iapply (run_bind c)
  iapply (part51 c) $$ HR HS HB; iintro HS HB
  iapply (run_bind c)
  iapply (part52 c) $$ HR HS HB; iintro HS HB
  iapply (run_bind c)
  iapply (part53 c) $$ HR HS HB; iintro HS HB
  iapply (run_bind c)
  iapply (part54 c) $$ HR HS HB; iintro HS HB
  iapply (run_bind c)
  iapply (part55 c) $$ HR HS HB; iintro HS HB
  iapply (run_bind c)
  iapply (part56 c) $$ HR HS HB; iintro HS HB
  iapply (run_bind c)
  iapply (part57 c) $$ HR HS HB; iintro HS HB
  simp only [Prog.lift, Prog.bind_op, Prog.bind_ret, Prog.pure_eq_ret]
  iapply (leave (.inr 13) 34 35 rfl rfl rfl (by rfl)) $$ HR HS HB; iintro HS HB
  iapply (leave (.inr 14) 35 36 rfl rfl rfl (by rfl)) $$ HR HS HB; iintro HS HB
  rw [wp_ret]; imodintro
  unfold XW
  icases HL with ⟨HX, HW⟩
  ihave HS := (St_end c) $$ HS
  icases HS with ⟨HO, HS, Hr⟩
  icases HO with ⟨%W', HO⟩
  iapply HK $$ %W' HO
  unfold Post
  isplitl [HS Hr Hz]
  · isplitl [HS]; (· iexact HS)
    isplitl [Hr]; (· iexact Hr)
    iexact Hz
  isplitl [HX Hw HY HP HW]
  · isplitl [HX]; (· iexact HX)
    isplitl [Hw]; (· iexact Hw)
    isplitl [HY]; (· iexact HY)
    isplitl [HP]; (· iexact HP)
    iexact HW
  isplitl [E3 E4 E5 E6 Z8 Z9 Z10]
  · isplitl [E3]; (· iexact E3)
    isplitl [E4]; (· iexact E4)
    isplitl [E5]; (· iexact E5)
    isplitl [E6]; (· iexact E6)
    isplitl [Z8]; (· iexact Z8)
    isplitl [Z9]; (· iexact Z9)
    iexact Z10
  isplitl [HB]; (· iexact HB)
  isplitl [HA]; (· iexact HA)
  iexact HT

end Body

end Cert.K01

end
-- ==== Proof.Exit.lean ====
/-
  The buffers at the kernel's two ends: the scratch buffers, whole at the start, cut into the pieces the body takes, and the
  pieces it leaves put together again.
-/
module

public import proofs.«01_k».proof.Proof.Body

@[expose] public section

noncomputable section

namespace Cert.K01

open Cert.KernelIdeal Cert.KernelIdeal.Gen

open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section Whole

variable {s : Shape} {e : EltTy} (c : Dev nD) {M : Memref sig .tc .vmem s e}

theorem free_of_whole (h : M.view.set = Finset.univ) :
    iprop(∃ f : Buf (Elt F) (M.view.loc (c : Thread nD τ)), M.view.loc (c : Thread nD τ) ↦{fullShare} f) ⊢ free (F := F) c M Finset.univ := by
  unfold free; rw [View.setOn_univ, h]

theorem whole_of_free (h : M.view.set = Finset.univ) :
    free (F := F) c M Finset.univ ⊢ iprop(∃ f : Buf (Elt F) (M.view.loc (c : Thread nD τ)), M.view.loc (c : Thread nD τ) ↦{fullShare} f) := by
  unfold free; rw [View.setOn_univ, h]

end Whole

instance elt_nonempty : Nonempty (Elt F .bf16) := ⟨Scalar.ofBits .bf16 0#16⟩

/-! ## Ring buffers -/

theorem slots4 : (Finset.univ : Finset S4x2x128x2048.Idx) = slot4 0 ∪ (slot4 1 ∪ (slot4 2 ∪ slot4 3)) := by
  ext i
  have h0 : (i 0).val < 4 := (i 0).isLt
  simp only [slot4, Finset.mem_union, Finset.mem_filter, Finset.mem_univ, _root_.true_and, true_iff]
  omega

theorem slots3 {n : ℕ} : (Finset.univ : Finset (⟨3, ![4, n, 2048]⟩ : Shape).Idx) = slot3 0 ∪ (slot3 1 ∪ (slot3 2 ∪ slot3 3)) := by
  ext i
  have h0 : (i 0).val < 4 := (i 0).isLt
  simp only [slot3, Finset.mem_union, Finset.mem_filter, Finset.mem_univ, _root_.true_and, true_iff]
  omega

theorem disj4 {I : Type} [DecidableEq I] {f : ℕ → Finset I} (h : ∀ {s s'}, s ≠ s' → Disjoint (f s) (f s')) :
    Disjoint (f 0) (f 1 ∪ (f 2 ∪ f 3)) ∧ Disjoint (f 1) (f 2 ∪ f 3) ∧ Disjoint (f 2) (f 3) := by
  simp only [Finset.disjoint_union_right]
  exact ⟨⟨h (by decide), h (by decide), h (by decide)⟩, ⟨h (by decide), h (by decide)⟩, h (by decide)⟩

section Cut

variable {s : Shape} {e : EltTy} (c : Dev nD) (M : Memref sig .tc .vmem s e) {f : ℕ → Finset s.Idx}

theorem cut_slots (h : ∀ {s s'}, s ≠ s' → Disjoint (f s) (f s')) (hu : Finset.univ = f 0 ∪ (f 1 ∪ (f 2 ∪ f 3))) :
    free (F := F) c M Finset.univ ⊢ iprop(free (F := F) c M (f 0) ∗ free (F := F) c M (f 1) ∗ free (F := F) c M (f 2) ∗ free (F := F) c M (f 3)) := by
  obtain ⟨h1, h2, h3⟩ := disj4 h
  rw [hu]
  exact (free_split c M h1).trans (Laws.sep_mono .refl ((free_split c M h2).trans (Laws.sep_mono .refl (free_split c M h3))))

theorem join_slots [Nonempty (Elt F e)] (h : ∀ {s s'}, s ≠ s' → Disjoint (f s) (f s')) (hu : Finset.univ = f 0 ∪ (f 1 ∪ (f 2 ∪ f 3))) :
    iprop(free (F := F) c M (f 0) ∗ free (F := F) c M (f 1) ∗ free (F := F) c M (f 2) ∗ free (F := F) c M (f 3)) ⊢ free (F := F) c M Finset.univ := by
  obtain ⟨h1, h2, h3⟩ := disj4 h
  rw [hu]
  exact (Laws.sep_mono .refl ((Laws.sep_mono .refl (free_union c M h3)).trans (free_union c M h2))).trans (free_union c M h1)

end Cut

theorem cut4 (c : Dev nD) (M : Memref sig .tc .vmem S4x2x128x2048 .bf16) :
    free (F := F) c M Finset.univ ⊢ iprop((F4 (F := F) c M 0 0 ∗ F4 (F := F) c M 0 1) ∗ land4 (F := F) c M) := by
  refine (cut_slots c M (f := slot4) slot4_disj slots4).trans ?_
  unfold land4
  refine Laws.sep_mono ?_ .refl
  rw [slot4_eq]
  exact free_split c M (half_disj (.inr (by decide)))

theorem cut3 {n : ℕ} (c : Dev nD) (M : Memref sig .tc .vmem ⟨3, ![4, n, 2048]⟩ .bf16) :
    free (F := F) c M Finset.univ ⊢ iprop(F3 (F := F) c M 0 ∗ land3 (F := F) c M) :=
  cut_slots c M (f := slot3) slot3_disj slots3

theorem join4 (c : Dev nD) (M : Memref sig .tc .vmem S4x2x128x2048 .bf16) :
    iprop((free (F := F) c M (slot4 0) ∗ free (F := F) c M (slot4 1) ∗ free (F := F) c M (slot4 2)) ∗ free (F := F) c M (slot4 3)) ⊢ free (F := F) c M Finset.univ := by
  refine BIBase.Entails.trans ?_ (join_slots c M (f := slot4) slot4_disj slots4)
  iintro ⟨⟨H0, H1, H2⟩, H3⟩
  isplitl [H0]; · iexact H0
  isplitl [H1]; · iexact H1
  isplitl [H2] <;> iassumption

theorem join3 {n : ℕ} (c : Dev nD) (M : Memref sig .tc .vmem ⟨3, ![4, n, 2048]⟩ .bf16) :
    iprop((F3 (F := F) c M 0 ∗ F3 (F := F) c M 1 ∗ F3 (F := F) c M 2) ∗ F3 (F := F) c M 3) ⊢ free (F := F) c M Finset.univ := by
  refine BIBase.Entails.trans ?_ (join_slots c M (f := slot3) slot3_disj slots3)
  iintro ⟨⟨H0, H1, H2⟩, H3⟩
  isplitl [H0]; · iexact H0
  isplitl [H1]; · iexact H1
  isplitl [H2] <;> iassumption

/-! ## The table of maxima -/

/-- The row of its table that stands for the pair. -/
abbrev rowOf (p : Dev nD × Dev nD) : Finset S16x128.Idx := band ((p.2.val + 16 - p.1.val) % 16) 1

theorem rowOf_disj {c : Dev nD} {p q : Dev nD × Dev nD} (hp : p.1 = c) (hq : q.1 = c) (h : p ≠ q) : Disjoint (rowOf p) (rowOf q) := by
  obtain ⟨p1, p2⟩ := p; obtain ⟨q1, q2⟩ := q
  subst hp; obtain rfl : q1 = p1 := hq
  have h2 : p2.val ≠ q2.val := fun e => h (by rw [Fin.ext e])
  have l1 : p2.val < 16 := p2.isLt
  have l2 : q2.val < 16 := q2.isLt
  have l3 : q1.val < 16 := q1.isLt
  refine Finset.disjoint_left.2 fun i a b => ?_
  rw [mem_band] at a b
  dsimp only at a b
  omega

theorem cut_rows (c : Dev nD) (T : Finset (Dev nD × Dev nD)) (hT : ∀ p ∈ T, p.1 = c) : free (F := F) c a12 (T.biUnion rowOf) ⊢ RR (F := F) T := by
  unfold RR
  induction T using Finset.induction_on with
  | empty => rw [bigSep_empty]; exact Laws.affine
  | insert p T hp ih =>
    rw [Finset.biUnion_insert, bigSep_insert hp]
    refine (free_split c a12 ((Finset.disjoint_biUnion_right _ _ _).2 fun q hq => rowOf_disj (hT p (Finset.mem_insert_self _ _)) (hT q (Finset.mem_insert_of_mem hq)) fun e => hp (e ▸ hq))).trans ?_
    refine Laws.sep_mono ?_ (ih fun q hq => hT q (Finset.mem_insert_of_mem hq))
    unfold R rowOf; rw [hT p (Finset.mem_insert_self _ _)]

theorem rows_univ (c : Dev nD) : (Finset.univ : Finset S16x128.Idx) = band 0 1 ∪ (Own c).biUnion rowOf := by
  ext i
  have hc : c.val < 16 := c.isLt
  have hi : (i 0).val < 16 := (i 0).isLt
  simp only [Finset.mem_univ, true_iff, Finset.mem_union, Finset.mem_biUnion]
  by_cases h : (i 0).val = 0
  · left; rw [mem_band]; omega
  · right
    refine ⟨(c, ⟨(c.val + (i 0).val) % 16, Nat.mod_lt _ (by decide)⟩), ?_, ?_⟩
    · unfold Own; rw [Finset.mem_filter]
      refine ⟨Finset.mem_univ _, rfl, fun e => ?_⟩
      have := congrArg Fin.val e; dsimp only at this; omega
    · rw [mem_band]; dsimp only; omega

theorem cutA (c : Dev nD) : free (F := F) c a12 Finset.univ ⊢ iprop(free (F := F) c a12 (band 0 1) ∗ RR (F := F) (Own c)) := by
  have hO : ∀ p ∈ Own c, p.1 = c ∧ p.2 ≠ c := fun p hp => by unfold Own at hp; exact (Finset.mem_filter.1 hp).2
  rw [rows_univ c]
  refine (free_split c a12 ?_).trans (Laws.sep_mono .refl (cut_rows c _ fun p hp => (hO p hp).1))
  refine (Finset.disjoint_biUnion_right _ _ _).2 fun p hp => Finset.disjoint_left.2 fun i a b => ?_
  obtain ⟨h1, h2⟩ := hO p hp
  rw [mem_band] at a b
  have h2 : p.2.val ≠ p.1.val := fun e => h2 (by rw [← h1]; exact Fin.ext e)
  have l1 : p.2.val < 16 := p.2.isLt
  have l2 : p.1.val < 16 := p.1.isLt
  omega

section Back

variable (x : Dev nD → Vec F S4096x256 .bf16) (w : Dev nD → Vec F S256x2048 .bf16) (c : Dev nD)

/-- The lent shares of a device's own row, back. -/
theorem meet_row (q : PosShare TreeShare) : ∀ n : ℕ,
    iprop(bigSep (Finset.range n) (fun o => row0 x w c (Transfers.shareTokN q o)) ∗ row0 x w c (Transfers.shareDrop q n)) ⊢ row0 x w c q
  | 0 => by
    rw [Finset.range_zero, bigSep_empty]
    iintro ⟨-, H⟩; iexact H
  | n + 1 => by
    have e : bigSep (Finset.range (n + 1)) (fun o => row0 x w c (Transfers.shareTokN q o)) = iprop(row0 x w c (Transfers.shareTokN q n) ∗ bigSep (Finset.range n) fun o => row0 x w c (Transfers.shareTokN q o)) := by
      rw [Finset.range_add_one, bigSep_insert Finset.notMem_range_self]; rfl
    rw [e]
    iintro ⟨⟨H1, H2⟩, H3⟩
    iapply (meet_row q n)
    isplitl [H2]; · iexact H2
    unfold row0
    iapply (hold_meet (c := c) (M := a12) (q := Transfers.shareDrop q n))
    isplitl [H3]; · iexact H3
    iexact H1

theorem Back_eq : Back x w c 36 = iprop((bigSep Finset.univ fun p : Fin 7 × Fin 3 => sendPay x w (.inl p) c) ∗ bigSep (Finset.range 15) fun o => row0 x w c (shr o)) := by
  unfold Back
  rw [show (Finset.univ.filter fun h : Hop => pos h < 36) = Finset.univ from Finset.filter_true_of_mem fun h _ => pos_lt h, bigSep_univ_sum]
  refine congrArg (BIBase.sep _) ?_
  rw [show Finset.range 15 = (Finset.univ : Finset (Fin 15)).map Fin.valEmbedding by decide, bigSep_map]
  rfl

theorem bigSep_three (Φ : Fin 3 → sProp 𝕄) : bigSep Finset.univ Φ = iprop(Φ 0 ∗ Φ 1 ∗ Φ 2) := bigSep_univ_eq_bigSepL [0, 1, 2] (by decide) (by decide) Φ

theorem back_slots : (bigSep Finset.univ fun p : Fin 7 × Fin 3 => sendPay x w (.inl p) c)
    = iprop((free (F := F) c a3 (slot4 0) ∗ free (F := F) c a3 (slot4 1) ∗ free (F := F) c a3 (slot4 2))
      ∗ (free (F := F) c a4 (slot4 0) ∗ free (F := F) c a4 (slot4 1) ∗ free (F := F) c a4 (slot4 2))
      ∗ (free (F := F) c a5 (slot4 0) ∗ free (F := F) c a5 (slot4 1) ∗ free (F := F) c a5 (slot4 2))
      ∗ (free (F := F) c a6 (slot4 0) ∗ free (F := F) c a6 (slot4 1) ∗ free (F := F) c a6 (slot4 2))
      ∗ (F3 (F := F) c a8 0 ∗ F3 (F := F) c a8 1 ∗ F3 (F := F) c a8 2)
      ∗ (F3 (F := F) c a9 0 ∗ F3 (F := F) c a9 1 ∗ F3 (F := F) c a9 2)
      ∗ (F3 (F := F) c a10 0 ∗ F3 (F := F) c a10 1 ∗ F3 (F := F) c a10 2)) := by
  rw [bigSep_univ_prod, bigSep_univ_eq_bigSepL [0, 1, 2, 3, 4, 5, 6] (by decide) (by decide)]
  simp only [bigSep_three]
  rfl

theorem joinA : iprop((bigSep (Finset.range 15) fun o => row0 x w c (shr o)) ∗ AS x w c 15 ∗ TB x w c 15) ⊢ free (F := F) c a12 Finset.univ := by
  unfold AS TB
  iintro ⟨HB, ⟨-, H0⟩, ⟨HR, HL⟩⟩
  ihave H := (meet_row x w c fullShare.left 15) $$ [HB H0]
  · isplitl [HB] <;> iassumption
  unfold row0
  ihave H := (hold_union c a12 (S := band 0 1) (T := band 1 15) (Finset.disjoint_left.2 fun i a b => by rw [mem_band] at a b; omega) (Finset.Subset.refl _) (Finset.Subset.refl _)) $$ [H HL]
  · isplitl [H] <;> iassumption
  rw [show (band 0 1 ∪ band 1 15 : Finset S16x128.Idx) = Finset.univ from by
    rw [← band_full]; ext i; rw [Finset.mem_union, mem_band, mem_band, mem_band]; omega, band_full]
  iapply (hold_free c a12 Finset.univ Finset.univ (AM x w c))
  iapply (hold_meet (c := c) (M := a12) (q := fullShare))
  isplitl [H] <;> iassumption

/-! ## The scratch buffers -/

/-- All scratch buffers, whole, with any contents. -/
def Scr : sProp 𝕄 :=
  iprop(free (F := F) c a3 Finset.univ ∗ free (F := F) c a4 Finset.univ ∗ free (F := F) c a5 Finset.univ ∗ free (F := F) c a6 Finset.univ ∗ free (F := F) c a7 Finset.univ
    ∗ free (F := F) c a8 Finset.univ ∗ free (F := F) c a9 Finset.univ ∗ free (F := F) c a10 Finset.univ ∗ free (F := F) c a11 Finset.univ ∗ free (F := F) c a12 Finset.univ)

theorem scr_enter : Pipeline.scopedRest cfg0.spec c ⊢ Scr (F := F) c := by
  rw [scopedRest0_eq]; unfold Scr
  exact (Laws.sep_mono (free_of_whole (M := a3) c (View.set_whole _))
    (Laws.sep_mono (free_of_whole (M := a4) c (View.set_whole _))
    (Laws.sep_mono (free_of_whole (M := a5) c (View.set_whole _))
    (Laws.sep_mono (free_of_whole (M := a6) c (View.set_whole _))
    (Laws.sep_mono (free_of_whole (M := a7) c (View.set_whole _))
    (Laws.sep_mono (free_of_whole (M := a8) c (View.set_whole _))
    (Laws.sep_mono (free_of_whole (M := a9) c (View.set_whole _))
    (Laws.sep_mono (free_of_whole (M := a10) c (View.set_whole _))
    (Laws.sep_mono (free_of_whole (M := a11) c (View.set_whole _))
    (free_of_whole (M := a12) c (View.set_whole _)))))))))))

theorem scr_exit : Scr (F := F) c ⊢ Pipeline.scopedRest cfg0.spec c := by
  rw [scopedRest0_eq]; unfold Scr
  exact (Laws.sep_mono (whole_of_free (M := a3) c (View.set_whole _))
    (Laws.sep_mono (whole_of_free (M := a4) c (View.set_whole _))
    (Laws.sep_mono (whole_of_free (M := a5) c (View.set_whole _))
    (Laws.sep_mono (whole_of_free (M := a6) c (View.set_whole _))
    (Laws.sep_mono (whole_of_free (M := a7) c (View.set_whole _))
    (Laws.sep_mono (whole_of_free (M := a8) c (View.set_whole _))
    (Laws.sep_mono (whole_of_free (M := a9) c (View.set_whole _))
    (Laws.sep_mono (whole_of_free (M := a10) c (View.set_whole _))
    (Laws.sep_mono (whole_of_free (M := a11) c (View.set_whole _))
    (whole_of_free (M := a12) c (View.set_whole _)))))))))))

theorem PSUM_start : free (F := F) c a7 Finset.univ ⊢ PSUM x w c 0 := by
  unfold PSUM
  refine (free_hold c a7 _ (PS x w c)).trans (hold_mono c a7 fun i hi => ?_)
  exact absurd (Finset.mem_filter.1 hi).2 (Nat.not_lt_zero _)

theorem OUTY_start : free (F := F) c a2 Finset.univ ⊢ OUTY x w c 0 := by
  unfold OUTY
  refine (free_hold c a2 _ (Y x w c)).trans (hold_mono c a2 fun i hi => ?_)
  exact absurd (Finset.mem_filter.1 hi).2 (Nat.not_lt_zero _)

theorem mem_enter : Scr (F := F) c ⊢ iprop(
    (land4 (F := F) c a3 ∗ land4 (F := F) c a4 ∗ land4 (F := F) c a5 ∗ land4 (F := F) c a6 ∗ land3 (F := F) c a8 ∗ land3 (F := F) c a9 ∗ land3 (F := F) c a10)
    ∗ (PSUM x w c 0 ∗ free (F := F) c a11 Finset.univ ∗ free (F := F) c a12 (band 0 1) ∗ RR (F := F) (Own c))
    ∗ ((F4 (F := F) c a3 0 0 ∗ F4 (F := F) c a3 0 1) ∗ (F4 (F := F) c a4 0 0 ∗ F4 (F := F) c a4 0 1) ∗ (F4 (F := F) c a5 0 0 ∗ F4 (F := F) c a5 0 1) ∗ (F4 (F := F) c a6 0 0 ∗ F4 (F := F) c a6 0 1)
      ∗ F3 (F := F) c a8 0 ∗ F3 (F := F) c a9 0 ∗ F3 (F := F) c a10 0)) := by
  unfold Scr
  iintro ⟨H3, H4, H5, H6, H7, H8, H9, H10, H11, H12⟩
  ihave H3 := (cut4 (F := F) c a3) $$ H3
  ihave H4 := (cut4 (F := F) c a4) $$ H4
  ihave H5 := (cut4 (F := F) c a5) $$ H5
  ihave H6 := (cut4 (F := F) c a6) $$ H6
  ihave H8 := (cut3 (F := F) c a8) $$ H8
  ihave H9 := (cut3 (F := F) c a9) $$ H9
  ihave H10 := (cut3 (F := F) c a10) $$ H10
  ihave H12 := (cutA (F := F) c) $$ H12
  ihave H7 := (PSUM_start x w c) $$ H7
  icases H3 with ⟨A3, B3⟩; icases H4 with ⟨A4, B4⟩; icases H5 with ⟨A5, B5⟩; icases H6 with ⟨A6, B6⟩
  icases H8 with ⟨A8, B8⟩; icases H9 with ⟨A9, B9⟩; icases H10 with ⟨A10, B10⟩; icases H12 with ⟨A12, B12⟩
  isplitl [B3 B4 B5 B6 B8 B9 B10]
  · isplitl [B3]; · iexact B3
    isplitl [B4]; · iexact B4
    isplitl [B5]; · iexact B5
    isplitl [B6]; · iexact B6
    isplitl [B8]; · iexact B8
    isplitl [B9]; · iexact B9
    iexact B10
  isplitl [H7 H11 A12 B12]
  · isplitl [H7]; · iexact H7
    isplitl [H11]; · iexact H11
    isplitl [A12]; · iexact A12
    iexact B12
  isplitl [A3]; · iexact A3
  isplitl [A4]; · iexact A4
  isplitl [A5]; · iexact A5
  isplitl [A6]; · iexact A6
  isplitl [A8]; · iexact A8
  isplitl [A9]; · iexact A9
  iexact A10

theorem mem_exit : iprop((PSUM x w c 8 ∗ WR w c)
    ∗ (free (F := F) c a3 (slot4 3) ∗ free (F := F) c a4 (slot4 3) ∗ free (F := F) c a5 (slot4 3) ∗ free (F := F) c a6 (slot4 3) ∗ F3 (F := F) c a8 3 ∗ F3 (F := F) c a9 3 ∗ F3 (F := F) c a10 3)
    ∗ (Back x w c 36 ∗ AS x w c 15 ∗ TB x w c 15)) ⊢ Scr (F := F) c := by
  rw [Back_eq, back_slots]; unfold Scr
  iintro ⟨⟨HP, HW⟩, ⟨H3, H4, H5, H6, H8, H9, H10⟩, ⟨⟨⟨B3, B4, B5, B6, B8, B9, B10⟩, HB⟩, HA, HT⟩⟩
  isplitl [H3 B3]; · iapply (join4 (F := F) c a3); isplitl [B3] <;> iassumption
  isplitl [H4 B4]; · iapply (join4 (F := F) c a4); isplitl [B4] <;> iassumption
  isplitl [H5 B5]; · iapply (join4 (F := F) c a5); isplitl [B5] <;> iassumption
  isplitl [H6 B6]; · iapply (join4 (F := F) c a6); isplitl [B6] <;> iassumption
  isplitl [HP]; · unfold PSUM; iapply (hold_free c a7 _ _ _) $$ HP
  isplitl [H8 B8]; · iapply (join3 (F := F) c a8); isplitl [B8] <;> iassumption
  isplitl [H9 B9]; · iapply (join3 (F := F) c a9); isplitl [B9] <;> iassumption
  isplitl [H10 B10]; · iapply (join3 (F := F) c a10); isplitl [B10] <;> iassumption
  isplitl [HW]; · unfold WR; iapply (hold_free c a11 _ _ _) $$ HW
  iapply (joinA x w c)
  isplitl [HB]; · iexact HB
  isplitl [HA] <;> iassumption

end Back

end Cert.K01

end
-- ==== Proof.Deal.lean ====
/-
  What the launch deals to each device: the cells and their tokens, made at one place and handed round to the devices that
  use them, and the credit of the waits.
-/
module

public import proofs.«01_k».proof.Proof.Exit

@[expose] public section

noncomputable section

namespace Cert.K01

open Cert.KernelIdeal Cert.KernelIdeal.Gen

open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Sums over the cells -/

theorem bigSep_opt {α : Type} [Fintype α] [DecidableEq α] (Φ : Option α → sProp 𝕄) :
    bigSep Finset.univ Φ = iprop(Φ none ∗ bigSep Finset.univ fun a => Φ (some a)) := by
  rw [show (Finset.univ : Finset (Option α)) = insert none (Finset.univ.map Function.Embedding.some) from by
    ext a; cases a <;> simp, bigSep_insert (by simp), bigSep_map]
  rfl

theorem bigSep_side (Φ : Bool × Hop → sProp 𝕄) :
    bigSep Finset.univ Φ = iprop((bigSep Finset.univ fun h => Φ (false, h)) ∗ bigSep Finset.univ fun h => Φ (true, h)) := by
  rw [bigSep_univ_prod]
  exact bigSep_univ_eq_bigSepL [false, true] (by decide) (by decide) _

theorem bigSep_cells (Φ : CI → sProp 𝕄) :
    bigSep Finset.univ Φ = iprop(Φ none ∗ (bigSep Finset.univ fun h => Φ (some (false, h))) ∗ bigSep Finset.univ fun h => Φ (some (true, h))) := by
  rw [bigSep_opt, bigSep_side]

theorem bigSep_four (Φ : Fin 4 → sProp 𝕄) : bigSep Finset.univ Φ = iprop(Φ 0 ∗ Φ 1 ∗ Φ 2 ∗ Φ 3) :=
  bigSep_univ_eq_bigSepL [0, 1, 2, 3] (by decide) (by decide) Φ

/-! ## Cells and tokens -/

theorem cellC_inj : Function.Injective (cellC : Dev nD × CI → GSem nD τ sig) := by
  rintro ⟨c, i⟩ ⟨d, j⟩ h
  have h1 : c = d := congrArg (fun g : GSem nD τ sig => g.1.1) h
  have h2 : i = j := cellS_inj i j (congrArg Prod.snd h)
  rw [h1, h2]

/-- All cells of the protocol. -/
def allCells : Finset (GSem nD τ sig) := Finset.univ.map ⟨cellC, cellC_inj⟩

/-- A token's cell and duty. -/
def tokOf (p : Dev nD × (Fin 4 ⊕ (Bool × Hop))) : GSem nD τ sig × ℕ × Fin 4 := match p.2 with
  | .inl i => (barC p.1, 0, i)
  | .inr k => (cellC (p.1, some k), 0, 0)

theorem tokOf_inj : Function.Injective tokOf := by
  rintro ⟨c, i⟩ ⟨d, j⟩ h
  match i, j, h with
  | .inl i, .inl j, h =>
    have h1 := cellC_inj (a₁ := (c, none)) (a₂ := (d, none)) (congrArg Prod.fst h)
    have h2 : i = j := congrArg (fun t : GSem nD τ sig × ℕ × Fin 4 => t.2.2) h
    rw [(Prod.mk.inj h1).1, h2]
  | .inl i, .inr j, h => exact absurd (Prod.mk.inj (cellC_inj (a₁ := (c, none)) (a₂ := (d, some j)) (congrArg Prod.fst h))).2 (by intro e; cases e)
  | .inr i, .inl j, h => exact absurd (Prod.mk.inj (cellC_inj (a₁ := (c, some i)) (a₂ := (d, none)) (congrArg Prod.fst h))).2 (by intro e; cases e)
  | .inr i, .inr j, h =>
    have h1 := Prod.mk.inj (cellC_inj (a₁ := (c, some i)) (a₂ := (d, some j)) (congrArg Prod.fst h))
    rw [h1.1, Option.some.inj h1.2]

/-- All tokens of the protocol. -/
def allToks : Finset (GSem nD τ sig × ℕ × Fin 4) := Finset.univ.map ⟨tokOf, tokOf_inj⟩

/-- The kernel's own semaphores: those of the copies, and the two it never uses. -/
def osem : (Bool × Hop) ⊕ Bool → SemLoc sig
  | .inl k => cellS (some k)
  | .inr false => .dma 45
  | .inr true => .dma 61

theorem dec_spare : dec (.dma 45) = none ∧ dec (.dma 61) = none := by decide

theorem osem_facts : Pipeline.OwnSemFacts cfg0.spec osem where
  isScoped k := by
    have hd : ∀ n : DmaSem sig, SemLoc.isScoped (sig := sig) .tc (.dma n) = true := by decide
    match k with
    | .inl (false, h) => exact hd _
    | .inl (true, h) => exact hd _
    | .inr false => exact hd _
    | .inr true => exact hd _
  inj := by
    have hs : ∀ k b, cellS (some k) ≠ osem (.inr b) := fun k b e => by
      have h := congrArg dec e
      rw [dec_cellS] at h
      cases b
      · exact absurd (h.trans dec_spare.1) (by intro e; cases e)
      · exact absurd (h.trans dec_spare.2) (by intro e; cases e)
    intro i j h
    match i, j, h with
    | .inl i, .inl j, h => rw [Option.some.inj (cellS_inj _ _ h)]
    | .inl i, .inr j, h => exact absurd h (hs i j)
    | .inr i, .inl j, h => exact absurd h.symm (hs j i)
    | .inr false, .inr false, _ => rfl
    | .inr true, .inr true, _ => rfl
    | .inr false, .inr true, h => exact absurd h (by decide)
    | .inr true, .inr false, h => exact absurd h (by decide)
  disj := by
    have hd : ∀ w s, (cfg0.spec w).sem s = 0 ∨ (cfg0.spec w).sem s = 1 ∨ (cfg0.spec w).sem s = 2 := by decide
    have hn : dec (.dma 0) = none ∧ dec (.dma 1) = none ∧ dec (.dma 2) = none := by decide
    intro k w s e
    match k, e with
    | .inl k, e =>
      have h := congrArg dec e
      rw [show osem (.inl k) = cellS (some k) from rfl, dec_cellS] at h
      rcases hd w s with h' | h' | h' <;> rw [h'] at h
      · exact absurd (h.trans hn.1) (by intro e; cases e)
      · exact absurd (h.trans hn.2.1) (by intro e; cases e)
      · exact absurd (h.trans hn.2.2) (by intro e; cases e)
    | .inr false, e => rcases hd w s with h' | h' | h' <;> rw [h'] at e <;> exact absurd e (by decide)
    | .inr true, e => rcases hd w s with h' | h' | h' <;> rw [h'] at e <;> exact absurd e (by decide)

/-- The two semaphores never used, at zero. -/
def spare (c : Dev nD) : sProp 𝕄 := iprop(semVal ((c : Thread nD τ), SemLoc.dma 45) 0 ∗ semVal ((c : Thread nD τ), SemLoc.dma 61) 0)

theorem own_eq (c : Dev nD) : (Pipeline.ownSems0 (Ix := Unit) (Name := ℕ) (U := UU) (Lvl := ℕ) (Val := Elt F) (τ := τ) osem c : sProp 𝕄)
    = iprop(((bigSep Finset.univ fun h : Hop => (semVal (sndC c h) 0 : sProp 𝕄)) ∗ bigSep Finset.univ fun h : Hop => (semVal (rcvC c h) 0 : sProp 𝕄)) ∗ spare (F := F) c) := by
  unfold Pipeline.ownSems0
  rw [bigSep_univ_sum, bigSep_side]
  refine congrArg (BIBase.sep _) ?_
  exact bigSep_univ_eq_bigSepL [false, true] (by decide) (by decide) _

theorem unscoped_eq (c : Dev nD) : (unscopedSems0 c : sProp 𝕄) = semVal (barC c) 0 := by
  unfold unscopedSems0; rw [bigSep_eq_bigSepL_of_eq [bar] (by decide) (by decide)]; rfl

section Deal

variable (x : Dev nD → Vec F S4096x256 .bf16) (w : Dev nD → Vec F S256x2048 .bf16)

/-- The tokens of `c`'s own cells. -/
def toks (c : Dev nD) : sProp 𝕄 :=
  iprop((dutyTok ER (barC c) 0 0 ∗ dutyTok ER (barC c) 0 1 ∗ dutyTok ER (barC c) 0 2 ∗ dutyTok ER (barC c) 0 3)
    ∗ (bigSep Finset.univ fun h : Hop => (dutyTok ER (sndC c h) 0 0 : sProp 𝕄)) ∗ bigSep Finset.univ fun h : Hop => (dutyTok ER (rcvC c h) 0 0 : sProp 𝕄))

/-- The tokens `c` uses. -/
def payToks (c : Dev nD) : sProp 𝕄 :=
  iprop((dutyTok ER (barC (up c)) 0 0 ∗ dutyTok ER (barC (dn c)) 0 1 ∗ dutyTok ER (barC (rt c)) 0 2 ∗ dutyTok ER (barC (lf c)) 0 3)
    ∗ (bigSep Finset.univ fun h : Hop => (dutyTok ER (sndC c h) 0 0 : sProp 𝕄)) ∗ bigSep Finset.univ fun h : Hop => (dutyTok ER (rcvC (tgt h c) h) 0 0 : sProp 𝕄))

/-- What the launch makes for `c`. -/
def G (c : Dev nD) : sProp 𝕄 :=
  iprop((bigSep Finset.univ fun i : CI => roundState ER (Rd x w) (cellC (c, i)) 0)
    ∗ (bigSep Finset.univ fun i : CI => iprop(atPos ER (cellC (c, i)) 0 ∅ 0 ∗ reached ER (cellC (c, i)) 0)) ∗ toks (F := F) c)

def records (κ : Dev nD × CI → ℕ) : sProp 𝕄 :=
  iprop((bigSep Finset.univ fun ci : Dev nD × CI => cellInv ER (Rd x w) (κ ci) (cellC ci)) ∗ bigSep Finset.univ fun ci : Dev nD × CI => reached ER (cellC ci) 0)

instance records_persistent (κ : Dev nD × CI → ℕ) : BI.Persistent (records x w κ) := by unfold records; infer_instance

/-- `c`'s places in its cells. -/
def places (c : Dev nD) : sProp 𝕄 := bigSep Finset.univ fun i : CI => atPos ER (cellC (c, i)) 0 ∅ 0

/-- What `c` starts with, but for the credit of its waits. -/
def G' (c : Dev nD) : sProp 𝕄 := iprop((∃ κ, records x w κ) ∗ places (F := F) c ∗ payToks (F := F) c ∗ spare (F := F) c)

theorem fund_all : BI.own (ER (initOf allCells allToks)) ⊢ (|==> bigSep Finset.univ (G x w) : sProp 𝕄) := by
  have hX (Φ : GSem nD τ sig → sProp 𝕄) : bigSep allCells Φ = bigSep Finset.univ fun c : Dev nD => bigSep Finset.univ fun i : CI => Φ (cellC (c, i)) := by
    unfold allCells; rw [bigSep_map, bigSep_univ_prod]; rfl
  have hT : bigSep allToks (fun t => (dutyTok ER t.1 t.2.1 t.2.2 : sProp 𝕄)) = bigSep Finset.univ fun c : Dev nD => toks (F := F) c := by
    unfold allToks; rw [bigSep_map, bigSep_univ_prod]
    refine bigSep_congr fun c _ => ?_
    unfold toks
    rw [bigSep_univ_sum, bigSep_four, bigSep_side]
    rfl
  iintro HX
  imod (Rounds.fund ER (Rd x w) allCells allToks) $$ HX with ⟨Hst, Hr, Hat, Htok⟩
  imodintro
  ihave Hst := (Entails.of_eq (hX fun g => roundState ER (Rd x w) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  isplitl [Hst]; · iexact Hst
  isplitl [Hat Hr]
  · isplitl [Hat] <;> iassumption
  iexact Htok

theorem core_alloc (c : Dev nD) :
    iprop(Pipeline.ownSems0 (Ix := Unit) (Name := ℕ) (U := UU) (Lvl := ℕ) (Val := Elt F) (τ := τ) osem c ∗ unscopedSems0 c ∗ G x w c)
      ⊢ |={Set.univ}=> iprop((bigSep Finset.univ fun i : CI => iprop(∃ κ : ℕ, cellInv ER (Rd x w) κ (cellC (c, i))))
          ∗ ((bigSep Finset.univ fun i : CI => iprop(atPos ER (cellC (c, i)) 0 ∅ 0)) ∗ bigSep Finset.univ fun i : CI => iprop(reached ER (cellC (c, i)) 0)) ∗ toks (F := F) c ∗ spare (F := F) c) := by
  have hv : (bigSep Finset.univ fun i : CI => (semVal (cellC (c, i)) 0 : sProp 𝕄))
      = iprop(semVal (barC c) 0 ∗ (bigSep Finset.univ fun h : Hop => (semVal (sndC c h) 0 : sProp 𝕄)) ∗ bigSep Finset.univ fun h : Hop => (semVal (rcvC c h) 0 : sProp 𝕄)) := bigSep_cells _
  rw [own_eq, unscoped_eq]
  unfold G
  rw [bigSep_sep']
  iintro ⟨⟨Hos, Hsp⟩, Hus, Hst, Hat, Htok⟩
  imod (show iprop((bigSep Finset.univ fun i : CI => (semVal (cellC (c, i)) 0 : sProp 𝕄)) ∗ bigSep Finset.univ fun i : CI => roundState ER (Rd x w) (cellC (c, i)) 0)
      ⊢ (|={Set.univ}=> bigSep Finset.univ fun i : CI => iprop(∃ κ : ℕ, cellInv ER (Rd x w) κ (cellC (c, i))) : sProp 𝕄) from by
        rw [← bigSep_sep']
        exact (bigSep_mono fun i _ => (Rounds.body_intro ER (Rd x w) (cellC (c, i))).trans inv_alloc).trans (bigSep_fupd _ _)) $$ [Hos Hus Hst] with Hinv
  · isplitl [Hos Hus]
    · rw [hv]
      isplitl [Hus]; · iexact Hus
      iexact Hos
    · iexact Hst
  imodintro
  isplitl [Hinv]; · iexact Hinv
  isplitl [Hat]; · iexact Hat
  isplitl [Htok] <;> iassumption

/-- The devices a copy goes to, one for each device. -/
def turn (h : Hop) : Dev nD ≃ Dev nD := ⟨tgt h, org h, org_tgt h, tgt_org h⟩

theorem toks_turn (h : Hop) (Φ : Dev nD → sProp 𝕄) : bigSep Finset.univ Φ = bigSep Finset.univ fun c => Φ (tgt h c) := bigSep_univ_equiv (turn h) Φ

theorem toks_around : (bigSep Finset.univ fun c : Dev nD => (toks (F := F) c : sProp 𝕄)) ⊢ bigSep Finset.univ fun c : Dev nD => payToks (F := F) c := by
  have e : (bigSep Finset.univ fun c : Dev nD => bigSep Finset.univ fun h : Hop => (dutyTok ER (rcvC c h) 0 0 : sProp 𝕄))
      = bigSep Finset.univ fun c : Dev nD => bigSep Finset.univ fun h : Hop => (dutyTok ER (rcvC (tgt h c) h) 0 0 : sProp 𝕄) := by
    rw [bigSep_univ_comm, bigSep_univ_comm (fun c h => (dutyTok ER (rcvC (tgt h c) h) 0 0 : sProp 𝕄))]
    exact bigSep_congr fun h _ => toks_turn h fun c => (dutyTok ER (rcvC c h) 0 0 : sProp 𝕄)
  refine Entails.of_eq ?_
  unfold toks payToks
  simp only [bigSep_sep']
  rw [e, toks_turn (.inl (4, 0)) (fun c : Dev nD => (dutyTok ER (barC c) 0 0 : sProp 𝕄)), toks_turn (.inl (6, 0)) (fun c : Dev nD => (dutyTok ER (barC c) 0 1 : sProp 𝕄)),
    toks_turn (.inl (0, 0)) (fun c : Dev nD => (dutyTok ER (barC c) 0 2 : sProp 𝕄)), toks_turn (.inl (1, 0)) (fun c : Dev nD => (dutyTok ER (barC c) 0 3 : sProp 𝕄))]
  rfl

theorem regroup :
    (bigSep Finset.univ fun c : Dev nD => iprop((bigSep Finset.univ fun i : CI => iprop(∃ κ : ℕ, cellInv ER (Rd x w) κ (cellC (c, i))))
          ∗ ((bigSep Finset.univ fun i : CI => iprop(atPos ER (cellC (c, i)) 0 ∅ 0)) ∗ bigSep Finset.univ fun i : CI => iprop(reached ER (cellC (c, i)) 0)) ∗ toks (F := F) c ∗ spare (F := F) c) : sProp 𝕄)
      ⊢ bigSep Finset.univ (G' x w) := by
  simp only [bigSep_sep']
  rw [← bigSep_univ_prod (fun ci : Dev nD × CI => iprop(∃ κ : ℕ, cellInv ER (Rd x w) κ (cellC ci))), ← bigSep_univ_prod (fun ci : Dev nD × CI => (reached ER (cellC ci) 0 : sProp 𝕄))]
  iintro ⟨HI, ⟨Hat, #HR⟩, Htok, Hsp⟩
  ihave HK := (BI.bigSep_exists_pi Finset.univ (fun (ci : Dev nD × CI) (κ : ℕ) => (cellInv ER (Rd x w) κ (cellC ci) : sProp 𝕄))) $$ HI
  icases HK with ⟨%κ, #HI⟩
  ihave Htk := (toks_around (F := F)) $$ Htok
  iapply (bigSep_with_persistent (S := Finset.univ) (R := records x w κ) (Φ := fun c => iprop(places (F := F) c ∗ payToks (F := F) c ∗ spare (F := F) c)) (Ψ := G' x w) fun c _ => by
    unfold G'
    iintro ⟨#H, H1, H2, H3⟩
    isplitr; · iexists κ; iexact H
    isplitl [H1]; · iexact H1
    isplitl [H2] <;> iassumption)
  isplitr
  · unfold records; isplitl; · iexact HI
    iexact HR
  · simp only [bigSep_sep']
    isplitl [Hat]; · unfold places; iexact Hat
    isplitl [Htk]; · iexact Htk
    iexact Hsp

theorem glob : (bigSep Finset.univ fun c => iprop(Pipeline.ownSems0 (Ix := Unit) (Name := ℕ) (U := UU) (Lvl := ℕ) (Val := Elt F) (τ := τ) osem c ∗ unscopedSems0 c ∗ G x w c) : sProp 𝕄)
    ⊢ |={Set.univ}=> bigSep Finset.univ (G' x w) :=
  ((bigSep_mono fun c _ => core_alloc x w c).trans (bigSep_fupd _ _)).trans (BI.fupd_mono (regroup x w))

end Deal

/-! ## The credit of the waits -/

theorem rcv_ne {d c : Dev nD} {g h : Hop} (e : g ≠ h) : rcvC d g ≠ rcvC c h := fun k => by
  have := cellS_inj (some (true, g)) (some (true, h)) (congrArg Prod.snd k)
  exact e (Prod.mk.inj (Option.some.inj this)).2
theorem rcv_ne_bar {d c : Dev nD} {h : Hop} : rcvC d h ≠ barC c := fun k => by
  have := cellS_inj (some (true, h)) none (congrArg Prod.snd k)
  cases this

theorem O_bar (c d : Dev nD) (n : ℕ) : O d n (barC c) () = 0 := by
  by_contra h
  obtain ⟨k, -, hk⟩ := O_pos (Nat.pos_of_ne_zero h)
  exact rcv_ne_bar hk.symm

/-- Units sent to a cell of the same kind on every device, one device each. -/
theorem sum_turn (h : Hop) (K : Dev nD → GSem nD τ sig) (hK : Function.Injective K) (n : ℕ) (c : Dev nD) :
    (∑ d : Dev nD, (tallyAt (K (tgt h d)) () n : CellTallies nD τ sig Unit) (K c) ()) = n := by
  rw [Finset.sum_eq_single (org h c)]
  · rw [tgt_org, tallyAt_apply, if_pos ⟨rfl, rfl⟩]
  · intro d _ hd
    rw [tallyAt_apply, if_neg]
    rintro ⟨e, -⟩
    exact hd (by rw [hK e, org_tgt])
  · intro hn; exact absurd (Finset.mem_univ _) hn

theorem bar_inj : Function.Injective barC := fun a b h => congrArg (fun g : GSem nD τ sig => g.1.1) h
theorem rcv_inj (h : Hop) : Function.Injective fun c => rcvC c h := fun a b h => congrArg (fun g : GSem nD τ sig => g.1.1) h

theorem launch_bar (c : Dev nD) :
    tallyOn (barC c) (launchCredit (Pipeline.owing OB) 0 (barC c)) = (tallyAt (barC c) () 4 : CellTallies nD τ sig Unit) := by
  unfold tallyAt; refine congrArg _ (Finsupp.ext fun u => ?_); cases u
  rw [Pipeline.launchCredit_owing, Finsupp.single_eq_same]
  unfold OB
  simp only [Pi.add_apply, Finsupp.add_apply, O_bar, Nat.zero_add]
  rw [Finset.sum_add_distrib, Finset.sum_add_distrib, Finset.sum_add_distrib]
  rw [show (∑ d : Dev nD, (tallyAt (barC (lf d)) () 1 : CellTallies nD τ sig Unit) (barC c) ()) = 1 from sum_turn (.inl (1, 0)) barC bar_inj 1 c,
    show (∑ d : Dev nD, (tallyAt (barC (rt d)) () 1 : CellTallies nD τ sig Unit) (barC c) ()) = 1 from sum_turn (.inl (0, 0)) barC bar_inj 1 c,
    show (∑ d : Dev nD, (tallyAt (barC (dn d)) () 1 : CellTallies nD τ sig Unit) (barC c) ()) = 1 from sum_turn (.inl (6, 0)) barC bar_inj 1 c,
    show (∑ d : Dev nD, (tallyAt (barC (up d)) () 1 : CellTallies nD τ sig Unit) (barC c) ()) = 1 from sum_turn (.inl (4, 0)) barC bar_inj 1 c]

theorem OB_rcv (d c : Dev nD) (h : Hop) : OB d (rcvC c h) () = (tallyAt (rcvC (tgt h d) h) () (amt h) : CellTallies nD τ sig Unit) (rcvC c h) () := by
  have hb : ∀ e, (tallyAt (barC e) () 1 : CellTallies nD τ sig Unit) (rcvC c h) () = 0 := fun e => by
    rw [tallyAt_apply, if_neg]; rintro ⟨k, -⟩; exact rcv_ne_bar k
  unfold OB
  simp only [Pi.add_apply, Finsupp.add_apply, hb, Nat.add_zero]
  unfold O
  rw [Finset.sum_apply, Finsupp.finset_sum_apply, Finset.sum_eq_single h]
  · intro g _ hg
    rw [tallyAt_apply, if_neg]; rintro ⟨k, -⟩; exact rcv_ne hg.symm k
  · intro hn; exact absurd (show h ∈ later 0 from Finset.mem_filter.2 ⟨Finset.mem_univ _, Nat.zero_le _⟩) hn

theorem launch_rcv (c : Dev nD) (h : Hop) :
    tallyOn (rcvC c h) (launchCredit (Pipeline.owing OB) 0 (rcvC c h)) = (tallyAt (rcvC c h) () (amt h) : CellTallies nD τ sig Unit) := by
  unfold tallyAt; refine congrArg _ (Finsupp.ext fun u => ?_); cases u
  rw [Pipeline.launchCredit_owing, Finsupp.single_eq_same, Finset.sum_congr rfl fun d _ => OB_rcv d c h]
  exact sum_turn h (fun c => rcvC c h) (rcv_inj h) (amt h) c

/-- The semaphores a device waits for that others signal. -/
def waitS : Option Hop → SemLoc sig
  | none => bar
  | some h => rcv h
theorem waitS_inj : Function.Injective waitS := by
  intro i j h
  match i, j, h with
  | none, none, _ => rfl
  | none, some j, h => exact absurd (cellS_inj none (some (true, j)) h) (by intro e; cases e)
  | some i, none, h => exact absurd (cellS_inj (some (true, i)) none h) (by intro e; cases e)
  | some i, some j, h => rw [(Prod.mk.inj (Option.some.inj (cellS_inj (some (true, i)) (some (true, j)) h))).2]

theorem creds (c : Dev nD) :
    (Pipeline.launchCred OB c : sProp 𝕄) ⊢ iprop(cred (tallyAt (barC c) () 4) ∗ bigSep Finset.univ fun h : Hop => (cred (tallyAt (rcvC c h) () (amt h)) : sProp 𝕄)) := by
  unfold Pipeline.launchCred
  refine (bigSep_subset (Finset.subset_univ (Finset.univ.map ⟨waitS, waitS_inj⟩))).trans ?_
  rw [bigSep_map, bigSep_opt]
  refine Laws.sep_mono (Entails.of_eq (congrArg cred (launch_bar c))) (bigSep_mono fun h _ => Entails.of_eq (congrArg cred (launch_rcv c h)))

end Cert.K01

end
-- ==== Proof.Run.lean ====
/-
  The run of the whole launch: every device ends with its block of the result and the counters at zero.
-/
module

public import proofs.«01_k».proof.Proof.Deal
public import proofs.«01_k».proof.Proof.Gen.KernelIdeal.Points
public import Idealize.ShloMosaic.Lib.Pipeline.CollectiveSegs

@[expose] public section

noncomputable section

namespace Cert.K01

open Cert.KernelIdeal Cert.KernelIdeal.Gen

open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section Run

variable (m : (ℓ : Loc nD τ sig) → Buf (Elt F) ℓ) (ρ : Dev nD → PrngReg)

/-- The state at the start: memory `m`, all counters at zero. -/
abbrev s₀ : MemSt nD τ sig (Elt F) := ⟨m, fun _ => 0, ρ⟩

/-- Each device's part of the left operand, -/
def xs (c : Dev nD) : Vec F S4096x256 .bf16 := (win0_0.blk (0 : Fin 1)).view.read (Elt F) (m ((c : Thread nD τ).loc main_arg0))
/-- and of the right one. -/
def ws (c : Dev nD) : Vec F S256x2048 .bf16 := (win0_1.blk (0 : Fin 1)).view.read (Elt F) (m ((c : Thread nD τ).loc main_arg1))

/-- What a device knows and holds before the kernel runs, its buffers apart. -/
def start (c : Dev nD) : sProp 𝕄 :=
  iprop((∃ κ, Recs (xs m) (ws m) κ) ∗ places (F := F) c ∗ payToks (F := F) c ∗ spare (F := F) c
    ∗ cred (tallyAt (barC c) () 4) ∗ bigSep Finset.univ fun h : Hop => (cred (tallyAt (rcvC c h) () (amt h)) : sProp 𝕄))

/-- The counters after the kernel. -/
def zeros (c : Dev nD) : sProp 𝕄 :=
  iprop(bigSep Finset.univ (fun h : Hop => (semVal (sndC c h) 0 : sProp 𝕄)) ∗ bigSep Finset.univ (fun h : Hop => (semVal (rcvC c h) 0 : sProp 𝕄)) ∗ semVal (barC c) 0)

def Φ₀ (c : Dev nD) : sProp 𝕄 := iprop(start m c ∗ Scr (F := F) c)
def Φ₁ (c : Dev nD) : sProp 𝕄 := iprop(zeros (F := F) c ∗ spare (F := F) c ∗ Scr (F := F) c)

def dats (_ : Fin 1) (c : Dev nD) : Pipeline.Dat τ (Elt F) Unit ℕ UU ℕ cfg0 c where
  A w := (s₀ m ρ).mem ((cfg0.win w).arr.view.loc (c : Thread nD τ))
  after w _ := match w with
    | ⟨0, _⟩ => xs m c
    | ⟨1, _⟩ => ws m c
    | ⟨2, _⟩ => OUT (xs m) (ws m) c
  Φ t := match t with
    | ⟨0, _⟩ => Φ₀ m c
    | ⟨_ + 1, _⟩ => Φ₁ c
  q _ := fullShare
  owed t := match t with
    | ⟨0, _⟩ => OB c
    | ⟨_ + 1, _⟩ => 0

/-! ## The body -/

theorem owns_whole (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

/-- A staging buffer with given contents. -/
abbrev stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

theorem stg0_hold (c : Dev nD) (X : S4096x256.Idx → Elt F .bf16) : stg c cc0_stg0_0 X ⊢ hold c a0 fullShare Finset.univ Finset.univ X := by
  unfold hold; rw [View.setOn_univ, View.set_whole]
  iintro ⟨%f, %hf, H⟩
  iexists f; isplitr; · ipureintro; intro i _; rw [hf]; rfl
  iexact H
theorem stg1_hold (c : Dev nD) (X : S256x2048.Idx → Elt F .bf16) : stg c cc0_stg1_0 X ⊢ hold c a1 fullShare Finset.univ Finset.univ X := by
  unfold hold; rw [View.setOn_univ, View.set_whole]
  iintro ⟨%f, %hf, H⟩
  iexists f; isplitr; · ipureintro; intro i _; rw [hf]; rfl
  iexact H
theorem stg2_free (c : Dev nD) (X : S256x2048.Idx → Elt F .f32) : stg c cc0_stg2_0 X ⊢ free (F := F) c a2 Finset.univ := by
  unfold free; rw [View.setOn_univ, View.set_whole]
  iintro ⟨%f, -, H⟩
  iexists f; iexact H
theorem hold_stg0 (c : Dev nD) (X : S4096x256.Idx → Elt F .bf16) : hold c a0 fullShare Finset.univ Finset.univ X ⊢ stg c cc0_stg0_0 X := by
  unfold hold; rw [View.setOn_univ, View.set_whole]
  iintro ⟨%f, %hf, H⟩
  iexists f; isplitr; · ipureintro; exact funext fun i => hf i (Finset.mem_univ i)
  iexact H
theorem hold_stg1 (c : Dev nD) (X : S256x2048.Idx → Elt F .bf16) : hold c a1 fullShare Finset.univ Finset.univ X ⊢ stg c cc0_stg1_0 X := by
  unfold hold; rw [View.setOn_univ, View.set_whole]
  iintro ⟨%f, %hf, H⟩
  iexists f; isplitr; · ipureintro; exact funext fun i => hf i (Finset.mem_univ i)
  iexact H
theorem hold_stg2 (c : Dev nD) (X : S256x2048.Idx → Elt F .f32) : hold c a2 fullShare Finset.univ Finset.univ X ⊢ stg c cc0_stg2_0 X := by
  unfold hold; rw [View.setOn_univ, View.set_whole]
  iintro ⟨%f, %hf, H⟩
  iexists f; isplitr; · ipureintro; exact funext fun i => hf i (Finset.mem_univ i)
  iexact H

/-- The protocol state of a device at the start. -/
theorem start_St (c : Dev nD) : iprop(places (F := F) c ∗ payToks (F := F) c ∗ bigSep Finset.univ fun h : Hop => (cred (tallyAt (rcvC c h) () (amt h)) : sProp 𝕄))
    ⊢ iprop(bigSep Finset.univ (sSt (F := F) c 0 0) ∗ bigSep Finset.univ (rSt (F := F) c 0)
      ∗ (dutyTok ER (barC (up c)) 0 0 ∗ dutyTok ER (barC (dn c)) 0 1 ∗ dutyTok ER (barC (rt c)) 0 2 ∗ dutyTok ER (barC (lf c)) 0 3) ∗ atPos ER (barC c) 0 ∅ 0) := by
  have e : places (F := F) c = iprop(atPos ER (barC c) 0 ∅ 0 ∗ (bigSep Finset.univ fun h : Hop => (atPos ER (sndC c h) 0 ∅ 0 : sProp 𝕄)) ∗ bigSep Finset.univ fun h : Hop => (atPos ER (rcvC c h) 0 ∅ 0 : sProp 𝕄)) := bigSep_cells _
  unfold payToks
  rw [e, bigSep_congr (s := Finset.univ) fun h _ => sSt_tok (F := F) (c := c) (n := 0) (v := 0) (Nat.zero_le (pos h)),
    bigSep_congr (s := Finset.univ) fun h _ => rSt_crd (F := F) (c := c) (r := 0) (Nat.zero_le (rpos h))]
  simp only [bigSep_sep']
  iintro ⟨⟨HB, HS, HR⟩, ⟨HT, TS, TR⟩, HC⟩
  isplitl [TR TS HS]
  · isplitl [TR]; · iexact TR
    isplitl [TS] <;> iassumption
  isplitl [HC HR]
  · isplitl [HC] <;> iassumption
  isplitl [HT] <;> iassumption

def bodyPre (c : Dev nD) : sProp 𝕄 :=
  iprop(Φ₀ m c ∗ (dats m ρ 0 c).owesAt () t0_0.castSucc
    ∗ (∃ d, stg c cc0_stg0_0 ((dats m ρ 0 c).before (0 : Fin 3) t0_0 d)) ∗ (∃ d, stg c cc0_stg1_0 ((dats m ρ 0 c).before (1 : Fin 3) t0_0 d)) ∗ (∃ d, stg c cc0_stg2_0 ((dats m ρ 0 c).before (2 : Fin 3) t0_0 d)))
def bodyPost (c : Dev nD) : sProp 𝕄 :=
  iprop(Φ₁ c ∗ (dats m ρ 0 c).owesAt () t0_0.succ ∗ stg c cc0_stg0_0 (xs m c) ∗ stg c cc0_stg1_0 (ws m c) ∗ stg c cc0_stg2_0 (OUT (xs m) (ws m) c))

theorem body_sound (c : Dev nD) : bodyPre m ρ c ⊢ Run (F := F) c (args (cc0_body (F := F))) (fun _ => bodyPost m ρ c) := by
  unfold bodyPre Φ₀ start
  iintro ⟨⟨⟨⟨%κ, #HR⟩, Hpl, Htk, Hsp, Hcb, Hcr⟩, Hscr⟩, Ho, ⟨%d0, H0⟩, ⟨%d1, H1⟩, ⟨%d2, H2⟩⟩
  unfold Pipeline.Dat.owesAt Pipeline.owesWithin
  icases Ho with ⟨%W, -, HO⟩
  rw [show (dats m ρ 0 c).owed t0_0.castSucc = OB c from rfl]
  rw [show (dats m ρ 0 c).before (0 : Fin 3) t0_0 d0 = xs m c from by unfold Pipeline.Dat.before; rw [if_pos (fetch0_0 t0_0)]; rfl,
    show (dats m ρ 0 c).before (1 : Fin 3) t0_0 d1 = ws m c from by unfold Pipeline.Dat.before; rw [if_pos (fetch0_1 t0_0)]; rfl]
  ihave HS := (start_St (F := F) c) $$ [Hpl Htk Hcr]
  · isplitl [Hpl]; · iexact Hpl
    isplitl [Htk] <;> iassumption
  icases HS with ⟨HS1, HS2, HS3, HS4⟩
  ihave HM := (mem_enter (xs m) (ws m) c) $$ Hscr
  icases HM with ⟨HM1, ⟨HP, Hb, HA, HOw⟩, HM3⟩
  ihave H0 := (stg0_hold c (xs m c)) $$ H0
  ihave H1 := (stg1_hold c (ws m c)) $$ H1
  ihave H2 := (stg2_free c _) $$ H2
  ihave H2 := (OUTY_start (xs m) (ws m) c) $$ H2
  iapply (body_run (x := xs m) (w := ws m) (κ := κ) c (W := W)) $$ HR HO [HS1 HS2 HS3 HS4 Hcb HM1 HP Hb HA HOw HM3 H0 H1 H2]
  · unfold Pre XR
    isplitl [HS1 HS2 HS3 HS4 Hcb]
    · isplitl [HS1]; · iexact HS1
      isplitl [HS2]; · iexact HS2
      isplitl [HS3]; · iexact HS3
      isplitl [Hcb] <;> iassumption
    isplitl [HM1]; · iexact HM1
    isplitl [HP Hb HA HOw H0 H1 H2]
    · isplitl [H0]; · iexact H0
      isplitl [H1]; · iexact H1
      isplitl [H2]; · iexact H2
      isplitl [HP]; · iexact HP
      isplitl [Hb]; · iexact Hb
      isplitl [HA] <;> iassumption
    iexact HM3
  iintro %W' HO HPost
  unfold Post XR
  icases HPost with ⟨Hz, ⟨H0, H1, H2, HP, HW⟩, HL, HB⟩
  ihave Hscr := (mem_exit (xs m) (ws m) c) $$ [HP HW HL HB]
  · isplitl [HP HW]
    · isplitl [HP] <;> iassumption
    isplitl [HL] <;> iassumption
  ihave H0 := (hold_stg0 c (xs m c)) $$ H0
  ihave H1 := (hold_stg1 c (ws m c)) $$ H1
  ihave H2 := (hold_stg2 c _) $$ H2
  unfold bodyPost Φ₁ zeros Pipeline.Dat.owesAt Pipeline.owesWithin
  rw [show (dats m ρ 0 c).owed t0_0.succ = 0 from rfl]
  isplitl [Hz Hsp Hscr]
  · isplitl [Hz]; · iexact Hz
    isplitl [Hsp] <;> iassumption
  isplitl [HO]
  · iexists W'
    isplitr; · ipureintro; exact fun _ _ => Or.inl trivial
    iexact HO
  isplitl [H0]; · iexact H0
  isplitl [H1] <;> iassumption

theorem body_prog : defs₀ (F := F) Proc.tc 0 (t0_0, cfg0.slots t0_0) = args (cc0_body (F := F)) := by
  rfl

set_option maxRecDepth 10000 in
theorem body_obligation (c : Dev nD) : Pipeline.BodyObligation (dats (F := F) m ρ 0 c) (defs₀ (F := F)) 𝒱₀ () Set.univ := fun t => by
  rw [fin_N0 t]
  rw [bigSep_W0, bigSep_W0]
  simp only [owns_whole]
  rw [body_prog]
  have h := body_sound m ρ c
  unfold bodyPre bodyPost Run stg at h
  rw [show (dats m ρ 0 c).Φ t0_0.castSucc = Φ₀ m c from rfl, show (dats m ρ 0 c).Φ t0_0.succ = Φ₁ c from rfl]
  rw [show (dats m ρ 0 c).after 0 t0_0 = xs m c from rfl, show (dats m ρ 0 c).after 1 t0_0 = ws m c from rfl, show (dats m ρ 0 c).after 2 t0_0 = OUT (xs m) (ws m) c from rfl]
  convert h using 2

/-! ## The launch -/

set_option maxRecDepth 20000 in
theorem share_eq (c : Dev nD) (w : Fin cfg0.W) : (dats m ρ 0 c).share w = fullShare := by unfold Pipeline.Dat.share; split <;> rfl

def u₀ : UU := (initOf (Pipeline.cells cfgs cellOf_inj) (Pipeline.launchToks cfgs cellOf_inj), initOf allCells allToks)

theorem start_intro (c : Dev nD) :
    iprop(Pipeline.unscopedRestP Pipeline.Prefetch.none cfg0.spec c (fun b => m ((c : Thread nD τ).loc b)) ∗ levAts L lv
        ∗ Pipeline.launchCred OB c ∗ prngReg c (ρ c) ∗ G' (xs m) (ws m) c)
      ⊢ |={Set.univ}=> iprop(start m c ∗ emp) := by
  iintro ⟨-, #Hlev, Hcr, -, HG⟩
  ihave Hc := (creds (F := F) c) $$ Hcr
  icases Hc with ⟨H1, HN⟩
  imodintro
  unfold start G' records
  icases HG with ⟨⟨%κ, #HI, #HR⟩, H2, H3, H4⟩
  isplitl
  · isplitr
    · iexists κ; unfold Recs
      isplitr; · iexact HI
      isplitr; · iexact HR
      iexact Hlev
    isplitl [H2]; · iexact H2
    isplitl [H3]; · iexact H3
    isplitl [H4]; · iexact H4
    isplitl [H1] <;> iassumption
  · iempintro

theorem phi_enter (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl]
  unfold Φ₀
  iintro ⟨Hs, -, Hr⟩
  isplitl [Hs]; · iexact Hs
  iapply (scr_enter (F := F) c) $$ Hr

theorem phi_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, own_eq, unscoped_eq]
  unfold Φ₁ zeros
  iintro ⟨⟨HS, HR, HB⟩, Hsp, Hscr⟩
  isplitl [HB]; · iexact HB
  isplitl [HS HR Hsp]
  · isplitl [HS HR]
    · isplitl [HS] <;> iassumption
    iexact Hsp
  iapply (scr_exit (F := F) c) $$ Hscr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-- What an array of a device holds at the end. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 20000 in
/-- The program runs, ends with these arrays, and leaves every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ osem_facts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := OB) (howed₀ := fun _ => rfl) (howedN := fun _ => rfl)
    (L := L) (lv := lv) (hL := L_of_ne) (hwaits := waits m ρ)
    (G := G (xs m) (ws m)) (G' := G' (xs m) (ws m)) (u₀ := u₀)
    (hu₀ := by
      unfold u₀
      iintro Hu
      ihave H := (ownU_pair _ _) $$ Hu
      icases H with ⟨HP, HX⟩
      imod (fund_all (xs m) (ws m)) $$ HX with HG
      imodintro
      isplitl [HP] <;> iassumption)
    (hglob := glob (xs m) (ws m))
    (hA := fun _ _ => rfl) (hpf := fun _ k => k.elim0)
    (X := start m) (Y := fun c => unscopedSems0 c) (Z := fun _ => iprop(emp))
    (hX := start_intro m ρ) (hin := phi_enter m ρ) (hout := phi_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The operands end as they were. -/
theorem final_0 (c : Dev nD) : finalA m ρ c (0 : Fin 3) = m ((c : Thread nD τ).loc main_arg0) := (dats (F := F) m ρ 0 c).arrAt_in (0 : Fin 3) rfl _
theorem final_1 (c : Dev nD) : finalA m ρ c (1 : Fin 3) = m ((c : Thread nD τ).loc main_arg1) := (dats (F := F) m ρ 0 c).arrAt_in (1 : Fin 3) rfl _

end Run

end Cert.K01

end
-- ==== Proof.Sums.lean ====
/-
  Over the extended reals each ring's running sum is the sum of the devices' partial products, so the finished rows of a
  device are rows of the whole product.
-/
module

public import proofs.«01_k».proof.Proof.Vals
public import Idealize.ShloMosaic.Lib.ValueIdx
public import Idealize.ShloMosaic.Lib.ValueLayout
public import Idealize.ShloMosaic.Lib.MatmulPlain
public import Idealize.ShloMosaic.Lib.Pipeline.Value
public import Idealize.ShloMosaic.PureOps.Ideal.Laws

@[expose] public section

noncomputable section

namespace Cert.K01

open Cert.KernelIdeal Cert.KernelIdeal.Gen
open Idealize.ShloMosaic Idealize.ShloMosaic.ValueIdx

/-! ## The payloads at an index -/

theorem plain_part : dot_S128x256_S256x2048_S128x2048_1_0_0_1_n_n = DotDims.plain 128 256 2048 := rfl

theorem pay7_val (u : Vec Ideal S128x256 .bf16) (v : Vec Ideal S256x2048 .bf16) (a : Fin 128) (n : Fin 2048) :
    (k0_pay7 u v : FVec Ideal S128x2048 .f32) (ix2 a n) = ∑ k : Fin 256, (u (ix2 a k) : EReal) * v (ix2 k n) := by
  unfold k0_pay7
  rw [shapeCast_self, plain_part]
  refine (Ideal.matmul_plain_apply (M := 128) (K := 256) (N := 2048) none u v _ a n).trans ?_
  rw [show (constant S128x2048 .f32 0x00000000#32 : FVec Ideal S128x2048 .f32) (ix2 a n) = (0 : EReal) from Ideal.ofBits_zero_f32, zero_add]

/-- A slab with two leading unit axes, read at its last two coordinates. -/
theorem slab_val {α : Type} (v : S128x2048.Idx → α) (h : S128x2048.ShapeCasts S1x1x128x2048) (a : Fin 128) (n : Fin 2048) :
    shapeCast S1x1x128x2048 v h (ix4 0 0 a n) = v (ix2 a n) :=
  shapeCast_apply v h _ _ (by
    rw [Shape.rowMajor_val_four, Shape.rowMajor_val_two]
    show a.val * 2048 + n.val = ((0 * 1 + 0) * 128 + a.val) * 2048 + n.val
    omega)
theorem unslab_val {α : Type} (v : S1x1x128x2048.Idx → α) (h : S1x1x128x2048.ShapeCasts S128x2048) (a : Fin 128) (n : Fin 2048) :
    shapeCast S128x2048 v h (ix2 a n) = v (ix4 0 0 a n) :=
  shapeCast_apply v h _ _ (by
    rw [Shape.rowMajor_val_four, Shape.rowMajor_val_two]
    show ((0 * 1 + 0) * 128 + a.val) * 2048 + n.val = a.val * 2048 + n.val
    omega)

theorem pay4_val (u : Vec Ideal S128x256 .bf16) (v : Vec Ideal S256x2048 .bf16) (a : Fin 128) (n : Fin 2048) :
    (k0_pay4 u v : FVec Ideal S1x1x128x2048 .bf16) (ix4 0 0 a n) = (k0_pay7 u v : FVec Ideal S128x2048 .f32) (ix2 a n) := by
  unfold k0_pay4 k0_pay7
  exact (slab_val _ _ a n).trans (truncf_apply _ _ _)

theorem pay12_val (u : FVec Ideal S128x2048 .f32) (v : Vec Ideal S1x1x128x2048 .bf16) (a : Fin 128) (n : Fin 2048) :
    (k0_pay12 u v : FVec Ideal S1x1x128x2048 .bf16) (ix4 0 0 a n) = (u (ix2 a n) : EReal) + v (ix4 0 0 a n) := by
  unfold k0_pay12
  refine (slab_val _ _ a n).trans ?_
  exact congrArg ((u (ix2 a n) : EReal) + ·) (unslab_val v _ a n)

theorem pay30_val (u : FVec Ideal S128x2048 .f32) (v : Vec Ideal S1x1x128x2048 .bf16) (a : Fin 128) (n : Fin 2048) :
    (k0_pay30 u v : FVec Ideal S128x2048 .f32) (ix2 a n) = (u (ix2 a n) : EReal) + v (ix4 0 0 a n) := by
  unfold k0_pay30
  rw [shapeCast_self]
  exact congrArg ((u (ix2 a n) : EReal) + ·) (unslab_val v _ a n)

theorem pay34_val (u : Vec Ideal S128x2048 .f32) (a : Fin 128) (n : Fin 2048) :
    (k0_pay34 u : FVec Ideal S1x128x2048 .bf16) (ix3 0 a n) = (u (ix2 a n) : EReal) := by
  unfold k0_pay34
  exact shapeCast_ab_1ab_apply (a := 128) (b := 2048) _ _ 0 a n

theorem pay44_val (u : Vec Ideal S128x2048 .f32) (v : Vec Ideal S1x128x2048 .bf16) (a : Fin 128) (n : Fin 2048) :
    (k0_pay44 u v : FVec Ideal S1x128x2048 .bf16) (ix3 0 a n) = (u (ix2 a n) : EReal) + v (ix3 0 a n) := by
  unfold k0_pay44
  refine (shapeCast_ab_1ab_apply (a := 128) (b := 2048) _ _ 0 a n).trans ?_
  exact congrArg ((u (ix2 a n) : EReal) + ·) (shapeCast_1ab_ab_apply (a := 128) (b := 2048) v _ a n)

theorem pay64_val (u : Vec Ideal S128x2048 .f32) (v : Vec Ideal S1x128x2048 .bf16) (a : Fin 128) (n : Fin 2048) :
    (k0_pay64 u v : FVec Ideal S128x2048 .f32) (ix2 a n) = (u (ix2 a n) : EReal) + v (ix3 0 a n) := by
  unfold k0_pay64
  exact congrArg ((u (ix2 a n) : EReal) + ·) (shapeCast_1ab_ab_apply (a := 128) (b := 2048) v _ a n)

theorem pay71_val (u : Vec Ideal S64x2048 .f32) (a : Fin 64) (n : Fin 2048) :
    (k0_pay71 u : FVec Ideal S1x64x2048 .bf16) (ix3 0 a n) = (u (ix2 a n) : EReal) := by
  unfold k0_pay71
  exact shapeCast_ab_1ab_apply (a := 64) (b := 2048) _ _ 0 a n

theorem pay74_val (u : Vec Ideal S64x2048 .f32) (v : Vec Ideal S1x64x2048 .bf16) (a : Fin 64) (n : Fin 2048) :
    (k0_pay74 u v : FVec Ideal S1x64x2048 .bf16) (ix3 0 a n) = (u (ix2 a n) : EReal) + v (ix3 0 a n) := by
  unfold k0_pay74
  refine (shapeCast_ab_1ab_apply (a := 64) (b := 2048) _ _ 0 a n).trans ?_
  exact congrArg ((u (ix2 a n) : EReal) + ·) (shapeCast_1ab_ab_apply (a := 64) (b := 2048) v _ a n)

theorem pay78_val (u : Vec Ideal S64x2048 .f32) (v : Vec Ideal S1x64x2048 .bf16) (a : Fin 64) (n : Fin 2048) :
    (k0_pay78 u v : FVec Ideal S64x2048 .f32) (ix2 a n) = (u (ix2 a n) : EReal) + v (ix3 0 a n) := by
  unfold k0_pay78
  exact congrArg ((u (ix2 a n) : EReal) + ·) (shapeCast_1ab_ab_apply (a := 64) (b := 2048) v _ a n)

/-! ## Sums over the mesh -/

/-- The devices of one plane, -/
def plane (c : Dev nD) : Finset (Dev nD) := Finset.univ.filter fun e => e.val / 4 = c.val / 4
/-- and those at one place of every plane. -/
def col (c : Dev nD) : Finset (Dev nD) := Finset.univ.filter fun e => e.val % 4 = c.val % 4

variable (f : Dev nD → EReal)

/-- Once round to the left: the whole plane. -/
theorem round_lf (c : Dev nD) : f c + (f (lf c) + (f (lf (lf c)) + f (lf (lf (lf c))))) = ∑ e ∈ plane c, f e := by
  have e : plane c = {c, lf c, lf (lf c), lf (lf (lf c))} := by revert c; decide
  rw [e, Finset.sum_insert, Finset.sum_insert, Finset.sum_insert, Finset.sum_singleton] <;> (clear e; revert c; decide)
/-- Once round to the right: the whole plane. -/
theorem round_rt (c : Dev nD) : f c + (f (rt c) + (f (rt (rt c)) + f (rt (rt (rt c))))) = ∑ e ∈ plane c, f e := by
  have e : plane c = {c, rt c, rt (rt c), rt (rt (rt c))} := by revert c; decide
  rw [e, Finset.sum_insert, Finset.sum_insert, Finset.sum_insert, Finset.sum_singleton] <;> (clear e; revert c; decide)
/-- Once round downwards: one place of every plane. -/
theorem round_dn (c : Dev nD) : f c + (f (dn c) + (f (dn (dn c)) + f (dn (dn (dn c))))) = ∑ e ∈ col c, f e := by
  have e : col c = {c, dn c, dn (dn c), dn (dn (dn c))} := by revert c; decide
  rw [e, Finset.sum_insert, Finset.sum_insert, Finset.sum_insert, Finset.sum_singleton] <;> (clear e; revert c; decide)
/-- Once round upwards: one place of every plane. -/
theorem round_up (c : Dev nD) : f c + (f (up c) + (f (up (up c)) + f (up (up (up c))))) = ∑ e ∈ col c, f e := by
  have e : col c = {c, up c, up (up c), up (up (up c))} := by revert c; decide
  rw [e, Finset.sum_insert, Finset.sum_insert, Finset.sum_insert, Finset.sum_singleton] <;> (clear e; revert c; decide)

/-- The planes through one place of every plane make up the mesh. -/
theorem sum_planes (c : Dev nD) : ∑ g ∈ col c, ∑ e ∈ plane g, f e = ∑ e, f e := by
  rw [← Finset.sum_biUnion]
  · refine congrArg (fun s => ∑ e ∈ s, f e) (Finset.eq_univ_iff_forall.2 fun e => ?_)
    have he : e.val < 16 := e.isLt
    simp only [plane, col, Finset.mem_biUnion, Finset.mem_filter, Finset.mem_univ, true_and]
    exact ⟨⟨4 * (e.val / 4) + c.val % 4, show _ < 16 by omega⟩, by show (4 * (e.val / 4) + c.val % 4) % 4 = _; omega, by show _ = (4 * (e.val / 4) + c.val % 4) / 4; omega⟩
  · intro g hg g' hg' hne
    refine Finset.disjoint_left.2 fun e h h' => hne (Fin.ext ?_)
    simp only [plane, col, Finset.coe_filter, Set.mem_setOf_eq, Finset.mem_filter, Finset.mem_univ, true_and] at hg hg' h h'
    omega

/-! ## The rings -/

variable (x : Dev nD → Vec Ideal S4096x256 .bf16) (w : Dev nD → Vec Ideal S256x2048 .bf16)

/-- The partial product of device `c` at row `r` (taken modulo the height) and column `n`. -/
def pr (c : Dev nD) (r : ℕ) (n : Fin 2048) : EReal :=
  ∑ k : Fin 256, (x c (ix2 ⟨r % 4096, Nat.mod_lt _ (by decide)⟩ k) : EReal) * w c (ix2 k n)

theorem wb_val (c : Dev nD) : wb w c = w c := by
  unfold wb k0_pay1
  exact (shapeCast_self _ _).trans (shapeCast_self _ _)

theorem pay7_rows (c : Dev nD) (r : ℕ) (a : Fin 128) (n : Fin 2048) :
    (k0_pay7 (xr x c r) (wb w c) : FVec Ideal S128x2048 .f32) (ix2 a n) = pr x w c (r + a.val) n := by
  rw [wb_val]
  exact pay7_val _ _ a n

theorem prt_val (c : Dev nD) (r : ℕ) (a : Fin 128) (n : Fin 2048) :
    prt x w c r (ix2 a n) = pr x w c (r + a.val) n := pay7_rows x w c r a n

/-- Rows depend on the chunk's number modulo four. -/
theorem rw4_congr (b h : ℕ) {k k' : ℕ} (e : k % 4 = k' % 4) : rw4 b k h = rw4 b k' h := by
  unfold rw4
  rw [e]

theorem lf_mod (c : Dev nD) : (lf c).val % 4 = (c.val % 4 + 3) % 4 := by revert c; decide
theorem rt_mod (c : Dev nD) : (rt c).val % 4 = (c.val % 4 + 1) % 4 := by revert c; decide

/-- The sum arriving from the left is the plane's. -/
theorem cwA_val (h : ℕ) (c : Dev nD) (b : ℕ) (a : Fin 128) (n : Fin 2048) :
    cwA x w h c b (ix2 a n) = ∑ e ∈ plane c, pr x w e (rw4 b (c.val % 4) h + a.val) n := by
  have e0 : rw4 b (c.val % 4 + 4) h = rw4 b (c.val % 4) h := rw4_congr b h (by omega)
  have e1 : rw4 b ((lf c).val % 4 + (6 - 1)) h = rw4 b (c.val % 4) h := rw4_congr b h (by rw [lf_mod]; omega)
  have e2 : rw4 b ((lf (lf c)).val % 4 + (6 - 0)) h = rw4 b (c.val % 4) h := rw4_congr b h (by rw [lf_mod, lf_mod]; omega)
  have e3 : rw4 b ((lf (lf (lf c))).val % 4 + 3) h = rw4 b (c.val % 4) h := rw4_congr b h (by rw [lf_mod, lf_mod, lf_mod]; omega)
  rw [← round_lf]
  simp only [cwA, cwU, pay30_val, pay12_val, pay4_val, prt_val, pay7_rows, e0, e1, e2, e3]

/-- The sum arriving from the right is the plane's. -/
theorem ccwA_val (h : ℕ) (c : Dev nD) (b : ℕ) (a : Fin 128) (n : Fin 2048) :
    ccwA x w h c b (ix2 a n) = ∑ e ∈ plane c, pr x w e (rw4 (b + 2) (c.val % 4) h + a.val) n := by
  have e0 : rw4 (b + 2) (c.val % 4 + 4) h = rw4 (b + 2) (c.val % 4) h := rw4_congr _ h (by omega)
  have e1 : rw4 (b + 2) ((rt c).val % 4 + (2 + 1)) h = rw4 (b + 2) (c.val % 4) h := rw4_congr _ h (by rw [rt_mod]; omega)
  have e2 : rw4 (b + 2) ((rt (rt c)).val % 4 + (2 + 0)) h = rw4 (b + 2) (c.val % 4) h := rw4_congr _ h (by rw [rt_mod, rt_mod]; omega)
  have e3 : rw4 (b + 2) ((rt (rt (rt c))).val % 4 + 1) h = rw4 (b + 2) (c.val % 4) h := rw4_congr _ h (by rw [rt_mod, rt_mod, rt_mod]; omega)
  rw [← round_rt]
  simp only [ccwA, ccwU, pay30_val, pay12_val, pay4_val, prt_val, pay7_rows, e0, e1, e2, e3]

/-- The plane's sum at row `t` of block `b`. -/
def pls (c : Dev nD) (b t : ℕ) (n : Fin 2048) : EReal := ∑ e ∈ plane c, pr x w e (256 * (4 * b + c.val % 4) + t) n

theorem psA_val (c : Dev nD) (b h : ℕ) (a : Fin 128) (n : Fin 2048) :
    psA x w c b h (ix2 a n) = pls x w c b (128 * h + a.val) n := by
  unfold psA pls
  have e : ∀ b, rw4 b (c.val % 4) h + a.val = 256 * (4 * b + c.val % 4) + (128 * h + a.val) := fun b => by unfold rw4; omega
  split
  · rw [cwA_val, e]
  · rw [ccwA_val, e, show b - 2 + 2 = b by omega]

theorem PS_val (c : Dev nD) {k r b t : ℕ} (hr : r = 256 * b + t) (hb : b < 4) (hk : t + k ≤ 256) (a : Fin k) (n : Fin 2048) :
    rows k (PS x w c) r (ix2 a n) = pls x w c b (t + a.val) n := by
  have ha := a.isLt
  show psA x w c ((r + a.val) % 1024 / 256) ((r + a.val) % 1024 % 256 / 128) (ix2 ⟨(r + a.val) % 1024 % 128, Nat.mod_lt _ (by decide)⟩ n) = _
  have e1 : (r + a.val) % 1024 / 256 = b := by omega
  rw [psA_val, e1]
  refine congrArg (fun s => pls x w c b s n) ?_
  show 128 * ((r + a.val) % 1024 % 256 / 128) + (r + a.val) % 1024 % 128 = _
  omega

/-- The sums of all devices at row `t` of chunk `c`. -/
def tot (c : Dev nD) (t : ℕ) (n : Fin 2048) : EReal := ∑ e, pr x w e (256 * c.val + t) n

/-- The plane sums of all planes, at the place of `c` and for its block, are the sums over the mesh. -/
theorem tot_col (c : Dev nD) (t : ℕ) (n : Fin 2048) : ∑ g ∈ col c, pls x w g (c.val / 4) t n = tot x w c t n := by
  unfold tot
  rw [← sum_planes _ c]
  refine Finset.sum_congr rfl fun g hg => Finset.sum_congr rfl fun e _ => ?_
  have hg : g.val % 4 = c.val % 4 := (Finset.mem_filter.1 hg).2
  rw [hg, show 4 * (c.val / 4) + c.val % 4 = c.val by omega]

theorem own_block (c : Dev nD) : (c.val / 4 + 4) % 4 = c.val / 4 := by revert c; decide
theorem dn_one (c : Dev nD) : ((dn c).val / 4 + (6 - 1)) % 4 = c.val / 4 := by revert c; decide
theorem dn_two (c : Dev nD) : ((dn (dn c)).val / 4 + (6 - 0)) % 4 = c.val / 4 := by revert c; decide
theorem dn_three (c : Dev nD) : ((dn (dn (dn c))).val / 4 + 3) % 4 = c.val / 4 := by revert c; decide
theorem up_one (c : Dev nD) : ((up c).val / 4 + (2 + 1)) % 4 = c.val / 4 := by revert c; decide
theorem up_two (c : Dev nD) : ((up (up c)).val / 4 + (2 + 0)) % 4 = c.val / 4 := by revert c; decide
theorem up_three (c : Dev nD) : ((up (up (up c))).val / 4 + 1) % 4 = c.val / 4 := by revert c; decide

/-- The first half's ring ends with the sums over the mesh. -/
theorem ztA_val (c : Dev nD) (a : Fin 128) (n : Fin 2048) : ztA x w c (ix2 a n) = tot x w c a.val n := by
  have p (e : Dev nD) : rows 128 (PS x w e) (256 * (c.val / 4)) (ix2 a n) = pls x w e (c.val / 4) a.val n :=
    (PS_val x w e (t := 0) rfl (by have : c.val < 16 := c.isLt; omega) (by decide) a n).trans (by rw [Nat.zero_add])
  rw [← tot_col, ← round_dn]
  simp only [ztA, ztU, pay64_val, pay44_val, pay34_val, p, own_block, dn_one, dn_two, dn_three]

/-- The third quarter's ring does, -/
theorem zuA_val (c : Dev nD) (a : Fin 64) (n : Fin 2048) : zuA x w c (ix2 a n) = tot x w c (128 + a.val) n := by
  have p (e : Dev nD) : rows 64 (PS x w e) (256 * (c.val / 4) + 128) (ix2 a n) = pls x w e (c.val / 4) (128 + a.val) n :=
    PS_val x w e rfl (by have : c.val < 16 := c.isLt; omega) (by decide) a n
  rw [← tot_col, ← round_dn]
  simp only [zuA, zuU, pay78_val, pay74_val, pay71_val, p, own_block, dn_one, dn_two, dn_three]

/-- and so does the last quarter's. -/
theorem zdA_val (c : Dev nD) (a : Fin 64) (n : Fin 2048) : zdA x w c (ix2 a n) = tot x w c (192 + a.val) n := by
  have p (e : Dev nD) : rows 64 (PS x w e) (256 * (c.val / 4) + 192) (ix2 a n) = pls x w e (c.val / 4) (192 + a.val) n :=
    PS_val x w e rfl (by have : c.val < 16 := c.isLt; omega) (by decide) a n
  rw [← tot_col, ← round_up]
  simp only [zdA, zdU, pay78_val, pay74_val, pay71_val, p, own_block, up_one, up_two, up_three]

/-- The finished rows of device `c` are the sums over the mesh. -/
theorem Y_val (c : Dev nD) (a : Fin 256) (n : Fin 2048) : Y x w c (ix2 a n) = tot x w c a.val n := by
  have ha := a.isLt
  show (if a.val < 128 then ztA x w c (ix2 ⟨a.val % 128, Nat.mod_lt _ (by decide)⟩ n)
    else if a.val < 192 then zuA x w c (ix2 ⟨a.val % 64, Nat.mod_lt _ (by decide)⟩ n)
    else zdA x w c (ix2 ⟨a.val % 64, Nat.mod_lt _ (by decide)⟩ n)) = _
  split
  · rw [ztA_val]
    exact congrArg (tot x w c · n) (show a.val % 128 = a.val by omega)
  · split
    · rw [zuA_val]
      exact congrArg (tot x w c · n) (show 128 + a.val % 64 = a.val by omega)
    · rw [zdA_val]
      exact congrArg (tot x w c · n) (show 192 + a.val % 64 = a.val by omega)

/-! ## Against the whole product -/

/-- Sums over sixteen blocks of 256 are sums over 4096. -/
theorem sum_blocks (g : Fin 4096 → EReal) :
    ∑ e : Dev nD, ∑ k : Fin 256, g ⟨256 * e.val + k.val, by have : e.val < 16 := e.isLt; omega⟩ = ∑ k, g k := by
  rw [← Fintype.sum_prod_type' (f := fun (e : Fin 16) (k : Fin 256) => g ⟨256 * e.val + k.val, by omega⟩)]
  refine Fintype.sum_equiv (finProdFinEquiv (m := 16) (n := 256)) _ _ fun q => congrArg g (Fin.ext ?_)
  show 256 * q.1.val + q.2.val = q.2.val + 256 * q.1.val
  omega

/-- Where the devices hold the blocks of `X` and `W`, the sums over the mesh are the whole product's rows. -/
theorem tot_whole (X : (⟨2, ![4096, 4096]⟩ : Shape).Idx → EReal) (W : (⟨2, ![4096, 2048]⟩ : Shape).Idx → EReal)
    (hx : ∀ (e : Dev nD) (r : Fin 4096) (k : Fin 256), x e (ix2 r k) = X (ix2 r ⟨256 * e.val + k.val, by have : e.val < 16 := e.isLt; omega⟩))
    (hw : ∀ (e : Dev nD) (k : Fin 256) (n : Fin 2048), w e (ix2 k n) = W (ix2 ⟨256 * e.val + k.val, by have : e.val < 16 := e.isLt; omega⟩ n))
    (c : Dev nD) (a : Fin 256) (n : Fin 2048) :
    tot x w c a.val n = ∑ k : Fin 4096, X (ix2 ⟨256 * c.val + a.val, by have : c.val < 16 := c.isLt; omega⟩ k) * W (ix2 k n) := by
  have hc : c.val < 16 := c.isLt
  rw [← sum_blocks]
  refine Finset.sum_congr rfl fun e _ => Finset.sum_congr rfl fun k _ => ?_
  rw [hx, hw]
  refine congrArg (fun r => X (ix2 r _) * _) (Fin.ext ?_)
  show (256 * c.val + a.val) % 4096 = 256 * c.val + a.val
  omega

end Cert.K01

end
-- ==== Proof.Quant.lean ====
/-
  The greatest magnitude of all and the quantiser: over the extended reals a device's result is its block of the
  quantised whole product.
-/
module

public import proofs.«01_k».proof.Proof.Sums
public import proofs.«01_k».proof.Proof.Gen.ReferenceIdeal.Value
public import Idealize.ShloMosaic.PureOps.Reduce
public import Idealize.ShloMosaic.Lib.Layout

@[expose] public section

noncomputable section

namespace Cert.K01

open Cert.KernelIdeal Cert.KernelIdeal.Gen
open Idealize.ShloMosaic Idealize.ShloMosaic.ValueIdx

/-! ## Greatest values -/

/-- A maximum over all axes is the supremum of the values. -/
theorem total_max {s t : Shape} {axes : List (Fin s.rank)} (src : FVec Ideal s .f32) (h : s.Reduces axes t) (ht : ∀ b, t.size b = 1)
    (hφ : FKind.Formats .f32) (hacc : (0xFF800000#32 : BitVec 32) = FKind.maximumf.neutral .f32 hφ) (j : t.Idx) :
    multiReduction .maximumf axes t src 0xFF800000#32 h hφ hacc j = ⨆ i, (src i : EReal) := by
  rw [multiReduction_maximumf_eq_fold, Finset.filter_true_of_mem fun i _ => funext fun b => Fin.ext (by
    have := (h.drop i b).isLt; have := (j b).isLt; have := ht b; omega)]
  have e : (FloatOps.ofBits .f32 0xFF800000#32 : Ideal .f32) = (⊥ : EReal) := by simp [Ideal.ofBits, Ideal.ieee]
  rw [e]
  exact Finset.sup_univ_eq_iSup _

/-- A change of shape keeps the supremum. -/
theorem iSup_shapeCast {s t : Shape} (v : s.Idx → EReal) (h : s.ShapeCasts t) : ⨆ i, shapeCast t v h i = ⨆ i, v i :=
  Equiv.iSup_comp (g := v) (Shape.reshapeEquiv h)

/-- A value's magnitude, as the programs take it. -/
abbrev mag (y : Ideal .f32) : EReal := FloatOps.absf y

theorem one_S1 : ∀ b, S1.size b = 1 := by decide

theorem pay73_val (u : Vec Ideal S128x2048 .f32) : (k0_pay73 u : Ideal .f32) = ⨆ i, mag (u i) := by
  unfold k0_pay73
  refine (total_max _ _ one_S1 (.inl rfl) rfl _).trans ((iSup_shapeCast _ _).trans ?_)
  rw [shapeCast_self]
  rfl

theorem pay80_val (g : Ideal .f32) (u : Vec Ideal S128x2048 .f32) (i : S1x128.Idx) :
    (k0_pay80 g u i : Ideal .f32) = max (g : EReal) (⨆ i, mag (u i)) := by
  unfold k0_pay80
  refine congrArg (max (g : EReal)) ((total_max _ _ one_S1 (.inl rfl) rfl _).trans ((iSup_shapeCast _ _).trans ?_))
  rw [shapeCast_self]
  rfl

theorem pay81_val (A : Vec Ideal S16x128 .f32) : (k0_pay81 A : Ideal .f32) = ⨆ i, (A i : EReal) := by
  unfold k0_pay81
  exact (total_max _ _ one_S1 (.inl rfl) rfl _).trans (iSup_shapeCast _ _)

/-! ## The quantiser at an element -/

/-- What a value `y` becomes where `g` is the greatest magnitude. -/
def qd (g y : Ideal .f32) : Ideal .f32 :=
  Scalar.mulf (Scalar.minimumf (Scalar.ofBits .f32 0x43E00000#32) (Scalar.maximumf (Scalar.ofBits .f32 0xC3E00000#32)
    (Scalar.divf y (Scalar.divf g (Scalar.ofBits .f32 0x43E00000#32))))) (Scalar.divf g (Scalar.ofBits .f32 0x43E00000#32))

theorem pay82_val (g : Ideal .f32) (u : Vec Ideal S256x2048 .f32) (i : S256x2048.Idx) :
    k0_pay82 g (Scalar.ofBits .f32 0x43E00000#32) u i = qd g (u i) := by
  unfold k0_pay82
  rw [shapeCast_self]
  rfl

/-! ## The whole product -/

abbrev TX : Shape := ⟨2, ![4096, 4096]⟩
abbrev TW : Shape := ⟨2, ![4096, 2048]⟩

/-- The whole product. -/
def Z (X : TX.Idx → EReal) (W : TW.Idx → EReal) : TW.Idx → EReal :=
  fun i => ∑ k : Fin 4096, X (ix2 (n0 := 4096) (n1 := 4096) (i 0) k) * W (ix2 (n0 := 4096) (n1 := 2048) k (i 1))

theorem plain_whole : Cert.ReferenceIdeal.dot_S4096x4096_S4096x2048_S4096x2048_1_0_0_1_n_n = DotDims.plain 4096 4096 2048 := rfl

/-- The reference's result: the quantised whole product. -/
theorem ref_val (X : Vec Ideal TX .bf16) (W : Vec Ideal TW .bf16) (i : TW.Idx) :
    Cert.ReferenceIdeal.Value.G2 X W i = qd (⨆ i, mag (Z X W i)) (Z X W i) := by
  have e : (matmul (φ₁ := .bf16) (φ₂ := .bf16) Cert.ReferenceIdeal.dot_S4096x4096_S4096x2048_S4096x2048_1_0_0_1_n_n none X W (constant TW .f32 0x00000000#32) : FVec Ideal TW .f32) = Z X W := by
    funext j
    rw [plain_whole, eq_ix2 j]
    refine (Ideal.matmul_plain_apply (M := 4096) (K := 4096) (N := 2048) none X W _ (j 0) (j 1)).trans ?_
    refine (congrArg (· + _) (Ideal.ofBits_zero_f32)).trans (zero_add _)
  unfold Cert.ReferenceIdeal.Value.G2 Cert.ReferenceIdeal.Gen.k0_pay1
  rw [e]
  have eg : extractAt ![0, 0, 0] (shapeCast S1x1x1 (multiReduction .maximumf [1, 2] S1 (shapeCast (⟨3, ![1, 4096, 2048]⟩ : Shape) (absf (F := Ideal) (φ := .f32) (Z X W)) Cert.ReferenceIdeal.Facts₀.shapeCasts_S4096x2048_S1x4096x2048) 0xFF800000#32 Cert.ReferenceIdeal.Facts₀.reduces_S1x4096x2048_S1 (.inl rfl) rfl) Cert.ReferenceIdeal.Facts₀.shapeCasts_S1_S1x1x1) Cert.ReferenceIdeal.Facts₀.inpos_S1x1x1_p0_0_0
      = (⨆ i, mag (Z X W i) : EReal) :=
    (total_max _ _ one_S1 (.inl rfl) rfl _).trans (iSup_shapeCast _ _)
  exact congrArg (fun g => qd g (Z X W i)) eg

end Cert.K01

end
-- ==== Proof.Whole.lean ====
/-
  A device's result is its block of the reference's: the sums over the mesh are the whole product's rows, and the
  exchanged maxima give the greatest magnitude of all of it.
-/
module

public import proofs.«01_k».proof.Proof.Quant
public import proofs.«01_k».proof.Proof.Run

@[expose] public section

noncomputable section

namespace Cert.K01

open Cert.KernelIdeal Cert.KernelIdeal.Gen
open Idealize.ShloMosaic Idealize.ShloMosaic.ValueIdx Idealize.ShloMosaic.TcCoe
open Idealize.ShloMosaic.Pipeline (Dat)

/-! ## The greatest magnitude -/

section Greatest

variable {x : Dev nD → Vec Ideal S4096x256 .bf16} {w : Dev nD → Vec Ideal S256x2048 .bf16}

/-- Row `a` of device `c`'s block, as a row of the whole. -/
def wholeRow (c : Dev nD) (a : Fin 256) : Fin 4096 := ⟨256 * c.val + a.val, by have : c.val < 16 := c.isLt; omega⟩

/-- Each row of the whole is some device's. -/
theorem wholeRow_onto (R : Fin 4096) : wholeRow (⟨R.val / 256, by have := R.isLt; show R.val / 256 < 16; omega⟩ : Dev nD) ⟨R.val % 256, by omega⟩ = R :=
  Fin.ext (show 256 * (R.val / 256) + R.val % 256 = R.val by omega)

/-- Each device is some number of places on. -/
theorem fwd_onto (c d : Dev nD) : fwd ((d.val + 16 - c.val) % 16) c = d := by revert c d; decide

/-- A device's local maximum: over its two halves, so over its finished rows. -/
theorem AV_val (d : Dev nD) (i : S1x128.Idx) : (AV x w d i : Ideal .f32) = ⨆ j, mag (Y x w d j) := by
  refine (pay80_val _ _ i).trans ?_
  rw [pay73_val]
  apply le_antisymm
  · exact max_le (iSup_le fun j => le_iSup (fun j => mag (Y x w d j)) _) (iSup_le fun j => le_iSup (fun j => mag (Y x w d j)) _)
  · refine iSup_le fun j => ?_
    have hj : (j 0).val < 256 := (j 0).isLt
    by_cases h : (j 0).val < 128
    · refine le_trans (le_of_eq ?_) (le_trans (le_iSup (fun i => mag (rows 128 (Y x w d) 0 i)) (ix2 ⟨(j 0).val, h⟩ (j 1))) (le_max_left _ _))
      refine congrArg (fun j => mag (Y x w d j)) ((eq_ix2 j).trans (congrArg (ix2 · (j 1)) (Fin.ext ?_)))
      show (j 0).val = (0 + (j 0).val) % 256
      omega
    · refine le_trans (le_of_eq ?_) (le_trans (le_iSup (fun i => mag (rows 128 (Y x w d) 128 i)) (ix2 ⟨(j 0).val - 128, by omega⟩ (j 1))) (le_max_right _ _))
      refine congrArg (fun j => mag (Y x w d j)) ((eq_ix2 j).trans (congrArg (ix2 · (j 1)) (Fin.ext ?_)))
      show (j 0).val = (128 + ((j 0).val - 128)) % 256
      omega

variable {X : TX.Idx → EReal} {W : TW.Idx → EReal}

/-- The devices' finished rows are the rows of a whole array, so the exchanged maximum is that array's. -/
theorem greatest (hY : ∀ d (a : Fin 256) (n : Fin 2048), Y x w d (ix2 a n) = Z X W (ix2 (wholeRow d a) n)) (c : Dev nD) :
    (k0_pay81 (AM x w c) : Ideal .f32) = ⨆ j, mag (Z X W j) := by
  refine (pay81_val _).trans (le_antisymm (iSup_le fun i => ?_) (iSup_le fun j => ?_))
  · refine le_trans (le_of_eq (AV_val _ _)) (iSup_le fun j => ?_)
    refine le_trans (le_of_eq ?_) (le_iSup (fun j => mag (Z X W j)) (ix2 (wholeRow (fwd (i 0).val c) (j 0)) (j 1)))
    exact congrArg mag ((congrArg _ (eq_ix2 j)).trans (hY _ _ _))
  · let d : Dev nD := ⟨(j 0).val / 256, by have : (j 0).val < 4096 := (j 0).isLt; show (j 0).val / 256 < 16; omega⟩
    let a : Fin 256 := ⟨(j 0).val % 256, by omega⟩
    have e : mag (Z X W j) = mag (Y x w d (ix2 a (j 1))) :=
      congrArg mag (((congrArg _ (eq_ix2 j)).trans (congrArg (fun r => Z X W (ix2 r (j 1))) (wholeRow_onto (j 0)).symm)).trans (hY d a (j 1)).symm)
    refine le_trans (le_of_eq e) (le_trans (le_iSup (fun j => mag (Y x w d j)) _) ?_)
    let k : Fin 16 := ⟨(d.val + 16 - c.val) % 16, by omega⟩
    refine le_trans (le_of_eq ?_) (le_iSup (fun i => (AM x w c i : EReal)) (ix2 k (0 : Fin 128)))
    show _ = AV x w (fwd ((d.val + 16 - c.val) % 16) c) (ix2 0 (0 : Fin 128))
    rw [fwd_onto, AV_val]

/-- A device's result where its finished rows are the whole product's. -/
theorem OUT_rows (hY : ∀ d (a : Fin 256) (n : Fin 2048), Y x w d (ix2 a n) = Z X W (ix2 (wholeRow d a) n)) (c : Dev nD) (a : Fin 256) (n : Fin 2048) :
    OUT x w c (ix2 a n) = qd (⨆ j, mag (Z X W j)) (Z X W (ix2 (wholeRow c a) n)) := by
  refine (pay82_val _ _ _).trans ?_
  rw [greatest hY c, hY]

end Greatest

/-! ## The blocks -/

/-- A device's result is its block of the reference's, where its operands are its blocks of the whole ones. -/
theorem OUT_block (x : Dev nD → Vec Ideal S4096x256 .bf16) (w : Dev nD → Vec Ideal S256x2048 .bf16) (X : Vec Ideal TX .bf16) (W : Vec Ideal TW .bf16)
    (tx : Layout.Tiles S4096x256 TX 1 16) (tw : Layout.Tiles S256x2048 TW 0 16)
    (hx : ∀ e, x e = Layout.block S4096x256 TX 1 16 e X tx) (hw : ∀ e, w e = Layout.block S256x2048 TW 0 16 e W tw) (c : Dev nD) :
    OUT x w c = Layout.block S256x2048 TW 0 16 c (Cert.ReferenceIdeal.Value.G2 X W) tw := by
  have hY (d : Dev nD) (a : Fin 256) (n : Fin 2048) : Y x w d (ix2 a n) = Z X W (ix2 (wholeRow d a) n) := by
    refine (Y_val x w d a n).trans (tot_whole x w X W (fun e r k => ?_) (fun e k n => ?_) d a n)
    · rw [hx e]
      refine congrArg X (funext fun b => Fin.ext ?_)
      match b with
      | ⟨0, _⟩ => rfl
      | ⟨1, _⟩ => exact congrArg (· + k.val) (Nat.mul_comm e.val 256)
    · rw [hw e]
      refine congrArg W (funext fun b => Fin.ext ?_)
      match b with
      | ⟨0, _⟩ => exact congrArg (· + k.val) (Nat.mul_comm e.val 256)
      | ⟨1, _⟩ => rfl
  funext i
  refine ((congrArg _ (eq_ix2 i)).trans (OUT_rows hY c (i 0) (i 1))).trans ?_
  refine Eq.trans ?_ (ref_val X W (tw.idx c i)).symm
  refine congrArg (fun j => qd _ (Z X W j)) (funext fun b => Fin.ext ?_)
  match b with
  | ⟨0, _⟩ => exact congrArg (· + (i 0).val) (Nat.mul_comm 256 c.val)
  | ⟨1, _⟩ => rfl

/-! ## The arrays of the run -/

section Arrays

variable {F : FTy → Type} [FloatOps F]
variable (m : (ℓ : Loc nD τ sig) → Buf (Elt F) ℓ) (ρ : Dev nD → PrngReg)

theorem at_zero0 : ∀ t : Fin cfg0.N, win0_0.index t (0 : Fin 2) = 0 ∧ win0_0.index t (1 : Fin 2) = 0 :=
  (by decide +kernel : ∀ t : Fin grid0.N, _)
theorem at_zero1 : ∀ t : Fin cfg0.N, win0_1.index t (0 : Fin 2) = 0 ∧ win0_1.index t (1 : Fin 2) = 0 :=
  (by decide +kernel : ∀ t : Fin grid0.N, _)
theorem at_zero2 : ∀ t : Fin cfg0.N, win0_2.index t (0 : Fin 2) = 0 ∧ win0_2.index t (1 : Fin 2) = 0 :=
  (by decide +kernel : ∀ t : Fin grid0.N, _)

theorem place0 (t : Fin cfg0.N) (j : S4096x256.Idx) : (win0_0.blk t).view.emb j = j := by
  obtain ⟨e0, e1⟩ := at_zero0 t
  funext a; apply Fin.ext
  match a with
  | ⟨0, _⟩ => show win0_0.index t (0 : Fin 2) * 4096 + 1 * (j 0).val = (j 0).val; omega
  | ⟨1, _⟩ => show win0_0.index t (1 : Fin 2) * 256 + 1 * (j 1).val = (j 1).val; omega

theorem place1 (t : Fin cfg0.N) (j : S256x2048.Idx) : (win0_1.blk t).view.emb j = j := by
  obtain ⟨e0, e1⟩ := at_zero1 t
  funext a; apply Fin.ext
  match a with
  | ⟨0, _⟩ => show win0_1.index t (0 : Fin 2) * 256 + 1 * (j 0).val = (j 0).val; omega
  | ⟨1, _⟩ => show win0_1.index t (1 : Fin 2) * 2048 + 1 * (j 1).val = (j 1).val; omega

theorem place2 (t : Fin cfg0.N) (j : S256x2048.Idx) : ((cfg0.win 2).blk t).view.emb j = j := by
  obtain ⟨e0, e1⟩ := at_zero2 t
  funext a; apply Fin.ext
  match a with
  | ⟨0, _⟩ => show win0_2.index t (0 : Fin 2) * 256 + 1 * (j 0).val = (j 0).val; omega
  | ⟨1, _⟩ => show win0_2.index t (1 : Fin 2) * 2048 + 1 * (j 1).val = (j 1).val; omega

/-- The staged left operand is the device's array, -/
theorem xs_eq (c : Dev nD) : xs m c = m ((c : Thread nD τ).loc main_arg0) := by
  funext j
  exact congrArg (m ((c : Thread nD τ).loc main_arg0)) (place0 (0 : Fin 1) j)

/-- and so is the right one. -/
theorem ws_eq (c : Dev nD) : ws m c = m ((c : Thread nD τ).loc main_arg1) := by
  funext j
  exact congrArg (m ((c : Thread nD τ).loc main_arg1)) (place1 (0 : Fin 1) j)

/-- The array written back is the device's result. -/
theorem final_2 (c : Dev nD) : finalA m ρ c (2 : Fin 3) = OUT (xs m) (ws m) c := by
  refine (dats (F := F) m ρ 0 c).arrAt_eq_of_cover (2 : Fin 3) (OUT (xs m) (ws m) c) (fun t _ => ?_) (fun i => ?_)
  · show (cfg0.win 2).cut (grid0.coords t) (OUT (xs m) (ws m) c) = _
    funext j
    show OUT (xs m) (ws m) c j = OUT (xs m) (ws m) c (((cfg0.win 2).blk t).view.emb j)
    rw [place2]
  · exact ⟨(⟨0, by decide⟩ : Fin cfg0.N), flush0_2 _, by have h := ((cfg0.win 2).blk (⟨0, by decide⟩ : Fin cfg0.N)).view.emb_mem_set i; rwa [place2] at h⟩

end Arrays

end Cert.K01

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Run
public import proofs.«01_k».proof.Proof.Whole
public import Idealize.ShloMosaic.Adequacy
public import Idealize.ShloMosaic.Init

@[expose] public section

noncomputable section

namespace Cert.Proof

open Idealize.ShloMosaic Idealize.SL.Sem Cert.Kernel

/-- The run of the kernel leaves its operands as they were and every counter at zero, whatever the float values are. -/
theorem frame_run {F : FTy → Type} [FloatOps F] (m : (ℓ : Loc Cert.KernelIdeal.nD Cert.KernelIdeal.τ Cert.KernelIdeal.sig) → Buf (Elt F) ℓ) (g : Dev Cert.KernelIdeal.nD → PrngReg) :
    θ_run (Cert.KernelIdeal.defs (F := F)) (onTc (τ := Cert.KernelIdeal.τ) (Cert.KernelIdeal.main (F := F))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0) :=
  (θ_run Cert.KernelIdeal.defs _ _).mono (fun _ h => ⟨fun c => ⟨(h.1 c (0 : Fin 3)).trans (Cert.K01.final_0 m g c), (h.1 c (1 : Fin 3)).trans (Cert.K01.final_1 m g c)⟩, h.2⟩) (Cert.K01.run_main m g)

/-- The two programs have the same text: their tables of bodies are equal. -/
theorem bodies_alike {F : FTy → Type} [FloatOps F] : Cert.Kernel.defs₀ (F := F) = Cert.KernelIdeal.defs₀ (F := F) := by
  unfold Cert.Kernel.defs₀ Cert.KernelIdeal.defs₀
  refine congrArg Defs.onTc ?_
  funext l a
  match l, a with
  | 0, (t, s) => exact rfl

theorem defs_alike {F : FTy → Type} [FloatOps F] : Cert.Kernel.defs (F := F) = Cert.KernelIdeal.defs (F := F) :=
  congrArg (Pipeline.defs (Cert.KernelIdeal.pcfgs (F := F))) bodies_alike

theorem frame_kernel : Cert.quiescent_Kernel := by
  intro m g _
  rw [defs_alike]
  exact frame_run (F := Bits) m g

theorem frame_ideal : Cert.quiescent_KernelIdeal := fun m g _ => frame_run (F := Ideal) m g

theorem frame_reference : Cert.quiescent_ReferenceIdeal := fun m g _ => Cert.ReferenceIdeal.Gen.frame m g

/-- From blocks of the operands the kernel ends with the blocks of the reference's result. -/
theorem same_value : Cert.algebraic_KernelIdeal_ReferenceIdeal := by
  intro m g m' g' _ ha
  refine ⟨Cert.ReferenceIdeal.Value.G2 (F := Ideal) (m' (((0 : Dev Cert.ReferenceIdeal.nD).tc : Thread Cert.ReferenceIdeal.nD Cert.ReferenceIdeal.τ).loc Cert.ReferenceIdeal.main_arg0)) (m' (((0 : Dev Cert.ReferenceIdeal.nD).tc : Thread Cert.ReferenceIdeal.nD Cert.ReferenceIdeal.τ).loc Cert.ReferenceIdeal.main_arg1)), ?_, ?_⟩
  · refine (θ_run Cert.KernelIdeal.defs _ _).mono (fun _ h c => ⟨?_, (h.1 c (0 : Fin 3)).trans (Cert.K01.final_0 m g c), (h.1 c (1 : Fin 3)).trans (Cert.K01.final_1 m g c)⟩) (Cert.K01.run_main (F := Ideal) m g)
    exact (h.1 c (2 : Fin 3)).trans ((Cert.K01.final_2 m g c).trans (Cert.K01.OUT_block _ _ _ _ _ _
      (fun e => (Cert.K01.xs_eq m e).trans (ha e).1) (fun e => (Cert.K01.ws_eq m e).trans (ha e).2) c))
  · exact (θ_run Cert.ReferenceIdeal.defs _ _).mono (fun _ h => h 0) (Cert.ReferenceIdeal.Value.run (F := Ideal) m' g')

theorem claim : Cert.Claim :=
  ⟨Cert.Kernel.Gen.facts, Cert.KernelIdeal.Gen.facts, Cert.ReferenceIdeal.Gen.facts, frame_kernel, frame_ideal, frame_reference, trivial, same_value⟩

end Cert.Proof

end
